-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_plan_in_range : Cert.Pre_plan_in_range.Facts] (m : (ℓ : Loc Cert.Kernel2.nD Cert.Kernel2.τ Cert.Kernel2.sig) → Buf (Elt Bits) ℓ) : Prop :=
  ∀ c : Dev Cert.Kernel2.nD,
    (Cert.Pre_plan_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_plan_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_plan_in_range : Cert.Pre_plan_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_plan_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_plan_in_range [hPre_plan_in_range : Cert.Pre_plan_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_plan_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real_queries_and_keys [hPre_real_queries_and_keys : Cert.Pre_real_queries_and_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real_queries_and_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_real_queries_and_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_real_queries_and_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real_queries_and_keys [hPre_real_queries_and_keys : Cert.Pre_real_queries_and_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real_queries_and_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_real_queries_and_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_real_queries_and_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_real_modulation [hPre_real_modulation : Cert.Pre_real_modulation.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_real_modulation.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_real_modulation.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_real_modulation [hPre_real_modulation : Cert.Pre_real_modulation.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_real_modulation.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_real_modulation.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_plan_in_range : Cert.Pre_plan_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_plan_in_range : Cert.Pre_plan_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_plan_in_range [hReference2Ideal : Cert.Reference2Ideal.Facts] [hPre_plan_in_range : Cert.Pre_plan_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_plan_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_real_queries_and_keys [hKernel3Ideal : Cert.Kernel3Ideal.Facts] [hPre_real_queries_and_keys : Cert.Pre_real_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real_queries_and_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_real_queries_and_keys [hReference3Ideal : Cert.Reference3Ideal.Facts] [hPre_real_queries_and_keys : Cert.Pre_real_queries_and_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real_queries_and_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_real_modulation [hKernel5Ideal : Cert.Kernel5Ideal.Facts] [hPre_real_modulation : Cert.Pre_real_modulation.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_real_modulation m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_real_modulation [hReference5Ideal : Cert.Reference5Ideal.Facts] [hPre_real_modulation : Cert.Pre_real_modulation.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_real_modulation m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_rows_in_use [hKernel2Ideal : Cert.Kernel2Ideal.Facts] [hReference2Ideal : Cert.Reference2Ideal.Facts] [hPre_plan_in_range : Cert.Pre_plan_in_range.Facts] [hOn_rows_in_use : Cert.On_rows_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![40704, 1024]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![40704, 1024]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v10) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_real_queries_and_keys [hKernel3Ideal : Cert.Kernel3Ideal.Facts] [hReference3Ideal : Cert.Reference3Ideal.Facts] [hPre_real_queries_and_keys : Cert.Pre_real_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real_queries_and_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal_pre_real_modulation [hKernel5Ideal : Cert.Kernel5Ideal.Facts] [hReference5Ideal : Cert.Reference5Ideal.Facts] [hPre_real_modulation : Cert.Pre_real_modulation.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_real_modulation m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hPre_finite_scores : Cert.Pre_finite_scores.Facts) (hPre_plan_in_range : Cert.Pre_plan_in_range.Facts) (hPre_real_queries_and_keys : Cert.Pre_real_queries_and_keys.Facts) (hPre_real_modulation : Cert.Pre_real_modulation.Facts) (hOn_rows_in_use : Cert.On_rows_in_use.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_plan_in_range := hPre_plan_in_range)
    ∧ quiescent_Kernel2Ideal (hKernel2Ideal := hKernel2Ideal) (hPre_plan_in_range := hPre_plan_in_range)
    ∧ quiescent_Reference2Ideal (hReference2Ideal := hReference2Ideal)
    ∧ quiescent_Reference2Ideal_pre_plan_in_range (hReference2Ideal := hReference2Ideal) (hPre_plan_in_range := hPre_plan_in_range)
    ∧ quiescent_Kernel3 (hKernel3 := hKernel3)
    ∧ quiescent_Kernel3Ideal (hKernel3Ideal := hKernel3Ideal)
    ∧ quiescent_Kernel3Ideal_pre_real_queries_and_keys (hKernel3Ideal := hKernel3Ideal) (hPre_real_queries_and_keys := hPre_real_queries_and_keys)
    ∧ quiescent_Reference3Ideal (hReference3Ideal := hReference3Ideal)
    ∧ quiescent_Reference3Ideal_pre_real_queries_and_keys (hReference3Ideal := hReference3Ideal) (hPre_real_queries_and_keys := hPre_real_queries_and_keys)
    ∧ quiescent_Kernel5 (hKernel5 := hKernel5)
    ∧ quiescent_Kernel5Ideal (hKernel5Ideal := hKernel5Ideal)
    ∧ quiescent_Kernel5Ideal_pre_real_modulation (hKernel5Ideal := hKernel5Ideal) (hPre_real_modulation := hPre_real_modulation)
    ∧ quiescent_Reference5Ideal (hReference5Ideal := hReference5Ideal)
    ∧ quiescent_Reference5Ideal_pre_real_modulation (hReference5Ideal := hReference5Ideal) (hPre_real_modulation := hPre_real_modulation)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_on_rows_in_use (hKernel2Ideal := hKernel2Ideal) (hReference2Ideal := hReference2Ideal) (hPre_plan_in_range := hPre_plan_in_range) (hOn_rows_in_use := hOn_rows_in_use)
    ∧ preserves_Kernel3_Kernel3Ideal
    ∧ algebraic_Kernel3Ideal_Reference3Ideal_pre_real_queries_and_keys (hKernel3Ideal := hKernel3Ideal) (hReference3Ideal := hReference3Ideal) (hPre_real_queries_and_keys := hPre_real_queries_and_keys)
    ∧ preserves_Kernel5_Kernel5Ideal
    ∧ algebraic_Kernel5Ideal_Reference5Ideal_pre_real_modulation (hKernel5Ideal := hKernel5Ideal) (hReference5Ideal := hReference5Ideal) (hPre_real_modulation := hPre_real_modulation)
-- ==== On_rows_in_use.lean ====
abbrev S159 : Shape := ⟨1, ![159]⟩
abbrev S1 : Shape := ⟨1, ![1]⟩
abbrev S40704x1024 : Shape := ⟨2, ![40704, 1024]⟩
abbrev S32x1024x256 : Shape := ⟨3, ![32, 1024, 256]⟩
abbrev S32x256x1024 : Shape := ⟨3, ![32, 256, 1024]⟩
abbrev S_ : Shape := ⟨0, ![]⟩

class Facts : Prop where
  shapeCasts_S1_S_ : S1.ShapeCasts S_
  bcast_S_S40704x1024 : S_.BroadcastsInDim S40704x1024 (![] : Fin 0 → Fin S40704x1024.rank)

variable [Facts]

def fn {F : FTy → Type} [FloatOps F] (main_arg0 : IVec S159 32) (main_arg1 : IVec S1 32) (main_arg2 : FVec F S40704x1024 .f32) (main_arg3 : FVec F S32x1024x256 .f32) (main_arg4 : FVec F S32x1024x256 .f32) (main_arg5 : FVec F S32x256x1024 .f32) : IVec S40704x1024 1 :=
  let main_v0 : IVec S40704x1024 32 := iotaInDim S40704x1024 32 0
  let main_v1 : IVec S_ 32 := shapeCast S_ main_arg1 shapeCasts_S1_S_
  let main_c : IVec S_ 32 := constantI S_ 32 256#32
  let main_v2 : IVec S_ 32 := muli main_v1 main_c
  let main_v3 : IVec S40704x1024 32 := broadcastInDim S40704x1024 ![] bcast_S_S40704x1024 main_v2
  let main_v4 : IVec S40704x1024 1 := cmpi .slt main_v0 main_v3
  main_v4
-- ==== Pre_finite_scores.lean ====
abbrev S4x4096x512 : Shape := ⟨3, ![4, 4096, 512]⟩
abbrev S4x4096x128 : Shape := ⟨3, ![4, 4096, 128]⟩
abbrev S1x8 : Shape := ⟨2, ![1, 8]⟩
abbrev S1x512 : Shape := ⟨2, ![1, 512]⟩
abbrev S_ : Shape := ⟨0, ![]⟩

class Facts : Prop where
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S1x8 : S_.BroadcastsInDim S1x8 (![] : Fin 0 → Fin S1x8.rank)

variable [Facts]

def fn {F : FTy → Type} [FloatOps F] (main_arg0 : FVec F S4x4096x512 .f32) (main_arg1 : FVec F S4x4096x128 .f32) (main_arg2 : FVec F S4x4096x128 .f32) (main_arg3 : FVec F S1x8 .f32) (main_arg4 : FVec F S1x512 .f32) : IVec S4x4096x512 1 × IVec S4x4096x128 1 × IVec S1x8 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x128 .f32 := Host.absf main_arg1
  let main_cst_0 : FVec F S_ .f32 := constant S_ .f32 0x7F800000#32
  let main_v4 : FVec F S4x4096x128 .f32 := broadcastInDim S4x4096x128 ![] bcast_S_S4x4096x128 main_cst_0
  let main_v5 : IVec S4x4096x128 1 := cmpf .olt main_v3 main_v4
  let main_cst_1 : FVec F S_ .f32 := constant S_ .f32 0x7F800000#32
  let main_v6 : FVec F S1x8 .f32 := broadcastInDim S1x8 ![] bcast_S_S1x8 main_cst_1
  let main_v7 : IVec S1x8 1 := cmpf .olt main_arg3 main_v6
  (main_v2, main_v5, main_v7)
-- ==== Pre_plan_in_range.lean ====
abbrev S159 : Shape := ⟨1, ![159]⟩
abbrev S1 : Shape := ⟨1, ![1]⟩
abbrev S40704x1024 : Shape := ⟨2, ![40704, 1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S159 : S_.BroadcastsInDim S159 (![] : Fin 0 → Fin S159.rank)
  bcast_S_S1 : S_.BroadcastsInDim S1 (![] : Fin 0 → Fin S1.rank)

variable [Facts]

def fn {F : FTy → Type} [FloatOps F] (main_arg0 : IVec S159 32) (main_arg1 : IVec S1 32) (main_arg2 : FVec F S40704x1024 .f32) (main_arg3 : FVec F S32x1024x256 .f32) (main_arg4 : FVec F S32x1024x256 .f32) (main_arg5 : FVec F S32x256x1024 .f32) : IVec S159 1 × IVec S1 1 :=
  let main_c : IVec S_ 32 := constantI S_ 32 0#32
  let main_v0 : IVec S159 32 := broadcastInDim S159 ![] bcast_S_S159 main_c
  let main_v1 : IVec S159 1 := cmpi .sge main_arg0 main_v0
  let main_c_0 : IVec S_ 32 := constantI S_ 32 32#32
  let main_v2 : IVec S159 32 := broadcastInDim S159 ![] bcast_S_S159 main_c_0
  let main_v3 : IVec S159 1 := cmpi .slt main_arg0 main_v2
  let main_v4 : IVec S159 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 159#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_real_modulation.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S4x1024 : S_.BroadcastsInDim S4x1024 (![] : Fin 0 → Fin S4x1024.rank)
  bcast_S_S1x1024x6144 : S_.BroadcastsInDim S1x1024x6144 (![] : Fin 0 → Fin S1x1024x6144.rank)

variable [Facts]

def fn {F : FTy → Type} [FloatOps F] (main_arg0 : FVec F S4x1024 .f32) (main_arg1 : FVec F S1x1024x6144 .f32) (main_arg2 : FVec F S1x6144 .f32) : IVec S4x1024 1 × IVec S1x1024x6144 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S1x1024x6144 .f32 := Host.absf main_arg1
  let main_cst_0 : FVec F S_ .f32 := constant S_ .f32 0x7F800000#32
  let main_v4 : FVec F S1x1024x6144 .f32 := broadcastInDim S1x1024x6144 ![] bcast_S_S1x1024x6144 main_cst_0
  let main_v5 : IVec S1x1024x6144 1 := cmpf .olt main_v3 main_v4
  (main_v2, main_v5)
-- ==== Pre_real_queries_and_keys.lean ====
abbrev S4x4096x8x96 : Shape := ⟨4, ![4, 4096, 8, 96]⟩
abbrev S4x4096x8x64 : Shape := ⟨4, ![4, 4096, 8, 64]⟩
abbrev S4x4096x32 : Shape := ⟨3, ![4, 4096, 32]⟩
abbrev S_ : Shape := ⟨0, ![]⟩

class Facts : Prop where
  bcast_S_S4x4096x8x96 : S_.BroadcastsInDim S4x4096x8x96 (![] : Fin 0 → Fin S4x4096x8x96.rank)
  bcast_S_S4x4096x8x64 : S_.BroadcastsInDim S4x4096x8x64 (![] : Fin 0 → Fin S4x4096x8x64.rank)
  bcast_S_S4x4096x32 : S_.BroadcastsInDim S4x4096x32 (![] : Fin 0 → Fin S4x4096x32.rank)

variable [Facts]

def fn {F : FTy → Type} [FloatOps F] (main_arg0 : FVec F S4x4096x8x96 .f32) (main_arg1 : FVec F S4x4096x8x64 .f32) (main_arg2 : FVec F S4x4096x32 .f32) (main_arg3 : FVec F S4x4096x8x64 .f32) : IVec S4x4096x8x96 1 × IVec S4x4096x8x64 1 × IVec S4x4096x32 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : FVec F S4x4096x32 .f32 := Host.absf main_arg2
  let main_cst_1 : FVec F S_ .f32 := constant S_ .f32 0x7F800000#32
  let main_v7 : FVec F S4x4096x32 .f32 := broadcastInDim S4x4096x32 ![] bcast_S_S4x4096x32 main_cst_1
  let main_v8 : IVec S4x4096x32 1 := cmpf .olt main_v6 main_v7
  (main_v2, main_v5, main_v8)
-- ==== Kernel.lean ====
abbrev S4x4096x512 : Shape := ⟨3, ![4, 4096, 512]⟩
abbrev S4x4096x128 : Shape := ⟨3, ![4, 4096, 128]⟩
abbrev S1x8 : Shape := ⟨2, ![1, 8]⟩
abbrev S1x512 : Shape := ⟨2, ![1, 512]⟩
abbrev S_ : Shape := ⟨0, ![]⟩
abbrev S8 : Shape := ⟨1, ![8]⟩
abbrev S512 : Shape := ⟨1, ![512]⟩
abbrev S1x128x512 : Shape := ⟨3, ![1, 128, 512]⟩
abbrev S1x128x128 : Shape := ⟨3, ![1, 128, 128]⟩
abbrev S128x128 : Shape := ⟨2, ![128, 128]⟩
abbrev S384x128 : Shape := ⟨2, ![384, 128]⟩
abbrev S128x384 : Shape := ⟨2, ![128, 384]⟩
abbrev S128x1 : Shape := ⟨2, ![128, 1]⟩
abbrev S1x1 : Shape := ⟨2, ![1, 1]⟩
abbrev S128 : Shape := ⟨1, ![128]⟩
abbrev S1x128 : Shape := ⟨2, ![1, 128]⟩

abbrev nBuf : Space → Nat
  | .hbm => 16
  | .vmem => 17
  | .smem => 1
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S1x8, .f32⟩
  | .hbm, ⟨4, _⟩ => ⟨S1x512, .f32⟩
  | .hbm, ⟨5, _⟩ => ⟨S_, .f32⟩
  | .hbm, ⟨6, _⟩ => ⟨S4x4096x512, .f32⟩
  | .hbm, ⟨7, _⟩ => ⟨S4x4096x512, .f32⟩
  | .hbm, ⟨8, _⟩ => ⟨S4x4096x512, .bf16⟩
  | .hbm, ⟨9, _⟩ => ⟨S8, .f32⟩
  | .hbm, ⟨10, _⟩ => ⟨S1x8, .f32⟩
  | .hbm, ⟨11, _⟩ => ⟨S4x4096x128, .bf16⟩
  | .hbm, ⟨12, _⟩ => ⟨S4x4096x128, .bf16⟩
  | .hbm, ⟨13, _⟩ => ⟨S512, .f32⟩
  | .hbm, ⟨14, _⟩ => ⟨S1x512, .f32⟩
  | .hbm, ⟨15, _⟩ => ⟨S4x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x512, .f32⟩
  | .local _ .vmem, ⟨15, _⟩ => ⟨S1x128x512, .bf16⟩
  | .local _ .vmem, ⟨16, _⟩ => ⟨S1x128x512, .bf16⟩
  | .local _ .smem, ⟨0, _⟩ => ⟨S1x8, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S4x4096x128 : Shape := ⟨3, ![4, 4096, 128]⟩
abbrev S1x8 : Shape := ⟨2, ![1, 8]⟩
abbrev S1x512 : Shape := ⟨2, ![1, 512]⟩
abbrev S4x32x128x2x4x64 : Shape := ⟨6, ![4, 32, 128, 2, 4, 64]⟩
abbrev S4x4096x2x64 : Shape := ⟨4, ![4, 4096, 2, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S4x32x2x384x128x4 : Shape := ⟨6, ![4, 32, 2, 384, 128, 4]⟩
abbrev S4x32x2x4x128x384 : Shape := ⟨6, ![4, 32, 2, 4, 128, 384]⟩
abbrev S1x32x1x1x128x384 : Shape := ⟨6, ![1, 32, 1, 1, 128, 384]⟩
abbrev S8 : Shape := ⟨1, ![8]⟩
abbrev S2x4 : Shape := ⟨2, ![2, 4]⟩
abbrev S1x1x2x4x1 : Shape := ⟨5, ![1, 1, 2, 4, 1]⟩
abbrev S4x32x2x4x128 : Shape := ⟨5, ![4, 32, 2, 4, 128]⟩
abbrev S4x32x2x4x128x1 : Shape := ⟨6, ![4, 32, 2, 4, 128, 1]⟩
abbrev S4x32x2x64x4x128 : Shape := ⟨6, ![4, 32, 2, 64, 4, 128]⟩
abbrev S4x4096 : Shape := ⟨2, ![4, 4096]⟩
abbrev S4x4096x1 : Shape := ⟨3, ![4, 4096, 1]⟩
abbrev S512 : Shape := ⟨1, ![512]⟩
abbrev S1x1x512 : Shape := ⟨3, ![1, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S1x8, .f32⟩
  | .hbm, ⟨4, _⟩ => ⟨S1x512, .f32⟩
  | .hbm, ⟨5, _⟩ => ⟨S4x32x128x2x4x64, .f32⟩
  | .hbm, ⟨6, _⟩ => ⟨S4x4096x2x64, .f32⟩
  | .hbm, ⟨7, _⟩ => ⟨S_, .i32⟩
  | .hbm, ⟨8, _⟩ => ⟨S_, .f32⟩
  | .hbm, ⟨9, _⟩ => ⟨S4x4352x2x64, .f32⟩
  | .hbm, ⟨10, _⟩ => ⟨S4x34x128x2x64, .f32⟩
  | .hbm, ⟨11, _⟩ => ⟨S4x4096x2x64, .f32⟩
  | .hbm, ⟨12, _⟩ => ⟨S_, .i32⟩
  | .hbm, ⟨13, _⟩ => ⟨S_, .f32⟩
  | .hbm, ⟨14, _⟩ => ⟨S4x4352x2x64, .f32⟩
  | .hbm, ⟨15, _⟩ => ⟨S4x34x128x2x64, .f32⟩
  | .hbm, ⟨16, _⟩ => ⟨S4x32x128x2x64, .f32⟩
  | .hbm, ⟨17, _⟩ => ⟨S4x32x128x2x64, .f32⟩
  | .hbm, ⟨18, _⟩ => ⟨S4x32x128x2x64, .f32⟩
  | .hbm, ⟨19, _⟩ => ⟨S4x32x384x2x64, .f32⟩
  | .hbm, ⟨20, _⟩ => ⟨S4x32x128x2x64, .f32⟩
  | .hbm, ⟨21, _⟩ => ⟨S4x32x128x2x64, .f32⟩
  | .hbm, ⟨22, _⟩ => ⟨S4x32x128x2x64, .f32⟩
  | .hbm, ⟨23, _⟩ => ⟨S4x32x384x2x64, .f32⟩
  | .hbm, ⟨24, _⟩ => ⟨S128, .i32⟩
  | .hbm, ⟨25, _⟩ => ⟨S128x1, .i32⟩
  | .hbm, ⟨26, _⟩ => ⟨S384, .i32⟩
  | .hbm, ⟨27, _⟩ => ⟨S1x384, .i32⟩
  | .hbm, ⟨28, _⟩ => ⟨S_, .i32⟩
  | .hbm, ⟨29, _⟩ => ⟨S1x384, .i32⟩
  | .hbm, ⟨30, _⟩ => ⟨S1x384, .i32⟩
  | .hbm, ⟨31, _⟩ => ⟨S128x384, .i32⟩
  | .hbm, ⟨32, _⟩ => ⟨S128x384, .i32⟩
  | .hbm, ⟨33, _⟩ => ⟨S128x384, .i32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i1⟩
  | .hbm, ⟨38, _⟩ => ⟨S32, .i32⟩
  | .hbm, ⟨39, _⟩ => ⟨S32x1, .i32⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S384, .i32⟩
  | .hbm, ⟨47, _⟩ => ⟨S1x384, .i32⟩
  | .hbm, ⟨48, _⟩ => ⟨S32x384, .i32⟩
  | .hbm, ⟨49, _⟩ => ⟨S32x384, .i32⟩
  | .hbm, ⟨50, _⟩ => ⟨S32x384, .i32⟩
  | .hbm, ⟨51, _⟩ => ⟨S_, .i32⟩
  | .hbm, ⟨52, _⟩ => ⟨S32x384, .i32⟩
  | .hbm, ⟨53, _⟩ => ⟨S32x384, .i1⟩
  | .hbm, ⟨54, _⟩ => ⟨S_, .i32⟩
  | .hbm, ⟨55, _⟩ => ⟨S32x384, .i32⟩
  | .hbm, ⟨56, _⟩ => ⟨S32x384, .i1⟩
  | .hbm, ⟨57, _⟩ => ⟨S32x384, .i1⟩
  | .hbm, ⟨58, _⟩ => ⟨S1x128x384, .i1⟩
  | .hbm, ⟨59, _⟩ => ⟨S32x1x384, .i1⟩
  | .hbm, ⟨60, _⟩ => ⟨S32x128x384, .i1⟩
  | .hbm, ⟨61, _⟩ => ⟨S32x128x384, .i1⟩
  | .hbm, ⟨62, _⟩ => ⟨S32x128x384, .i1⟩
  | .hbm, ⟨63, _⟩ => ⟨S4x32x2x384x128x4, .f32⟩
  | .hbm, ⟨64, _⟩ => ⟨S4x32x2x4x128x384, .f32⟩
  | .hbm, ⟨65, _⟩ => ⟨S_, .f32⟩
  | .hbm, ⟨66, _⟩ => ⟨S4x32x2x4x128x384, .f32⟩
  | .hbm, ⟨67, _⟩ => ⟨S4x32x2x4x128x384, .f32⟩
  | .hbm, ⟨68, _⟩ => ⟨S1x32x1x1x128x384, .i1⟩
  | .hbm, ⟨69, _⟩ => ⟨S_, .f32⟩
  | .hbm, ⟨70, _⟩ => ⟨S_, .f32⟩
  | .hbm, ⟨71, _⟩ => ⟨S4x32x2x4x128x384, .i1⟩
  | .hbm, ⟨72, _⟩ => ⟨S4x32x2x4x128x384, .f32⟩
  | .hbm, ⟨73, _⟩ => ⟨S4x32x2x4x128x384, .f32⟩
  | .hbm, ⟨74, _⟩ => ⟨S8, .f32⟩
  | .hbm, ⟨75, _⟩ => ⟨S2x4, .f32⟩
  | .hbm, ⟨76, _⟩ => ⟨S1x1x2x4x1, .f32⟩
  | .hbm, ⟨77, _⟩ => ⟨S_, .f32⟩
  | .hbm, ⟨78, _⟩ => ⟨S4x32x2x4x128, .f32⟩
  | .hbm, ⟨79, _⟩ => ⟨S4x32x2x4x128, .f32⟩
  | .hbm, ⟨80, _⟩ => ⟨S4x32x2x4x128, .f32⟩
  | .hbm, ⟨81, _⟩ => ⟨S4x32x2x4x128x1, .f32⟩
  | .hbm, ⟨82, _⟩ => ⟨S4x32x2x4x128x384, .f32⟩
  | .hbm, ⟨83, _⟩ => ⟨S4x32x2x4x128x384, .f32⟩
  | .hbm, ⟨84, _⟩ => ⟨S4x32x2x4x128x384, .f32⟩
  | .hbm, ⟨85, _⟩ => ⟨S_, .f32⟩
  | .hbm, ⟨86, _⟩ => ⟨S4x32x2x4x128, .f32⟩
  | .hbm, ⟨87, _⟩ => ⟨S4x32x2x4x128, .f32⟩
  | .hbm, ⟨88, _⟩ => ⟨S4x32x2x4x128, .f32⟩
  | .hbm, ⟨89, _⟩ => ⟨S4x32x2x4x128, .f32⟩
  | .hbm, ⟨90, _⟩ => ⟨S4x32x2x4x128, .f32⟩
  | .hbm, ⟨91, _⟩ => ⟨S4x32x2x4x128x1, .f32⟩
  | .hbm, ⟨92, _⟩ => ⟨S4x32x2x4x128x384, .f32⟩
  | .hbm, ⟨93, _⟩ => ⟨S4x32x2x4x128x384, .f32⟩
  | .hbm, ⟨94, _⟩ => ⟨S4x32x2x64x4x128, .f32⟩
  | .hbm, ⟨95, _⟩ => ⟨S4x32x128x2x4x64, .f32⟩
  | .hbm, ⟨96, _⟩ => ⟨S4x4096x512, .f32⟩
  | .hbm, ⟨97, _⟩ => ⟨S4x4096x512, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1, .f32⟩
  | .hbm, ⟨108, _⟩ => ⟨S4x4096x512, .f32⟩
  | .hbm, ⟨109, _⟩ => ⟨S4x4096x512, .f32⟩
  | .hbm, ⟨110, _⟩ => ⟨S512, .f32⟩
  | .hbm, ⟨111, _⟩ => ⟨S1x1x512, .f32⟩
  | .hbm, ⟨112, _⟩ => ⟨S4x4096x512, .f32⟩
  | .hbm, ⟨113, _⟩ => ⟨S4x4096x512, .f32⟩
  | .hbm, ⟨114, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel2.lean ====
abbrev S159 : Shape := ⟨1, ![159]⟩
abbrev S1 : Shape := ⟨1, ![1]⟩
abbrev S40704x1024 : Shape := ⟨2, ![40704, 1024]⟩
abbrev S32x1024x256 : Shape := ⟨3, ![32, 1024, 256]⟩
abbrev S32x256x1024 : Shape := ⟨3, ![32, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩

abbrev nBuf : Space → Nat
  | .hbm => 5
  | .vmem => 12
  | .smem => 2
  | _ => 0

abbrev bufTy : (tb : Table) → Fin (tcTables nBuf tb) → BufTy
  | .hbm, ⟨0, _⟩ => ⟨S40704x1024, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S40704x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S256x1024, .bf16⟩
  | .local _ .smem, ⟨0, _⟩ => ⟨S159, .i32⟩
  | .local _ .smem, ⟨1, _⟩ => ⟨S1, .i32⟩
  | _, _ => ⟨S40704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![159], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S159 : Shape := ⟨1, ![159]⟩
abbrev S1 : Shape := ⟨1, ![1]⟩
abbrev S40704x1024 : Shape := ⟨2, ![40704, 1024]⟩
abbrev S32x1024x256 : Shape := ⟨3, ![32, 1024, 256]⟩
abbrev S32x256x1024 : Shape := ⟨3, ![32, 256, 1024]⟩
abbrev S159x256 : Shape := ⟨2, ![159, 256]⟩
abbrev S40704 : Shape := ⟨1, ![40704]⟩
abbrev S40704x1 : Shape := ⟨2, ![40704, 1]⟩
abbrev S1x32 : Shape := ⟨2, ![1, 32]⟩
abbrev S40704x32 : Shape := ⟨2, ![40704, 32]⟩
abbrev S40704x32x256 : Shape := ⟨3, ![40704, 32, 256]⟩
abbrev S_ : Shape := ⟨0, ![]⟩
abbrev S40704x32x1 : Shape := ⟨3, ![40704, 32, 1]⟩

abbrev nBuf : Space → Nat
  | .hbm => 30
  | .vmem => 0
  | .smem => 0
  | _ => 0

abbrev bufTy : (tb : Table) → Fin (tcTables nBuf tb) → BufTy
  | .hbm, ⟨0, _⟩ => ⟨S159, .i32⟩
  | .hbm, ⟨1, _⟩ => ⟨S1, .i32⟩
  | .hbm, ⟨2, _⟩ => ⟨S40704x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S159x256, .i32⟩
  | .hbm, ⟨7, _⟩ => ⟨S40704, .i32⟩
  | .hbm, ⟨8, _⟩ => ⟨S40704x1, .i32⟩
  | .hbm, ⟨9, _⟩ => ⟨S1x32, .i32⟩
  | .hbm, ⟨10, _⟩ => ⟨S40704x32, .i32⟩
  | .hbm, ⟨11, _⟩ => ⟨S40704x32, .i32⟩
  | .hbm, ⟨12, _⟩ => ⟨S40704x32, .i1⟩
  | .hbm, ⟨13, _⟩ => ⟨S40704x32, .f32⟩
  | .hbm, ⟨14, _⟩ => ⟨S40704x32x256, .f32⟩
  | .hbm, ⟨15, _⟩ => ⟨S40704x32x256, .f32⟩
  | .hbm, ⟨16, _⟩ => ⟨S40704x32x256, .f32⟩
  | .hbm, ⟨17, _⟩ => ⟨S_, .f32⟩
  | .hbm, ⟨18, _⟩ => ⟨S40704x32x256, .f32⟩
  | .hbm, ⟨19, _⟩ => ⟨S40704x32x256, .f32⟩
  | .hbm, ⟨20, _⟩ => ⟨S_, .f32⟩
  | .hbm, ⟨21, _⟩ => ⟨S40704x32x256, .f32⟩
  | .hbm, ⟨22, _⟩ => ⟨S40704x32x256, .f32⟩
  | .hbm, ⟨23, _⟩ => ⟨S40704x32x256, .f32⟩
  | .hbm, ⟨24, _⟩ => ⟨S40704x32x256, .f32⟩
  | .hbm, ⟨25, _⟩ => ⟨S40704x32x256, .f32⟩
  | .hbm, ⟨26, _⟩ => ⟨S40704x32x1, .f32⟩
  | .hbm, ⟨27, _⟩ => ⟨S40704x32x256, .f32⟩
  | .hbm, ⟨28, _⟩ => ⟨S40704x32x256, .f32⟩
  | .hbm, ⟨29, _⟩ => ⟨S40704x1024, .f32⟩
  | _, _ => ⟨S159, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S4x4096x8x96 : Shape := ⟨4, ![4, 4096, 8, 96]⟩
abbrev S4x4096x8x64 : Shape := ⟨4, ![4, 4096, 8, 64]⟩
abbrev S4x4096x32 : Shape := ⟨3, ![4, 4096, 32]⟩
abbrev S_ : Shape := ⟨0, ![]⟩
abbrev S4x4096x1x32 : Shape := ⟨4, ![4, 4096, 1, 32]⟩
abbrev S4x4096x8x32 : Shape := ⟨4, ![4, 4096, 8, 32]⟩
abbrev S4x8x4096x96 : Shape := ⟨4, ![4, 8, 4096, 96]⟩
abbrev S4x8x4096x128 : Shape := ⟨4, ![4, 8, 4096, 128]⟩
abbrev S4x4096x512 : Shape := ⟨3, ![4, 4096, 512]⟩
abbrev S4x512x4096 : Shape := ⟨3, ![4, 512, 4096]⟩
abbrev S1x2x4096x128 : Shape := ⟨4, ![1, 2, 4096, 128]⟩
abbrev S1x128x4096 : Shape := ⟨3, ![1, 128, 4096]⟩
abbrev S1x4096x128 : Shape := ⟨3, ![1, 4096, 128]⟩
abbrev S2x4096x256 : Shape := ⟨3, ![2, 4096, 256]⟩
abbrev S16x256 : Shape := ⟨2, ![16, 256]⟩
abbrev S8x256 : Shape := ⟨2, ![8, 256]⟩
abbrev S1x1x256x128 : Shape := ⟨4, ![1, 1, 256, 128]⟩
abbrev S256x128 : Shape := ⟨2, ![256, 128]⟩
abbrev S256x256 : Shape := ⟨2, ![256, 256]⟩
abbrev S1x256x256 : Shape := ⟨3, ![1, 256, 256]⟩
abbrev S32x8x256 : Shape := ⟨3, ![32, 8, 256]⟩
abbrev S256 : Shape := ⟨1, ![256]⟩
abbrev S1x256 : Shape := ⟨2, ![1, 256]⟩
abbrev S80x256 : Shape := ⟨2, ![80, 256]⟩
abbrev S1x64x256 : Shape := ⟨3, ![1, 64, 256]⟩
abbrev S64x256 : Shape := ⟨2, ![64, 256]⟩
abbrev S128x256 : Shape := ⟨2, ![128, 256]⟩
abbrev S1x256x128 : Shape := ⟨3, ![1, 256, 128]⟩

abbrev nBuf : Space → Nat
  | .hbm => 31
  | .vmem => 10
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x64, .f32⟩
  | .hbm, ⟨2, _⟩ => ⟨S4x4096x32, .f32⟩
  | .hbm, ⟨3, _⟩ => ⟨S4x4096x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x1x32, .f32⟩
  | .hbm, ⟨12, _⟩ => ⟨S4x4096x8x32, .f32⟩
  | .hbm, ⟨13, _⟩ => ⟨S4x4096x8x96, .f32⟩
  | .hbm, ⟨14, _⟩ => ⟨S_, .f32⟩
  | .hbm, ⟨15, _⟩ => ⟨S4x4096x8x96, .f32⟩
  | .hbm, ⟨16, _⟩ => ⟨S4x4096x8x96, .f32⟩
  | .hbm, ⟨17, _⟩ => ⟨S4x8x4096x96, .f32⟩
  | .hbm, ⟨18, _⟩ => ⟨S_, .i32⟩
  | .hbm, ⟨19, _⟩ => ⟨S_, .f32⟩
  | .hbm, ⟨20, _⟩ => ⟨S4x8x4096x128, .f32⟩
  | .hbm, ⟨21, _⟩ => ⟨S4x8x4096x128, .bf16⟩
  | .hbm, ⟨22, _⟩ => ⟨S4x8x4096x96, .f32⟩
  | .hbm, ⟨23, _⟩ => ⟨S_, .i32⟩
  | .hbm, ⟨24, _⟩ => ⟨S_, .f32⟩
  | .hbm, ⟨25, _⟩ => ⟨S4x8x4096x128, .f32⟩
  | .hbm, ⟨26, _⟩ => ⟨S4x8x4096x128, .bf16⟩
  | .hbm, ⟨27, _⟩ => ⟨S4x4096x512, .f32⟩
  | .hbm, ⟨28, _⟩ => ⟨S4x512x4096, .f32⟩
  | .hbm, ⟨29, _⟩ => ⟨S4x512x4096, .bf16⟩
  | .hbm, ⟨30, _⟩ => ⟨S4x4096x512, .f32⟩
  | .local _ .vmem, ⟨0, _⟩ => ⟨S1x2x4096x128, .bf16⟩
  | .local _ .vmem, ⟨1, _⟩ => ⟨S1x2x4096x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x4096x128, .f32⟩
  | .local _ .vmem, ⟨7, _⟩ => ⟨S1x4096x128, .f32⟩
  | .local _ .vmem, ⟨8, _⟩ => ⟨S2x4096x256, .f32⟩
  | .local _ .vmem, ⟨9, _⟩ => ⟨S2x4096x256, .f32⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_371 : BitVec 32 := 0#32
  let c8_i32 : BitVec 32 := 8#32
  let v392 : BitVec 32 := Scalar.addi c0_i32_371 c8_i32
  let c1_i32 : BitVec 32 := 1#32
  ⟨c0_i32_371, v392, c1_i32⟩
def k0_mult2 (k0_t1 : Fin k0_t1_loop.trips) : BitVec 32 :=
  let c2_i32 : BitVec 32 := 2#32
  let c0_i32_371 : BitVec 32 := 0#32
  let c1_i32 : BitVec 32 := 1#32
  let arg8 : BitVec 32 := Scf.iv c0_i32_371 c1_i32 k0_t1
  let v394 : BitVec 32 := Scalar.muli c2_i32 arg8
  let c1_i32_373 : BitVec 32 := 1#32
  let v395 : BitVec 32 := Scalar.addi v394 c1_i32_373
  let c256_i32 : BitVec 32 := 256#32
  let v397 : BitVec 32 := Scalar.muli v395 c256_i32
  v397
def k0_off1 (k0_t1 : Fin k0_t1_loop.trips) : Fin 4 → Nat :=
  let c0_377 : Index := 0#32
  let c0_378 : Index := 0#32
  let c2_i32 : BitVec 32 := 2#32
  let c0_i32_371 : BitVec 32 := 0#32
  let c1_i32 : BitVec 32 := 1#32
  let arg8 : BitVec 32 := Scf.iv c0_i32_371 c1_i32 k0_t1
  let v394 : BitVec 32 := Scalar.muli c2_i32 arg8
  let c1_i32_373 : BitVec 32 := 1#32
  let v395 : BitVec 32 := Scalar.addi v394 c1_i32_373
  let c256_i32 : BitVec 32 := 256#32
  let v397 : BitVec 32 := Scalar.muli v395 c256_i32
  let v398 : BitVec 32 := v397
  let v401 : Index := Scalar.indexCast v398
  let c0_379 : Index := 0#32
  ![0, 0, v401.toNat, 0]
def k0_off2 (k0_t1 : Fin k0_t1_loop.trips) : Fin 4 → Nat :=
  let c0_685 : Index := 0#32
  let c1_686 : Index := 1#32
  let c2_i32 : BitVec 32 := 2#32
  let c0_i32_371 : BitVec 32 := 0#32
  let c1_i32 : BitVec 32 := 1#32
  let arg8 : BitVec 32 := Scf.iv c0_i32_371 c1_i32 k0_t1
  let v394 : BitVec 32 := Scalar.muli c2_i32 arg8
  let c1_i32_373 : BitVec 32 := 1#32
  let v395 : BitVec 32 := Scalar.addi v394 c1_i32_373
  let c256_i32 : BitVec 32 := 256#32
  let v397 : BitVec 32 := Scalar.muli v395 c256_i32
  let v398 : BitVec 32 := v397
  let v779 : Index := Scalar.indexCast v398
  let c0_687 : Index := 0#32
  ![0, 1, v779.toNat, 0]
def k0_mult3 (k0_t1 : Fin k0_t1_loop.trips) : BitVec 32 :=
  let c2_i32_374 : BitVec 32 := 2#32
  let c0_i32_371 : BitVec 32 := 0#32
  let c1_i32 : BitVec 32 := 1#32
  let arg8 : BitVec 32 := Scf.iv c0_i32_371 c1_i32 k0_t1
  let v396 : BitVec 32 := Scalar.muli c2_i32_374 arg8
  let c256_i32_990 : BitVec 32 := 256#32
  let v1155 : BitVec 32 := Scalar.muli v396 c256_i32_990
  v1155
def k0_off3 (k0_t1 : Fin k0_t1_loop.trips) : Fin 3 → Nat :=
  let c0_991 : Index := 0#32
  let c2_i32_374 : BitVec 32 := 2#32
  let c0_i32_371 : BitVec 32 := 0#32
  let c1_i32 : BitVec 32 := 1#32
  let arg8 : BitVec 32 := Scf.iv c0_i32_371 c1_i32 k0_t1
  let v396 : BitVec 32 := Scalar.muli c2_i32_374 arg8
  let c256_i32_990 : BitVec 32 := 256#32
  let v1155 : BitVec 32 := Scalar.muli v396 c256_i32_990
  let v1156 : BitVec 32 := v1155
  let v1159 : Index := Scalar.indexCast v1156
  let c0_992 : Index := 0#32
  ![0, v1159.toNat, 0]
def k0_mult4 (k0_t1 : Fin k0_t1_loop.trips) : BitVec 32 :=
  let c2_i32_993 : BitVec 32 := 2#32
  let c0_i32_371 : BitVec 32 := 0#32
  let c1_i32 : BitVec 32 := 1#32
  let arg8 : BitVec 32 := Scf.iv c0_i32_371 c1_i32 k0_t1
  let v1163 : BitVec 32 := Scalar.muli c2_i32_993 arg8
  let c2_i32_994 : BitVec 32 := 2#32
  let v1164 : BitVec 32 := Scalar.addi v1163 c2_i32_994
  let c15_i32 : BitVec 32 := 15#32
  let v1165 : BitVec 32 := Scalar.minsi v1164 c15_i32
  let c256_i32_997 : BitVec 32 := 256#32
  let v1168 : BitVec 32 := Scalar.muli v1165 c256_i32_997
  v1168
def k0_off4 (k0_t1 : Fin k0_t1_loop.trips) : Fin 4 → Nat :=
  let c0_1000 : Index := 0#32
  let c0_1001 : Index := 0#32
  let c2_i32_993 : BitVec 32 := 2#32
  let c0_i32_371 : BitVec 32 := 0#32
  let c1_i32 : BitVec 32 := 1#32
  let arg8 : BitVec 32 := Scf.iv c0_i32_371 c1_i32 k0_t1
  let v1163 : BitVec 32 := Scalar.muli c2_i32_993 arg8
  let c2_i32_994 : BitVec 32 := 2#32
  let v1164 : BitVec 32 := Scalar.addi v1163 c2_i32_994
  let c15_i32 : BitVec 32 := 15#32
  let v1165 : BitVec 32 := Scalar.minsi v1164 c15_i32
  let c256_i32_997 : BitVec 32 := 256#32
  let v1168 : BitVec 32 := Scalar.muli v1165 c256_i32_997
  let v1169 : BitVec 32 := v1168
  let v1172 : Index := Scalar.indexCast v1169
  let c0_1002 : Index := 0#32
  ![0, 0, v1172.toNat, 0]
def k0_off5 (k0_t1 : Fin k0_t1_loop.trips) : Fin 4 → Nat :=
  let c0_1308 : Index := 0#32
  let c1_1309 : Index := 1#32
  let c2_i32_993 : BitVec 32 := 2#32
  let c0_i32_371 : BitVec 32 := 0#32
  let c1_i32 : BitVec 32 := 1#32
  let arg8 : BitVec 32 := Scf.iv c0_i32_371 c1_i32 k0_t1
  let v1163 : BitVec 32 := Scalar.muli c2_i32_993 arg8
  let c2_i32_994 : BitVec 32 := 2#32
  let v1164 : BitVec 32 := Scalar.addi v1163 c2_i32_994
  let c15_i32 : BitVec 32 := 15#32
  let v1165 : BitVec 32 := Scalar.minsi v1164 c15_i32
  let c256_i32_997 : BitVec 32 := 256#32
  let v1168 : BitVec 32 := Scalar.muli v1165 c256_i32_997
  let v1169 : BitVec 32 := v1168
  let v1550 : Index := Scalar.indexCast v1169
  let c0_1310 : Index := 0#32
  ![0, 1, v1550.toNat, 0]
def k0_mult5 (k0_t1 : Fin k0_t1_loop.trips) : BitVec 32 :=
  let c2_i32_995 : BitVec 32 := 2#32
  let c0_i32_371 : BitVec 32 := 0#32
  let c1_i32 : BitVec 32 := 1#32
  let arg8 : BitVec 32 := Scf.iv c0_i32_371 c1_i32 k0_t1
  let v1166 : BitVec 32 := Scalar.muli c2_i32_995 arg8
  let c1_i32_996 : BitVec 32 := 1#32
  let v1167 : BitVec 32 := Scalar.addi v1166 c1_i32_996
  let c256_i32_1614 : BitVec 32 := 256#32
  let v1926 : BitVec 32 := Scalar.muli v1167 c256_i32_1614
  v1926
def k0_off6 (k0_t1 : Fin k0_t1_loop.trips) : Fin 3 → Nat :=
  let c0_1615 : Index := 0#32
  let c2_i32_995 : BitVec 32 := 2#32
  let c0_i32_371 : BitVec 32 := 0#32
  let c1_i32 : BitVec 32 := 1#32
  let arg8 : BitVec 32 := Scf.iv c0_i32_371 c1_i32 k0_t1
  let v1166 : BitVec 32 := Scalar.muli c2_i32_995 arg8
  let c1_i32_996 : BitVec 32 := 1#32
  let v1167 : BitVec 32 := Scalar.addi v1166 c1_i32_996
  let c256_i32_1614 : BitVec 32 := 256#32
  let v1926 : BitVec 32 := Scalar.muli v1167 c256_i32_1614
  let v1927 : BitVec 32 := v1926
  let v1930 : Index := Scalar.indexCast v1927
  let c0_1616 : Index := 0#32
  ![0, v1930.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x8x96 : Shape := ⟨4, ![4, 4096, 8, 96]⟩
abbrev S4x4096x8x64 : Shape := ⟨4, ![4, 4096, 8, 64]⟩
abbrev S4x4096x32 : Shape := ⟨3, ![4, 4096, 32]⟩
abbrev S4x4096x8x32 : Shape := ⟨4, ![4, 4096, 8, 32]⟩
abbrev S4x8x4096x4096 : Shape := ⟨4, ![4, 8, 4096, 4096]⟩
abbrev S4x4096x4096x8 : Shape := ⟨4, ![4, 4096, 4096, 8]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x512 : Shape := ⟨3, ![4, 4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x64, .f32⟩
  | .hbm, ⟨2, _⟩ => ⟨S4x4096x32, .f32⟩
  | .hbm, ⟨3, _⟩ => ⟨S4x4096x8x64, .f32⟩
  | .hbm, ⟨4, _⟩ => ⟨S4x4096x8x64, .f32⟩
  | .hbm, ⟨5, _⟩ => ⟨S4x4096x8x32, .f32⟩
  | .hbm, ⟨6, _⟩ => ⟨S4x8x4096x4096, .f32⟩
  | .hbm, ⟨7, _⟩ => ⟨S4x4096x4096x8, .f32⟩
  | .hbm, ⟨8, _⟩ => ⟨S4x8x4096x4096, .f32⟩
  | .hbm, ⟨9, _⟩ => ⟨S4x8x4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8x4096x4096, .f32⟩
  | .hbm, ⟨14, _⟩ => ⟨S4x8x4096x4096, .f32⟩
  | .hbm, ⟨15, _⟩ => ⟨S_, .f32⟩
  | .hbm, ⟨16, _⟩ => ⟨S4x8x4096, .f32⟩
  | .hbm, ⟨17, _⟩ => ⟨S_, .f32⟩
  | .hbm, ⟨18, _⟩ => ⟨S4x8x4096, .f32⟩
  | .hbm, ⟨19, _⟩ => ⟨S4x8x4096, .f32⟩
  | .hbm, ⟨20, _⟩ => ⟨S4x8x4096x1, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S4x8x4096x1, .f32⟩
  | .hbm, ⟨27, _⟩ => ⟨S4x8x4096x4096, .f32⟩
  | .hbm, ⟨28, _⟩ => ⟨S4x8x4096x4096, .f32⟩
  | .hbm, ⟨29, _⟩ => ⟨S4x8x64x4096, .f32⟩
  | .hbm, ⟨30, _⟩ => ⟨S4x4096x8x64, .f32⟩
  | .hbm, ⟨31, _⟩ => ⟨S4x4096x512, .f32⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1024x6144, .f32⟩
  | .hbm, ⟨7, _⟩ => ⟨S6144, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S8x1024 : Shape := ⟨2, ![8, 1024]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1024x6144, .f32⟩
  | .hbm, ⟨16, _⟩ => ⟨S8x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Swa.Words.lean ====
module

public import Idealize.ShloMosaic.Lib.Pointwise

@[expose] public section

/-! Signed 32-bit words of small integers: arithmetic and comparisons are the integers' own. -/

namespace Window

open Idealize.ShloMosaic

theorem W_nat (n : Nat) : BitVec.ofNat 32 n = BitVec.ofInt 32 n := by simp
theorem W_sub (a b : Int) : IntOp.subi (BitVec.ofInt 32 a) (BitVec.ofInt 32 b) = BitVec.ofInt 32 (a - b) := by
  unfold IntOp.subi; rw [Int.sub_eq_add_neg, BitVec.ofInt_add, BitVec.ofInt_neg, BitVec.sub_eq_add_neg]
theorem W_add (a b : Int) : IntOp.addi (BitVec.ofInt 32 a) (BitVec.ofInt 32 b) = BitVec.ofInt 32 (a + b) := by
  exact (BitVec.ofInt_add ..).symm
theorem W_mul (a b : Int) : IntOp.muli (BitVec.ofInt 32 a) (BitVec.ofInt 32 b) = BitVec.ofInt 32 (a * b) := by
  exact (BitVec.ofInt_mul ..).symm
theorem W_toInt (a : Int) (h : -2147483648 ≤ a ∧ a < 2147483648) : (BitVec.ofInt 32 a).toInt = a := by
  rw [BitVec.toInt_ofInt]; exact Int.bmod_eq_of_le (by omega) (by omega)
theorem W_abs (a : Int) (h : -2147483648 < a ∧ a < 2147483648) : IntOp.absi (BitVec.ofInt 32 a) = BitVec.ofInt 32 |a| := by
  unfold IntOp.absi
  rw [BitVec.msb_eq_toInt, W_toInt a (by omega)]
  by_cases h' : a < 0
  · simp [h', abs_of_neg, BitVec.ofInt_neg]
  · simp [h', abs_of_nonneg (not_lt.mp h')]
theorem W_sle (a b : Int) (h : -2147483648 ≤ a ∧ a < 2147483648) (h' : -2147483648 ≤ b ∧ b < 2147483648) :
    IntOp.cmpi .sle (BitVec.ofInt 32 a) (BitVec.ofInt 32 b) = BitVec.ofBool (decide (a ≤ b)) := by
  unfold IntOp.cmpi; simp only [BitVec.sle, W_toInt a h, W_toInt b h']
theorem W_slt (a b : Int) (h : -2147483648 ≤ a ∧ a < 2147483648) (h' : -2147483648 ≤ b ∧ b < 2147483648) :
    IntOp.cmpi .slt (BitVec.ofInt 32 a) (BitVec.ofInt 32 b) = BitVec.ofBool (decide (a < b)) := by
  unfold IntOp.cmpi; simp only [BitVec.slt, W_toInt a h, W_toInt b h']
theorem W_sge (a b : Int) (h : -2147483648 ≤ a ∧ a < 2147483648) (h' : -2147483648 ≤ b ∧ b < 2147483648) :
    IntOp.cmpi .sge (BitVec.ofInt 32 a) (BitVec.ofInt 32 b) = BitVec.ofBool (decide (b ≤ a)) := by
  unfold IntOp.cmpi; simp only [BitVec.sle, W_toInt a h, W_toInt b h']
theorem and_bool (a b : Bool) : IntOp.andi (BitVec.ofBool a) (BitVec.ofBool b) = BitVec.ofBool (a && b) := by
  cases a <;> cases b <;> rfl

theorem or_bool (a b : Bool) : IntOp.ori (BitVec.ofBool a) (BitVec.ofBool b) = BitVec.ofBool (a || b) := by
  cases a <;> cases b <;> rfl
theorem W_sgt' (a b : Int) (h : -2147483648 ≤ a ∧ a < 2147483648) (h' : -2147483648 ≤ b ∧ b < 2147483648) :
    Scalar.cmpi .sgt (BitVec.ofInt 32 a) (BitVec.ofInt 32 b) = BitVec.ofBool (decide (b < a)) := by
  show BitVec.ofBool _ = _
  simp only [BitVec.slt, W_toInt a h, W_toInt b h']
theorem W_slt' (a b : Int) (h : -2147483648 ≤ a ∧ a < 2147483648) (h' : -2147483648 ≤ b ∧ b < 2147483648) :
    Scalar.cmpi .slt (BitVec.ofInt 32 a) (BitVec.ofInt 32 b) = BitVec.ofBool (decide (a < b)) := W_slt a b h h'

/-- A choice by a comparison of two small numbers. -/
theorem select_slt {α : Type} (n k : Nat) (hn : n < 2147483648) (hk : k < 2147483648) (x y : α) :
    Scalar.select (IntOp.cmpi .slt (BitVec.ofNat 32 n) (BitVec.ofNat 32 k)) x y = if n < k then x else y := by
  rw [W_nat, W_nat, W_slt _ _ (by omega) (by omega)]
  by_cases h : n < k
  · rw [if_pos h, decide_eq_true (by exact_mod_cast h)]; rfl
  · rw [if_neg h, decide_eq_false (by exact_mod_cast h)]; rfl

end Window

end
-- ==== Proof.Swa.Spec.lean ====
module

public import Idealize.ShloMosaic.Lib.Pointwise
public import Idealize.ShloMosaic.Lib.ValueIdx

@[expose] public section

noncomputable section

/-! Sliding-window attention with a sink, over the reals extended by the two infinities, as one formula.
    Both programs are read to this formula. -/

namespace Window

open Idealize.ShloMosaic

/-! The programs' float literals. -/

theorem lit_zero : Ideal.ofBits .f32 0x00000000#32 = 0 := by simp [Ideal.ofBits, Ideal.ieee]
theorem lit_one : Ideal.ofBits .f32 0x3F800000#32 = 1 := by simp [Ideal.ofBits, Ideal.ieee, -EReal.coe_mul]; norm_num
theorem lit_bot : Ideal.ofBits .f32 0xFF800000#32 = ⊥ := by simp [Ideal.ofBits, Ideal.ieee]
theorem lit_eighth : Ideal.ofBits .f32 0x3E000000#32 = ((1 / 8 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_inv512 : Ideal.ofBits .f32 0x3B000000#32 = ((1 / 512 : ℝ) : EReal) := by
  simp [Ideal.ofBits, Ideal.ieee, -EReal.coe_mul]; norm_num

/-- The maximum of a row's scores and the sink. -/
def top {n : Nat} (s : Fin n → EReal) (t : EReal) : EReal := max (Finset.univ.fold max ⊥ s) t

/-- A score's weight before normalisation. -/
def wgt {n : Nat} (s : Fin n → EReal) (t : EReal) (j : Fin n) : EReal := Ideal.exp (s j - top s t)

/-- The sum of the weights and the sink's own. -/
def den {n : Nat} (s : Fin n → EReal) (t : EReal) : EReal := ∑ j, wgt s t j + Ideal.exp (t - top s t)

theorem le_top {n : Nat} (s : Fin n → EReal) (t : EReal) (j : Fin n) : s j ≤ top s t :=
  le_max_of_le_left (by rw [Finset.le_fold_max]; exact .inr ⟨j, Finset.mem_univ _, le_refl _⟩)

theorem top_ne_top {n : Nat} (s : Fin n → EReal) (t : EReal) (hs : ∀ j, s j < ⊤) (ht : t < ⊤) : top s t < ⊤ :=
  max_lt (by rw [Finset.fold_max_lt]; exact ⟨bot_lt_top, fun j _ => hs j⟩) ht

/-- An exponential of a difference from a real number, for a score below plus infinity, is a real number and not negative. -/
theorem exp_sub_real (x : EReal) (m : ℝ) (hx : x < ⊤) : ∃ w : ℝ, 0 ≤ w ∧ (x ≠ ⊥ → 0 < w) ∧ Ideal.exp (x - (m : EReal)) = (w : EReal) := by
  induction x with
  | bot => exact ⟨0, le_refl _, fun h => absurd rfl h, by simp⟩
  | coe x => exact ⟨Real.exp (x - m), (Real.exp_pos _).le, fun _ => Real.exp_pos _, by rw [← EReal.coe_sub]; rfl⟩
  | top => exact absurd hx (lt_irrefl _)

theorem coe_sum {ι : Type} (S : Finset ι) (f : ι → ℝ) : ((∑ j ∈ S, f j : ℝ) : EReal) = ∑ j ∈ S, (f j : EReal) := by
  classical
  induction S using Finset.induction_on with
  | empty => simp
  | insert a S h ih => rw [Finset.sum_insert h, Finset.sum_insert h, EReal.coe_add, ih]

/-- With one score above minus infinity, and none and no sink at plus infinity, the normaliser is a positive real number. -/
theorem den_real {n : Nat} (s : Fin n → EReal) (t : EReal) (hs : ∀ j, s j < ⊤) (ht : t < ⊤) (j₀ : Fin n) (h₀ : s j₀ ≠ ⊥) :
    ∃ D : ℝ, 0 < D ∧ den s t = (D : EReal) := by
  have hm : top s t ≠ ⊤ := (top_ne_top s t hs ht).ne
  have hb : top s t ≠ ⊥ := fun h => h₀ (le_bot_iff.mp (h ▸ le_top s t j₀))
  obtain ⟨m, hm'⟩ : ∃ m : ℝ, top s t = (m : EReal) := ⟨(top s t).toReal, (EReal.coe_toReal hm hb).symm⟩
  choose w w0 wp we using fun j => exp_sub_real (s j) m (hs j)
  obtain ⟨u, u0, _, ue⟩ := exp_sub_real t m ht
  refine ⟨∑ j, w j + u, ?_, ?_⟩
  · have := Finset.single_le_sum (f := w) (fun j _ => w0 j) (Finset.mem_univ j₀)
    have := wp j₀ h₀
    linarith
  · unfold den wgt
    rw [hm', ue]
    simp only [we]
    rw [EReal.coe_add, coe_sum]

theorem sum_mul_coe {ι : Type} (S : Finset ι) (f : ι → EReal) (c : ℝ) (hc : 0 ≤ c) : (∑ j ∈ S, f j) * (c : EReal) = ∑ j ∈ S, f j * (c : EReal) := by
  classical
  induction S using Finset.induction_on with
  | empty => simp
  | insert a S h ih =>
    rw [Finset.sum_insert h, Finset.sum_insert h, ← ih, mul_comm, EReal.left_distrib_of_nonneg_of_ne_top (by exact_mod_cast hc) (EReal.coe_ne_top _), mul_comm, mul_comm (c : EReal)]

/-- Normalising the weighted sum once is normalising every weight. -/
theorem normalise_once {n : Nat} (s : Fin n → EReal) (t : EReal) (hs : ∀ j, s j < ⊤) (ht : t < ⊤) (j₀ : Fin n) (h₀ : s j₀ ≠ ⊥) (v : Fin n → EReal) :
    (∑ j, wgt s t j * v j) * Ideal.div 1 (den s t) = ∑ j, v j * Ideal.div (wgt s t j) (den s t) := by
  obtain ⟨D, hD, e⟩ := den_real s t hs ht j₀ h₀
  have hc : (0 : ℝ) ≤ 1 / D := by positivity
  rw [e, Ideal.div_coe hD.ne', one_mul, sum_mul_coe _ _ _ hc]
  refine Finset.sum_congr rfl fun j _ => ?_
  rw [Ideal.div_coe hD.ne', mul_comm (wgt s t j), mul_assoc]

/-- Arrays of four batches of 4096 positions of `d` lanes. -/
abbrev Arr (d : Nat) := (⟨3, ![4, 4096, d]⟩ : Shape).Idx → EReal

/-- Key slot `j` of query chunk `n` is visible to the chunk's row `r`: at most 128 positions away, and a position of the sequence. -/
def vis (n : Fin 32) (r : Fin 128) (j : Fin 384) : Prop :=
  r.val ≤ j.val ∧ j.val ≤ r.val + 256 ∧ 128 ≤ n.val * 128 + j.val ∧ n.val * 128 + j.val < 4224

instance (n : Fin 32) (r : Fin 128) (j : Fin 384) : Decidable (vis n r j) := by unfold vis; infer_instance

/-- The position of key slot `j` of query chunk `n` (0 for a slot off the sequence, which no row sees). -/
def pos (n : Fin 32) (j : Fin 384) : Fin 4096 :=
  if h : 128 ≤ n.val * 128 + j.val ∧ n.val * 128 + j.val < 4224 then ⟨n.val * 128 + j.val - 128, by omega⟩ else 0

section
variable (Q : Arr 512) (K V : Arr 128) (sink : (⟨2, ![1, 8]⟩ : Shape).Idx → EReal) (gain : (⟨2, ![1, 512]⟩ : Shape).Idx → EReal)

/-- The score of row `r` of chunk `n` in query head `4 k + g` against key slot `j`. -/
def score (b : Fin 4) (n : Fin 32) (k : Fin 2) (g : Fin 4) (r : Fin 128) (j : Fin 384) : EReal :=
  if vis n r j then
    (∑ d : Fin 64, K (ix3 b (pos n j) ⟨k.val * 64 + d.val, by omega⟩) * Q (ix3 b ⟨n.val * 128 + r.val, by omega⟩ ⟨k.val * 256 + g.val * 64 + d.val, by omega⟩)) * ((1 / 8 : ℝ) : EReal)
  else ⊥

/-- The sink of query head `4 k + g`. -/
def sinkOf (k : Fin 2) (g : Fin 4) : EReal := sink (ix2 0 ⟨k.val * 4 + g.val, by omega⟩)

/-- The attention's lane `d` of query head `4 k + g` at row `r` of chunk `n`. -/
def att (b : Fin 4) (n : Fin 32) (k : Fin 2) (g : Fin 4) (r : Fin 128) (d : Fin 64) : EReal :=
  ∑ j : Fin 384, V (ix3 b (pos n j) ⟨k.val * 64 + d.val, by omega⟩) * Ideal.div (wgt (score Q K b n k g r) (sinkOf sink k g) j) (den (score Q K b n k g r) (sinkOf sink k g))

/-- The attention at a position and a lane of the eight heads side by side. -/
def flat (b : Fin 4) (p : Fin 4096) (l : Fin 512) : EReal :=
  att Q K V sink b ⟨p.val / 128, by omega⟩ ⟨l.val / 256, by omega⟩ ⟨l.val / 64 % 4, by omega⟩ ⟨p.val % 128, by omega⟩ ⟨l.val % 64, by omega⟩

/-- The position's reciprocal root mean square. -/
def scale (b : Fin 4) (p : Fin 4096) : EReal :=
  Ideal.rsqrt ((∑ l : Fin 512, flat Q K V sink b p l * flat Q K V sink b p l) * ((1 / 512 : ℝ) : EReal) + Ideal.ofBits .f32 0x358637BD#32)

/-- The result: the attention, normalised over its 512 lanes, times the gain. -/
def out (b : Fin 4) (p : Fin 4096) (l : Fin 512) : EReal :=
  flat Q K V sink b p l * scale Q K V sink b p * gain (ix2 0 l)

end

/-- Sums of products of real numbers are below plus infinity and above minus infinity. -/
theorem sum_real {ι : Type} (S : Finset ι) (f : ι → EReal) (h : ∀ j ∈ S, ∃ x : ℝ, f j = x) : ∃ x : ℝ, ∑ j ∈ S, f j = x := by
  classical
  induction S using Finset.induction_on with
  | empty => exact ⟨0, by simp⟩
  | insert a S ha ih =>
    obtain ⟨x, hx⟩ := ih fun j hj => h j (Finset.mem_insert_of_mem hj)
    obtain ⟨y, hy⟩ := h a (Finset.mem_insert_self _ _)
    exact ⟨y + x, by rw [Finset.sum_insert ha, hx, hy]; push_cast; rfl⟩

/-- A visible slot's score is a real number when the queries and keys are. -/
theorem score_real (Q : Arr 512) (K : Arr 128) (hQ : ∀ i, ∃ x : ℝ, Q i = x) (hK : ∀ i, ∃ x : ℝ, K i = x)
    (b : Fin 4) (n : Fin 32) (k : Fin 2) (g : Fin 4) (r : Fin 128) (j : Fin 384) (h : vis n r j) : ∃ x : ℝ, score Q K b n k g r j = x := by
  unfold score
  rw [if_pos h]
  obtain ⟨x, hx⟩ := sum_real Finset.univ (fun d : Fin 64 => K (ix3 b (pos n j) ⟨k.val * 64 + d.val, by omega⟩) * Q (ix3 b ⟨n.val * 128 + r.val, by omega⟩ ⟨k.val * 256 + g.val * 64 + d.val, by omega⟩)) (fun d _ => by
    obtain ⟨x, hx⟩ := hK (ix3 b (pos n j) ⟨k.val * 64 + d.val, by omega⟩)
    obtain ⟨y, hy⟩ := hQ (ix3 b ⟨n.val * 128 + r.val, by omega⟩ ⟨k.val * 256 + g.val * 64 + d.val, by omega⟩)
    exact ⟨x * y, by rw [hx, hy]; push_cast; rfl⟩)
  exact ⟨x * (1 / 8), by rw [hx]; push_cast; rfl⟩

theorem score_lt (Q : Arr 512) (K : Arr 128) (hQ : ∀ i, ∃ x : ℝ, Q i = x) (hK : ∀ i, ∃ x : ℝ, K i = x)
    (b : Fin 4) (n : Fin 32) (k : Fin 2) (g : Fin 4) (r : Fin 128) (j : Fin 384) : score Q K b n k g r j < ⊤ := by
  by_cases h : vis n r j
  · obtain ⟨x, hx⟩ := score_real Q K hQ hK b n k g r j h; rw [hx]; exact EReal.coe_lt_top x
  · unfold score; rw [if_neg h]; exact bot_lt_top

/-- A row sees its own position, so one of its scores is a real number. -/
theorem score_own (Q : Arr 512) (K : Arr 128) (hQ : ∀ i, ∃ x : ℝ, Q i = x) (hK : ∀ i, ∃ x : ℝ, K i = x)
    (b : Fin 4) (n : Fin 32) (k : Fin 2) (g : Fin 4) (r : Fin 128) : score Q K b n k g r ⟨r.val + 128, by omega⟩ ≠ ⊥ := by
  obtain ⟨x, hx⟩ := score_real Q K hQ hK b n k g r ⟨r.val + 128, by omega⟩ ⟨by show r.val ≤ r.val + 128; omega, by show r.val + 128 ≤ r.val + 256; omega, by show 128 ≤ n.val * 128 + (r.val + 128); omega, by show n.val * 128 + (r.val + 128) < 4224; omega⟩
  rw [hx]; exact EReal.coe_ne_bot x

/-- Every row's normaliser is a positive real number. -/
theorem den_pos (Q : Arr 512) (K : Arr 128) (hQ : ∀ i, ∃ x : ℝ, Q i = x) (hK : ∀ i, ∃ x : ℝ, K i = x) (t : EReal) (ht : t < ⊤)
    (b : Fin 4) (n : Fin 32) (k : Fin 2) (g : Fin 4) (r : Fin 128) : ∃ D : ℝ, 0 < D ∧ den (score Q K b n k g r) t = (D : EReal) :=
  den_real _ t (score_lt Q K hQ hK b n k g r) ht _ (score_own Q K hQ hK b n k g r)

/-- An unseen slot has weight 0. -/
theorem wgt_unseen (Q : Arr 512) (K : Arr 128) (t : EReal) (b : Fin 4) (n : Fin 32) (k : Fin 2) (g : Fin 4) (r : Fin 128) (j : Fin 384) (h : ¬ vis n r j) :
    wgt (score Q K b n k g r) t j = 0 := by
  unfold wgt score
  rw [if_neg h, EReal.bot_sub]
  simp

end Window

end
-- ==== Proof.Swa.RefStages.lean ====
module

public import proofs.«01_k».proof.Proof.Gen.ReferenceIdeal.Read
public import proofs.«01_k».proof.Proof.Swa.Words
public import proofs.«01_k».proof.Proof.Swa.Spec

@[expose] public section

set_option maxRecDepth 16384

noncomputable section

/-! The reference's stages at an index. -/

namespace Cert.ReferenceIdeal.Swa

open Cert.ReferenceIdeal Cert.ReferenceIdeal.Gen Cert.ReferenceIdeal.Read Idealize.ShloMosaic Window

theorem mask_at (n : Fin 32) (r : Fin 128) (j : Fin 384) :
    val_main_v47 (F := Ideal) (ix3 n r j) = BitVec.ofBool (decide (|(j : Int) - 128 - r| ≤ 128 ∧ 0 ≤ n * 128 - 128 + (j : Int) ∧ n * 128 - 128 + (j : Int) < 4096)) := by
  have := n.isLt; have := r.isLt; have := j.isLt
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_c_1 val_main_c_2 val_main_c_3 val_main_c_4 val_main_c_5 val_main_c_6
  pointwise
  simp only [W_nat, W_sub, W_add, W_mul]
  have ha : (0:Int) ≤ |(j : Int) - 128 - r| ∧ |(j : Int) - 128 - r| < 1000 := ⟨abs_nonneg _, by rw [abs_lt]; omega⟩
  push_cast at *
  rw [show (128#32 : BitVec 32) = BitVec.ofInt 32 128 from rfl, show (0#32 : BitVec 32) = BitVec.ofInt 32 0 from rfl, show (4096#32 : BitVec 32) = BitVec.ofInt 32 4096 from rfl]
  rw [W_abs _ (by omega), W_sle _ _ (by omega) (by omega), W_sge _ _ (by omega) (by omega), W_slt _ _ (by omega) (by omega), and_bool, and_bool]
  simp [← Bool.decide_and]

theorem rowmax_at (x0 : Arr 512) (x1 : Arr 128) (b : Fin 4) (n : Fin 32) (k : Fin 2) (g : Fin 4) (r : Fin 128) :
    val_main_v57 (F := Ideal) x0 x1 (ix5 b n k g r) = (Finset.univ : Finset (Fin 384)).fold max (Ideal.ofBits .f32 0xFF800000#32) (fun j => val_main_v53 (F := Ideal) x0 x1 (ix6 b n k g r j)) := by
  unfold val_main_v57
  generalize val_main_v53 (F := Ideal) x0 x1 = y
  rw [Host.reduce_eq_fold_single _ _ _ _ (by decide)]
  refine congrArg (fun f => Finset.fold max _ f _) (funext fun j => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem top_at (x0 : Arr 512) (x1 : Arr 128) (x3 : (⟨2, ![1, 8]⟩ : Shape).Idx → EReal) (b : Fin 4) (n : Fin 32) (k : Fin 2) (g : Fin 4) (r : Fin 128) :
    val_main_v59 (F := Ideal) x0 x1 x3 (ix5 b n k g r) = max ((Finset.univ : Finset (Fin 384)).fold max (Ideal.ofBits .f32 0xFF800000#32) (fun j => val_main_v53 (F := Ideal) x0 x1 (ix6 b n k g r j))) (x3 (ix2 0 ⟨k.val * 4 + g.val, by omega⟩)) := by
  rw [val_main_v59_apply, rowmax_at, val_main_v58_apply, val_main_v56_apply, val_main_v55_apply, val_main_v54_apply]
  refine congrArg (max _) (congrArg x3 (funext fun a => Fin.ext ?_))
  match a with
  | ⟨0, _⟩ => rfl
  | ⟨1, _⟩ => exact Nat.mod_eq_of_lt (by show k.val * 4 + g.val < 8; omega)

theorem weights_at (x0 : Arr 512) (x1 : Arr 128) (x3 : (⟨2, ![1, 8]⟩ : Shape).Idx → EReal) (b : Fin 4) (n : Fin 32) (k : Fin 2) (g : Fin 4) (r : Fin 128)  :
    val_main_v64 (F := Ideal) x0 x1 x3 (ix5 b n k g r) = ∑ j : Fin 384, val_main_v63 (F := Ideal) x0 x1 x3 (ix6 b n k g r j) := by
  rw [val_main_v64_apply]
  show Ideal.ofBits .f32 0 + _ = _
  rw [show Ideal.ofBits .f32 0 = 0 from by simp, zero_add]
  exact Finset.sum_congr rfl fun j _ => congrArg _ (funext fun a => Fin.ext (by match a with | ⟨0, _⟩ => rfl | ⟨1, _⟩ => rfl | ⟨2, _⟩ => rfl | ⟨3, _⟩ => rfl | ⟨4, _⟩ => rfl | ⟨5, _⟩ => rfl))

theorem squares_at (x0 : Arr 512) (x1 x2 : Arr 128) (x3 : (⟨2, ![1, 8]⟩ : Shape).Idx → EReal) (b : Fin 4) (p : Fin 4096) :
    val_main_v76 (F := Ideal) x0 x1 x2 x3 (ix2 b p) = ∑ l : Fin 512, val_main_v74 (F := Ideal) x0 x1 x2 x3 (ix3 b p l) * val_main_v74 (F := Ideal) x0 x1 x2 x3 (ix3 b p l) := by
  rw [val_main_v76_apply]
  show Ideal.ofBits .f32 0 + _ = _
  rw [show Ideal.ofBits .f32 0 = 0 from by simp, zero_add]
  refine Finset.sum_congr rfl fun j _ => ?_
  rw [val_main_v75_apply]
  have : idx_main_v76 (ix2 b p) j = ix3 b p j := funext fun a => Fin.ext (by match a with | ⟨0, _⟩ => rfl | ⟨1, _⟩ => rfl | ⟨2, _⟩ => rfl)
  rw [this]; rfl
theorem result_at (x0 : Arr 512) (x1 x2 : Arr 128) (x3 : (⟨2, ![1, 8]⟩ : Shape).Idx → EReal) (x4 : (⟨S1x512, .f32⟩ : BufTy).Contents (Elt Ideal)) (b : Fin 4) (p : Fin 4096) (l : Fin 512) :
    val_main_v89 (F := Ideal) x0 x1 x2 x3 x4 (ix3 b p l) = val_main_v74 (F := Ideal) x0 x1 x2 x3 (ix3 b p l) * Ideal.rsqrt (Ideal.div (∑ l : Fin 512, val_main_v74 (F := Ideal) x0 x1 x2 x3 (ix3 b p l) * val_main_v74 (F := Ideal) x0 x1 x2 x3 (ix3 b p l)) (Ideal.ofBits .f32 0x44000000#32) + Ideal.ofBits .f32 0x358637BD#32) * x4 (ix2 0 l) := by
  have e : val_main_v87 (F := Ideal) x4 (ix3 b p l) = x4 (ix2 0 l) := by
    unfold val_main_v87 val_main_v86 val_main_v85
    pointwise
  have e' : val_main_v83 (F := Ideal) x0 x1 x2 x3 (ix3 b p l) = val_main_v82 (F := Ideal) x0 x1 x2 x3 (ix3 b p 0) := by
    rw [val_main_v83_apply]
    exact congrArg _ (funext fun a => Fin.ext (by match a with | ⟨0, _⟩ => rfl | ⟨1, _⟩ => rfl | ⟨2, _⟩ => rfl))
  have e2 : val_main_v77 (F := Ideal) x0 x1 x2 x3 (ix3 b p 0) = val_main_v76 (F := Ideal) x0 x1 x2 x3 (ix2 b p) := by
    rw [val_main_v77_apply]
    exact congrArg _ (funext fun a => Fin.ext (by match a with | ⟨0, _⟩ => rfl | ⟨1, _⟩ => rfl))
  rw [val_main_v89_apply, val_main_v88_apply, e, val_main_v84_apply, e', val_main_v82_apply, val_main_v81_apply, val_main_v79_apply, val_main_v80_apply, val_main_v78_apply, e2, squares_at]
  rfl

theorem score_at (x0 : Arr 512) (x1 : Arr 128) (b : Fin 4) (n : Fin 32) (k : Fin 2) (g : Fin 4) (r : Fin 128) (j : Fin 384) :
    val_main_v53 (F := Ideal) x0 x1 (ix6 b n k g r j) = Scalar.select (val_main_v47 (F := Ideal) (ix3 n r j))
      ((∑ d : Fin 64, val_main_v10 (F := Ideal) x1 (ix5 b n j k d) * x0 (ix3 b ⟨n.val * 128 + r.val, by omega⟩ ⟨k.val * 256 + g.val * 64 + d.val, by omega⟩)) * Ideal.ofBits .f32 0x3E000000#32)
      (Ideal.ofBits .f32 0xFF800000#32) := by
  unfold val_main_v53 val_main_call2_v2 val_main_call2_v1 val_main_call2_v0 val_main_v52 val_main_v51 val_main_v50 val_main_v49 val_main_v48 val_main_v0 val_main_cst_7 val_main_cst
  pointwise
  rfl

theorem key_at (x1 : Arr 128) (b : Fin 4) (n : Fin 32) (j : Fin 384) (k : Fin 2) (d : Fin 64) (h : 128 ≤ n.val * 128 + j.val ∧ n.val * 128 + j.val < 4224) :
    val_main_v10 (F := Ideal) x1 (ix5 b n j k d) = x1 (ix3 b (pos n j) ⟨k.val * 64 + d.val, by omega⟩) := by
  have e : ∀ p : Fin 4096, p.val = n.val * 128 + j.val - 128 → p = pos n j := fun p hp => Fin.ext (by unfold pos; rw [dif_pos h]; exact hp)
  unfold val_main_v10 val_main_v7 val_main_v8 val_main_v9 val_main_v3 val_main_v2 val_main_v1 val_main_call0_v0 val_main_c
  pointwise
  split_ifs <;> first | (exfalso; omega) | contradiction | (refine congrArg (fun p : Fin 4096 => x1 (ix3 b p _)) (e _ ?_); first | (dsimp only; done) | (dsimp only; omega))

theorem value_at (x1 : Arr 128) (b : Fin 4) (n : Fin 32) (j : Fin 384) (k : Fin 2) (d : Fin 64) (h : 128 ≤ n.val * 128 + j.val ∧ n.val * 128 + j.val < 4224) :
    val_main_v14 (F := Ideal) x1 (ix5 b n j k d) = x1 (ix3 b (pos n j) ⟨k.val * 64 + d.val, by omega⟩) := by
  have e : ∀ p : Fin 4096, p.val = n.val * 128 + j.val - 128 → p = pos n j := fun p hp => Fin.ext (by unfold pos; rw [dif_pos h]; exact hp)
  unfold val_main_v14 val_main_v11 val_main_v12 val_main_v13 val_main_v6 val_main_v5 val_main_v4 val_main_call1_v0 val_main_c_0
  pointwise
  split_ifs <;> first | (exfalso; omega) | contradiction | (refine congrArg (fun p : Fin 4096 => x1 (ix3 b p _)) (e _ ?_); first | (dsimp only; done) | (dsimp only; omega))

theorem weight_at (x0 : Arr 512) (x1 : Arr 128) (x3 : (⟨2, ![1, 8]⟩ : Shape).Idx → EReal) (b : Fin 4) (n : Fin 32) (k : Fin 2) (g : Fin 4) (r : Fin 128) (j : Fin 384) :
    val_main_v63 (F := Ideal) x0 x1 x3 (ix6 b n k g r j) = Ideal.exp (val_main_v53 (F := Ideal) x0 x1 (ix6 b n k g r j) - val_main_v59 (F := Ideal) x0 x1 x3 (ix5 b n k g r)) := by
  unfold val_main_v63 val_main_v62 val_main_v61 val_main_v60
  pointwise

theorem normalised_at (x0 : Arr 512) (x1 : Arr 128) (x3 : (⟨2, ![1, 8]⟩ : Shape).Idx → EReal) (b : Fin 4) (n : Fin 32) (k : Fin 2) (g : Fin 4) (r : Fin 128) (j : Fin 384) :
    val_main_v71 (F := Ideal) x0 x1 x3 (ix6 b n k g r j) = Ideal.div (val_main_v63 (F := Ideal) x0 x1 x3 (ix6 b n k g r j))
      (val_main_v64 (F := Ideal) x0 x1 x3 (ix5 b n k g r) + Ideal.exp (x3 (ix2 0 ⟨k.val * 4 + g.val, by omega⟩) - val_main_v59 (F := Ideal) x0 x1 x3 (ix5 b n k g r))) := by
  unfold val_main_v71 val_main_v70 val_main_v69 val_main_v68 val_main_v67 val_main_v66 val_main_v65 val_main_v56 val_main_v55 val_main_v54
  generalize val_main_v64 (F := Ideal) x0 x1 x3 = y
  generalize val_main_v63 (F := Ideal) x0 x1 x3 = z
  pointwise

theorem attention_at (x0 : Arr 512) (x1 x2 : Arr 128) (x3 : (⟨2, ![1, 8]⟩ : Shape).Idx → EReal) (b : Fin 4) (p : Fin 4096) (l : Fin 512) :
    val_main_v74 (F := Ideal) x0 x1 x2 x3 (ix3 b p l) = ∑ j : Fin 384, val_main_v14 (F := Ideal) x2 (ix5 b ⟨p.val / 128, by omega⟩ j ⟨l.val / 256, by omega⟩ ⟨l.val % 64, by omega⟩) *
      val_main_v71 (F := Ideal) x0 x1 x3 (ix6 b ⟨p.val / 128, by omega⟩ ⟨l.val / 256, by omega⟩ ⟨l.val / 64 % 4, by omega⟩ ⟨p.val % 128, by omega⟩ j) := by
  unfold val_main_v74 val_main_v73 val_main_v72
  pointwise

end Cert.ReferenceIdeal.Swa

end
-- ==== Proof.Swa.RefValue.lean ====
module

public import proofs.«01_k».proof.Proof.Swa.RefStages

@[expose] public section

set_option maxRecDepth 16384

noncomputable section

/-! The reference's result at an index is the formula. -/

namespace Cert.ReferenceIdeal.Swa

open Cert.ReferenceIdeal Cert.ReferenceIdeal.Gen Cert.ReferenceIdeal.Read Idealize.ShloMosaic Window

theorem vis_iff (n : Fin 32) (r : Fin 128) (j : Fin 384) :
    (|(j : Int) - 128 - r| ≤ 128 ∧ 0 ≤ n * 128 - 128 + (j : Int) ∧ n * 128 - 128 + (j : Int) < 4096) ↔ vis n r j := by
  unfold vis
  rw [abs_le]
  omega

theorem score_eq (x0 : Arr 512) (x1 : Arr 128) (b : Fin 4) (n : Fin 32) (k : Fin 2) (g : Fin 4) (r : Fin 128) :
    (fun j => val_main_v53 (F := Ideal) x0 x1 (ix6 b n k g r j)) = score x0 x1 b n k g r := by
  funext j
  rw [score_at, mask_at]
  unfold score
  simp only [vis_iff]
  by_cases h : vis n r j
  · rw [if_pos h, decide_eq_true h]
    show _ * _ = _ * _
    refine congrArg₂ _ (Finset.sum_congr rfl fun d _ => ?_) ?_
    · rw [key_at x1 b n j k d ⟨h.2.2.1, h.2.2.2⟩]
    · exact lit_eighth
  · rw [if_neg h, decide_eq_false h]
    exact lit_bot

theorem top_eq (x0 : Arr 512) (x1 : Arr 128) (x3 : (⟨2, ![1, 8]⟩ : Shape).Idx → EReal) (b : Fin 4) (n : Fin 32) (k : Fin 2) (g : Fin 4) (r : Fin 128) :
    val_main_v59 (F := Ideal) x0 x1 x3 (ix5 b n k g r) = top (score x0 x1 b n k g r) (sinkOf x3 k g) := by
  rw [top_at, score_eq, lit_bot]
  rfl

theorem weight_eq (x0 : Arr 512) (x1 : Arr 128) (x3 : (⟨2, ![1, 8]⟩ : Shape).Idx → EReal) (b : Fin 4) (n : Fin 32) (k : Fin 2) (g : Fin 4) (r : Fin 128) (j : Fin 384) :
    val_main_v63 (F := Ideal) x0 x1 x3 (ix6 b n k g r j) = wgt (score x0 x1 b n k g r) (sinkOf x3 k g) j := by
  rw [weight_at, top_eq, ← score_eq]
  rfl

theorem flat_eq (x0 : Arr 512) (x1 x2 : Arr 128) (x3 : (⟨2, ![1, 8]⟩ : Shape).Idx → EReal)
    (hQ : ∀ i, ∃ x : ℝ, x0 i = x) (hK : ∀ i, ∃ x : ℝ, x1 i = x) (ht : ∀ i, x3 i < ⊤) (b : Fin 4) (p : Fin 4096) (l : Fin 512) :
    val_main_v74 (F := Ideal) x0 x1 x2 x3 (ix3 b p l) = flat x0 x1 x2 x3 b p l := by
  rw [attention_at]
  unfold flat att
  refine Finset.sum_congr rfl fun j _ => ?_
  rw [normalised_at, weight_eq, weights_at, top_eq]
  simp only [weight_eq]
  by_cases h : vis ⟨p.val / 128, by omega⟩ ⟨p.val % 128, by omega⟩ j
  · rw [value_at _ _ _ _ _ _ ⟨h.2.2.1, h.2.2.2⟩]
    rfl
  · rw [wgt_unseen _ _ _ _ _ _ _ _ _ h]
    obtain ⟨D, hD, e⟩ := den_pos x0 x1 hQ hK (sinkOf x3 ⟨l.val / 256, by omega⟩ ⟨l.val / 64 % 4, by omega⟩) (ht _) b ⟨p.val / 128, by omega⟩ ⟨l.val / 256, by omega⟩ ⟨l.val / 64 % 4, by omega⟩ ⟨p.val % 128, by omega⟩
    show _ * Ideal.div 0 (den _ _) = _ * Ideal.div 0 (den _ _)
    rw [e, Ideal.div_coe hD.ne', zero_mul, mul_zero, mul_zero]

theorem result_eq (x0 : Arr 512) (x1 x2 : Arr 128) (x3 : (⟨2, ![1, 8]⟩ : Shape).Idx → EReal) (x4 : (⟨2, ![1, 512]⟩ : Shape).Idx → EReal)
    (hQ : ∀ i, ∃ x : ℝ, x0 i = x) (hK : ∀ i, ∃ x : ℝ, x1 i = x) (ht : ∀ i, x3 i < ⊤) (b : Fin 4) (p : Fin 4096) (l : Fin 512) :
    val_main_v89 (F := Ideal) x0 x1 x2 x3 x4 (ix3 b p l) = out x0 x1 x2 x3 x4 b p l := by
  rw [result_at]
  simp only [flat_eq x0 x1 x2 x3 hQ hK ht]
  rw [lit_512, Ideal.div_coe (by norm_num)]
  rfl

end Cert.ReferenceIdeal.Swa

end
-- ==== Proof.Swa.Block.lean ====
/- One grid point of the windowed attention, written with one vocabulary for all eight heads: the masked scores of a
   head, the head's output, the sum of two heads in one slab of 128 lanes, the row scale of the norm, and the slab as it
   is stored. `outs_eq` says that the block a point leaves is the four stored slabs. -/
module

public import proofs.«01_k».proof.Proof.Gen.KernelIdeal.Value
public import Idealize.ShloMosaic.Lib.Pipeline.Value

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The window mask of query block `n`. -/
def maskAt (n : BitVec 32) : IVec S128x384 1 :=
  k0_pay19 n (iota Kind.tc S128x384 32 [1] iota_S128x384_d1_w32) k0_pay18

/-- A head's output: keys `ka`, values `va` (each with the other half of the lanes at zero), mask, queries, sink. -/
def headOf (va ka : FVec F S384x128 .bf16) (msk : IVec S128x384 1) (q : Vec F S1x128x128 .bf16) (s : Elt F .f32) :
    FVec F S128x128 .f32 :=
  k0_pay29 va msk (k0_pay20 ka q) s

/-- Two heads side by side in one slab. -/
def slabOf (va vb ka kb : FVec F S384x128 .bf16) (msk : IVec S128x384 1) (q : Vec F S1x128x128 .bf16) (s s' : Elt F .f32) :
    FVec F S128x128 .f32 :=
  addf (headOf va ka msk q s) (headOf vb kb msk q s')

/-- The sum of squares of each row of a slab. -/
def rowSq (x : FVec F S128x128 .f32) : FVec F S128x1 .f32 :=
  shapeCast S128x1 (multiReduction .add [1] S128 (mulf x x) 0x00000000#32 reduces_S128x128_S128 (.inl rfl) rfl)
    shapeCasts_S128_S128x1

/-- The norm's scale of each row, from the four slabs. -/
def rowScale (a b c d : FVec F S128x128 .f32) : FVec F S128x1 .f32 :=
  rsqrt (addf (mulf (addf (addf (addf (addf k0_pay28 (rowSq a)) (rowSq b)) (rowSq c)) (rowSq d))
    (broadcast S128x1 (Scalar.ofBits .f32 0x3B000000#32))) (broadcast S128x1 (Scalar.ofBits .f32 0x358637BD#32)))

/-- A slab as it is stored: times the row scale, times the gain, rounded. -/
def storedOf (o : FVec F S128x128 .f32) (r : FVec F S128x1 .f32) (g : Vec F S1x128 .f32) : FVec F S1x128x128 .bf16 :=
  shapeCast S1x128x128 (truncf .bf16 (mulf (mulf o (broadcastTo S128x128 r broadcasts_S128x1_S128x128))
    (broadcastTo S128x128 (shapeCast S1x128 g shapeCasts_S1x128_S1x128) broadcasts_S1x128_S128x128)) bitsLt_bf16_f32)
    shapeCasts_S128x128_S1x128x128

section Point
variable (c : Dev nD) (t : Fin cfg0.N)

/-- The three key blocks and the three value blocks a point reads. -/
def kb0 : Vec F S1x128x128 .bf16 := View.ld (iblk m c 2 t) (Rect.unit ![0, 0, 0] ![1, 128, 128] inb_S1x128x128_S1x128x128_0_0_0)
def kb1 : Vec F S1x128x128 .bf16 := View.ld (iblk m c 3 t) (Rect.unit ![0, 0, 0] ![1, 128, 128] inb_S1x128x128_S1x128x128_0_0_0)
def kb2 : Vec F S1x128x128 .bf16 := View.ld (iblk m c 4 t) (Rect.unit ![0, 0, 0] ![1, 128, 128] inb_S1x128x128_S1x128x128_0_0_0)
def vb0 : Vec F S1x128x128 .bf16 := View.ld (iblk m c 5 t) (Rect.unit ![0, 0, 0] ![1, 128, 128] inb_S1x128x128_S1x128x128_0_0_0)
def vb1 : Vec F S1x128x128 .bf16 := View.ld (iblk m c 6 t) (Rect.unit ![0, 0, 0] ![1, 128, 128] inb_S1x128x128_S1x128x128_0_0_0)
def vb2 : Vec F S1x128x128 .bf16 := View.ld (iblk m c 7 t) (Rect.unit ![0, 0, 0] ![1, 128, 128] inb_S1x128x128_S1x128x128_0_0_0)

/-- The query slabs. -/
def qb0 : Vec F S1x128x128 .bf16 := View.ld (iblk m c 1 t) (Rect.unit ![0, 0, 0] ![1, 128, 128] inb_S1x128x512_S1x128x128_0_0_0)
def qb1 : Vec F S1x128x128 .bf16 := View.ld (iblk m c 1 t) (Rect.unit ![0, 0, 128] ![1, 128, 128] inb_S1x128x512_S1x128x128_0_0_128)
def qb2 : Vec F S1x128x128 .bf16 := View.ld (iblk m c 1 t) (Rect.unit ![0, 0, 256] ![1, 128, 128] inb_S1x128x512_S1x128x128_0_0_256)
def qb3 : Vec F S1x128x128 .bf16 := View.ld (iblk m c 1 t) (Rect.unit ![0, 0, 384] ![1, 128, 128] inb_S1x128x512_S1x128x128_0_0_384)

/-- The sink words of the eight heads. -/
def sk (h : Fin 8) : Elt F .f32 :=
  View.ld (iblk m c 0 t) (Rect.unit ![0, h.val] ![1, 1] (fun a => by
    match a with
    | ⟨0, _⟩ => exact Nat.le_refl 1
    | ⟨1, _⟩ => exact (by omega : h.val + 1 ≤ 8))) (Shape.Idx.first (show 0 < S1x1.numel from by decide))

/-- The gain's slabs. -/
def gb0 : Vec F S1x128 .f32 := View.ld (iblk m c 8 t) (Rect.unit ![0, 0] ![1, 128] inb_S1x512_S1x128_0_0)
def gb1 : Vec F S1x128 .f32 := View.ld (iblk m c 8 t) (Rect.unit ![0, 128] ![1, 128] inb_S1x512_S1x128_0_128)
def gb2 : Vec F S1x128 .f32 := View.ld (iblk m c 8 t) (Rect.unit ![0, 256] ![1, 128] inb_S1x512_S1x128_0_256)
def gb3 : Vec F S1x128 .f32 := View.ld (iblk m c 8 t) (Rect.unit ![0, 384] ![1, 128] inb_S1x512_S1x128_0_384)

def mk : IVec S128x384 1 := maskAt (BitVec.ofNat 32 ↑(grid0.coords t 1))

/-- The four slabs. Heads 0 to 3 share key and value head 0, heads 4 to 7 share head 1. -/
def slab0 : FVec F S128x128 .f32 :=
  slabOf (k0_pay14 (vb0 m c t) (vb1 m c t) (vb2 m c t)) (k0_pay15 (vb0 m c t) (vb1 m c t) (vb2 m c t))
    (k0_pay10 (kb0 m c t) (kb1 m c t) (kb2 m c t)) (k0_pay11 (kb0 m c t) (kb1 m c t) (kb2 m c t)) (mk t) (qb0 m c t) (sk m c t 0) (sk m c t 1)
def slab1 : FVec F S128x128 .f32 :=
  slabOf (k0_pay14 (vb0 m c t) (vb1 m c t) (vb2 m c t)) (k0_pay15 (vb0 m c t) (vb1 m c t) (vb2 m c t))
    (k0_pay10 (kb0 m c t) (kb1 m c t) (kb2 m c t)) (k0_pay11 (kb0 m c t) (kb1 m c t) (kb2 m c t)) (mk t) (qb1 m c t) (sk m c t 2) (sk m c t 3)
def slab2 : FVec F S128x128 .f32 :=
  slabOf (k0_pay16 (vb0 m c t) (vb1 m c t) (vb2 m c t)) (k0_pay17 (vb0 m c t) (vb1 m c t) (vb2 m c t))
    (k0_pay12 (kb0 m c t) (kb1 m c t) (kb2 m c t)) (k0_pay13 (kb0 m c t) (kb1 m c t) (kb2 m c t)) (mk t) (qb2 m c t) (sk m c t 4) (sk m c t 5)
def slab3 : FVec F S128x128 .f32 :=
  slabOf (k0_pay16 (vb0 m c t) (vb1 m c t) (vb2 m c t)) (k0_pay17 (vb0 m c t) (vb1 m c t) (vb2 m c t))
    (k0_pay12 (kb0 m c t) (kb1 m c t) (kb2 m c t)) (k0_pay13 (kb0 m c t) (kb1 m c t) (kb2 m c t)) (mk t) (qb3 m c t) (sk m c t 6) (sk m c t 7)

/-- The row scale of the point. -/
def rs : FVec F S128x1 .f32 := rowScale (slab0 m c t) (slab1 m c t) (slab2 m c t) (slab3 m c t)

theorem outs_eq : outsAt0 m c t = View.canon (s := S1x128x512) (e := .bf16)
    [⟨Rect.unit ![0, 0, 384] ![1, 128, 128] inb_S1x128x512_S1x128x128_0_0_384, storedOf (slab3 m c t) (rs m c t) (gb3 m c t)⟩,
     ⟨Rect.unit ![0, 0, 256] ![1, 128, 128] inb_S1x128x512_S1x128x128_0_0_256, storedOf (slab2 m c t) (rs m c t) (gb2 m c t)⟩,
     ⟨Rect.unit ![0, 0, 128] ![1, 128, 128] inb_S1x128x512_S1x128x128_0_0_128, storedOf (slab1 m c t) (rs m c t) (gb1 m c t)⟩,
     ⟨Rect.unit ![0, 0, 0] ![1, 128, 128] inb_S1x128x512_S1x128x128_0_0_0, storedOf (slab0 m c t) (rs m c t) (gb0 m c t)⟩] := by
  unfold outsAt0 out0_A_9
  rw [View.read_writes_eq_canon _ _ _ (cover0_A_9 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  refine congrArg View.canon ?_
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))
  · rfl
  · rfl
  · rfl
  · rfl

end Point

end Cert.KernelIdeal.Swa
end
-- ==== Proof.Swa.Head.lean ====
module

public import proofs.«01_k».proof.Proof.Swa.Block
public import proofs.«01_k».proof.Proof.Swa.Words
public import proofs.«01_k».proof.Proof.Swa.Spec

@[expose] public section

set_option maxRecDepth 16384

noncomputable section

/-! A head, a slab, the row scale and a stored slab of the kernel, read at an index over the extended reals. -/

namespace Cert.KernelIdeal.Swa

open Cert.KernelIdeal Cert.KernelIdeal.Gen Idealize.ShloMosaic Window

theorem scores_at (ka : FVec Ideal S384x128 .bf16) (q : Vec Ideal S1x128x128 .bf16) (r : Fin 128) (j : Fin 384) :
    k0_pay20 ka q (ix2 r j) = ∑ x : Fin 128, (q (ix3 0 r x) : EReal) * ka (ix2 j x) := by
  unfold k0_pay20
  pointwise

theorem mask_at (n : Fin 32) (r : Fin 128) (j : Fin 384) : maskAt (BitVec.ofNat 32 n.val) (ix2 r j) = BitVec.ofBool (decide (vis n r j)) := by
  have := n.isLt; have := r.isLt; have := j.isLt
  unfold maskAt k0_pay19 k0_pay18
  dsimp only
  pointwise
  simp only [W_nat, W_add]
  rw [W_sge _ _ (by omega) (by omega), W_sle _ _ (by omega) (by omega), W_sge _ _ (by omega) (by omega),
    W_slt _ _ (by omega) (by omega), W_sgt' _ _ (by omega) (by omega), W_slt' _ _ (by omega) (by omega)]
  simp only [and_bool, or_bool]
  refine congrArg BitVec.ofBool ?_
  rw [Bool.eq_iff_iff]
  simp only [Bool.and_eq_true, Bool.or_eq_true, decide_eq_true_eq]
  unfold vis
  omega

/-- A head's masked scores of one row. -/
def scoreRow (ka : FVec Ideal S384x128 .bf16) (msk : IVec S128x384 1) (q : Vec Ideal S1x128x128 .bf16) (r : Fin 128) (j : Fin 384) : EReal :=
  Scalar.select (msk (ix2 r j)) (k0_pay20 ka q (ix2 r j)) ⊥

theorem head_at (va ka : FVec Ideal S384x128 .bf16) (msk : IVec S128x384 1) (q : Vec Ideal S1x128x128 .bf16) (s : EReal) (r l : Fin 128) :
    headOf (F := Ideal) va ka msk q s (ix2 r l) = (∑ j, wgt (scoreRow ka msk q r) s j * va (ix2 j l)) * Ideal.div 1 (den (scoreRow ka msk q r) s) := by
  unfold headOf k0_pay29
  dsimp only
  generalize hz : k0_pay20 ka q = z
  pointwise
  rw [lit_bot]
  unfold wgt den scoreRow top
  rw [hz]
  rfl

theorem pay10_at (a b c : Vec Ideal S1x128x128 .bf16) (j : Fin 384) (x : Fin 128) :
    k0_pay10 a b c (ix2 j x) = if x.val < 64 then k0_pay4 a b c (ix2 j x) else 0 := by
  unfold k0_pay10 k0_pay9 k0_pay8
  dsimp only
  generalize k0_pay4 a b c = z
  pointwise
  exact select_slt x.val 64 (by omega) (by omega) _ _

theorem pay11_at (a b c : Vec Ideal S1x128x128 .bf16) (j : Fin 384) (x : Fin 128) :
    k0_pay11 a b c (ix2 j x) = if x.val < 64 then 0 else k0_pay4 a b c (ix2 j ⟨(x.val + 64) % 128, by omega⟩) := by
  unfold k0_pay11 k0_pay9 k0_pay8 k0_pay6
  dsimp only
  generalize k0_pay4 a b c = z
  pointwise
  exact select_slt x.val 64 (by omega) (by omega) _ _

theorem pay12_at (a b c : Vec Ideal S1x128x128 .bf16) (j : Fin 384) (x : Fin 128) :
    k0_pay12 a b c (ix2 j x) = if x.val < 64 then k0_pay4 a b c (ix2 j ⟨(x.val + 64) % 128, by omega⟩) else 0 := by
  unfold k0_pay12 k0_pay9 k0_pay8 k0_pay6
  dsimp only
  generalize k0_pay4 a b c = z
  pointwise
  exact select_slt x.val 64 (by omega) (by omega) _ _

theorem pay13_at (a b c : Vec Ideal S1x128x128 .bf16) (j : Fin 384) (x : Fin 128) :
    k0_pay13 a b c (ix2 j x) = if x.val < 64 then 0 else k0_pay4 a b c (ix2 j x) := by
  unfold k0_pay13 k0_pay9 k0_pay8
  dsimp only
  generalize k0_pay4 a b c = z
  pointwise
  exact select_slt x.val 64 (by omega) (by omega) _ _

theorem pay14_at (a b c : Vec Ideal S1x128x128 .bf16) (j : Fin 384) (x : Fin 128) :
    k0_pay14 a b c (ix2 j x) = if x.val < 64 then k0_pay5 a b c (ix2 j x) else 0 := by
  unfold k0_pay14 k0_pay9 k0_pay8
  dsimp only
  generalize k0_pay5 a b c = z
  pointwise
  exact select_slt x.val 64 (by omega) (by omega) _ _

theorem pay15_at (a b c : Vec Ideal S1x128x128 .bf16) (j : Fin 384) (x : Fin 128) :
    k0_pay15 a b c (ix2 j x) = if x.val < 64 then 0 else k0_pay5 a b c (ix2 j ⟨(x.val + 64) % 128, by omega⟩) := by
  unfold k0_pay15 k0_pay9 k0_pay8 k0_pay7
  dsimp only
  generalize k0_pay5 a b c = z
  pointwise
  exact select_slt x.val 64 (by omega) (by omega) _ _

theorem pay16_at (a b c : Vec Ideal S1x128x128 .bf16) (j : Fin 384) (x : Fin 128) :
    k0_pay16 a b c (ix2 j x) = if x.val < 64 then k0_pay5 a b c (ix2 j ⟨(x.val + 64) % 128, by omega⟩) else 0 := by
  unfold k0_pay16 k0_pay9 k0_pay8 k0_pay7
  dsimp only
  generalize k0_pay5 a b c = z
  pointwise
  exact select_slt x.val 64 (by omega) (by omega) _ _

theorem pay17_at (a b c : Vec Ideal S1x128x128 .bf16) (j : Fin 384) (x : Fin 128) :
    k0_pay17 a b c (ix2 j x) = if x.val < 64 then 0 else k0_pay5 a b c (ix2 j x) := by
  unfold k0_pay17 k0_pay9 k0_pay8
  dsimp only
  generalize k0_pay5 a b c = z
  pointwise
  exact select_slt x.val 64 (by omega) (by omega) _ _

theorem pay4_at (a b c : Vec Ideal S1x128x128 .bf16) (j : Fin 384) (x : Fin 128) :
    k0_pay4 a b c (ix2 j x) = if h : j.val < 128 then a (ix3 0 ⟨j.val, h⟩ x) else if h' : j.val < 256 then b (ix3 0 ⟨j.val - 128, by omega⟩ x)
      else c (ix3 0 ⟨j.val - 256, by omega⟩ x) := by
  have := j.isLt
  unfold k0_pay4
  pointwise
  by_cases h : j.val < 128
  · rw [dif_pos h, dif_pos h]
  · rw [dif_neg h, dif_neg h]
    by_cases h' : j.val < 256
    · rw [dif_pos h', dif_pos (by omega)]
    · rw [dif_neg h', dif_neg (by omega)]
      exact congrArg (fun p : Fin 128 => c (ix3 0 p x)) (Fin.ext (by dsimp only; omega))

theorem pay5_at (a b c : Vec Ideal S1x128x128 .bf16) (j : Fin 384) (x : Fin 128) :
    k0_pay5 a b c (ix2 j x) = if h : j.val < 128 then a (ix3 0 ⟨j.val, h⟩ x) else if h' : j.val < 256 then b (ix3 0 ⟨j.val - 128, by omega⟩ x)
      else c (ix3 0 ⟨j.val - 256, by omega⟩ x) := by
  have := j.isLt
  unfold k0_pay5
  pointwise
  by_cases h : j.val < 128
  · rw [dif_pos h, dif_pos h]
  · rw [dif_neg h, dif_neg h]
    by_cases h' : j.val < 256
    · rw [dif_pos h', dif_pos (by omega)]
    · rw [dif_neg h', dif_neg (by omega)]
      exact congrArg (fun p : Fin 128 => c (ix3 0 p x)) (Fin.ext (by dsimp only; omega))

theorem stored_at (o : FVec Ideal S128x128 .f32) (r : FVec Ideal S128x1 .f32) (g : Vec Ideal S1x128 .f32) (i l : Fin 128) :
    storedOf o r g (ix3 0 i l) = o (ix2 i l) * r (ix2 i 0) * g (ix2 0 l) := by
  unfold storedOf
  pointwise

theorem rowScale_at (a b c d : FVec Ideal S128x128 .f32) (i : Fin 128) :
    rowScale a b c d (ix2 i 0) = Ideal.rsqrt ((∑ x, a (ix2 i x) * a (ix2 i x) + ∑ x, b (ix2 i x) * b (ix2 i x) + ∑ x, c (ix2 i x) * c (ix2 i x) + ∑ x, d (ix2 i x) * d (ix2 i x)) * ((1 / 512 : ℝ) : EReal) + Ideal.ofBits .f32 0x358637BD#32) := by
  unfold rowScale rowSq k0_pay28
  pointwise
  rw [lit_inv512]

/-- A sum over 128 lanes of which only one half counts is a sum over that half's 64. -/
theorem sum_half (e : Fin 2) (f : Fin 128 → EReal) (h : ∀ x : Fin 128, x.val / 64 ≠ e.val → f x = 0) :
    ∑ x, f x = ∑ d : Fin 64, f ⟨e.val * 64 + d.val, by omega⟩ := by
  rw [show (∑ x : Fin 128, f x) = ∑ x : Fin (64 + 64), f x from rfl, Fin.sum_univ_add]
  match e, h with
  | ⟨0, _⟩, h =>
    rw [Finset.sum_eq_zero (s := Finset.univ) (f := fun i : Fin 64 => f (Fin.natAdd 64 i)) (fun i _ => h _ (by show (64 + i.val) / 64 ≠ 0; omega)), add_zero]
    exact Finset.sum_congr rfl fun d _ => congrArg f (Fin.ext (by show d.val = 0 * 64 + d.val; omega))
  | ⟨1, _⟩, h =>
    rw [Finset.sum_eq_zero (s := Finset.univ) (f := fun i : Fin 64 => f (Fin.castAdd 64 i)) (fun i _ => h _ (by show i.val / 64 ≠ 1; omega)), zero_add]
    exact Finset.sum_congr rfl fun d _ => congrArg f (Fin.ext (by show 64 + d.val = 1 * 64 + d.val; omega))

section
variable (Q : Arr 512) (K V : Arr 128) (sink : (⟨2, ![1, 8]⟩ : Shape).Idx → EReal) (b : Fin 4) (n : Fin 32)

/-- A block of key or value slots with key head `k` in the half `e` of the lanes and zeros in the other, at the slots of the sequence. -/
def Half (X : Arr 128) (k e : Fin 2) (xa : FVec Ideal S384x128 .bf16) : Prop :=
  ∀ (j : Fin 384) (x : Fin 128), 128 ≤ n.val * 128 + j.val ∧ n.val * 128 + j.val < 4224 →
    xa (ix2 j x) = if x.val / 64 = e.val then X (ix3 b (pos n j) ⟨k.val * 64 + x.val % 64, by omega⟩) else 0

/-- A slab of 128 query lanes, the heads `4 k + 2 h` and `4 k + 2 h + 1`, scaled. -/
def Slab (k h : Fin 2) (q : Vec Ideal S1x128x128 .bf16) : Prop :=
  ∀ r x : Fin 128, q (ix3 0 r x) = Q (ix3 b ⟨n.val * 128 + r.val, by omega⟩ ⟨k.val * 256 + h.val * 128 + x.val, by omega⟩) * ((1 / 8 : ℝ) : EReal)

theorem scoreRow_eq (k h e : Fin 2) (ka : FVec Ideal S384x128 .bf16) (q : Vec Ideal S1x128x128 .bf16)
    (hk : Half b n K k e ka) (hq : Slab Q b n k h q) (r : Fin 128) :
    scoreRow ka (maskAt (BitVec.ofNat 32 n.val)) q r = score Q K b n k ⟨h.val * 2 + e.val, by omega⟩ r := by
  funext j
  unfold scoreRow score
  rw [mask_at]
  by_cases hv : vis n r j
  · rw [if_pos hv, decide_eq_true hv]
    show k0_pay20 ka q (ix2 r j) = _
    rw [scores_at, sum_half e _ (fun x hx => by rw [hk j x ⟨hv.2.2.1, hv.2.2.2⟩, if_neg hx, mul_zero]), sum_mul_coe _ _ _ (by norm_num)]
    refine Finset.sum_congr rfl fun d _ => ?_
    have e1 : (e.val * 64 + d.val) / 64 = e.val := by omega
    rw [hk j _ ⟨hv.2.2.1, hv.2.2.2⟩, if_pos e1, hq, mul_comm, ← mul_assoc]
    refine congrArg₂ _ (congrArg₂ _ (congrArg (fun p => K (ix3 b (pos n j) p)) (Fin.ext ?_)) (congrArg (fun p => Q (ix3 b _ p)) (Fin.ext ?_))) rfl
    · dsimp only; omega
    · dsimp only; omega
  · rw [if_neg hv, decide_eq_false hv]
    rfl

variable (hQ : ∀ i, ∃ x : ℝ, Q i = x) (hK : ∀ i, ∃ x : ℝ, K i = x) (ht : ∀ i, sink i < ⊤)
include hQ hK ht

theorem head_eq (k h e : Fin 2) (va ka : FVec Ideal S384x128 .bf16) (q : Vec Ideal S1x128x128 .bf16)
    (hv : Half b n V k e va) (hk : Half b n K k e ka) (hq : Slab Q b n k h q) (r l : Fin 128) :
    headOf (F := Ideal) va ka (maskAt (BitVec.ofNat 32 n.val)) q (sinkOf sink k ⟨h.val * 2 + e.val, by omega⟩) (ix2 r l)
      = if l.val / 64 = e.val then att Q K V sink b n k ⟨h.val * 2 + e.val, by omega⟩ r ⟨l.val % 64, by omega⟩ else 0 := by
  rw [head_at, scoreRow_eq Q K b n k h e ka q hk hq]
  by_cases hl : l.val / 64 = e.val
  · rw [if_pos hl, normalise_once _ (sinkOf sink k ⟨h.val * 2 + e.val, by omega⟩) (score_lt Q K hQ hK b n k _ r) (ht _) _ (score_own Q K hQ hK b n k _ r)]
    unfold att
    refine Finset.sum_congr rfl fun j _ => ?_
    by_cases hj : vis n r j
    · rw [hv j l ⟨hj.2.2.1, hj.2.2.2⟩, if_pos hl]
    · obtain ⟨D, hD, eD⟩ := den_pos Q K hQ hK (sinkOf sink k ⟨h.val * 2 + e.val, by omega⟩) (ht _) b n k ⟨h.val * 2 + e.val, by omega⟩ r
      rw [wgt_unseen _ _ _ _ _ _ _ _ _ hj, eD, Ideal.div_coe hD.ne', zero_mul, mul_zero, mul_zero]
  · rw [if_neg hl, Finset.sum_eq_zero, zero_mul]
    intro j _
    by_cases hj : vis n r j
    · rw [hv j l ⟨hj.2.2.1, hj.2.2.2⟩, if_neg hl, mul_zero]
    · rw [wgt_unseen _ _ _ _ _ _ _ _ _ hj, zero_mul]

/-- Two heads' slab is the attention at its 128 lanes. -/
theorem slab_eq (k h : Fin 2) (va vb ka kb : FVec Ideal S384x128 .bf16) (q : Vec Ideal S1x128x128 .bf16)
    (hva : Half b n V k 0 va) (hvb : Half b n V k 1 vb) (hka : Half b n K k 0 ka) (hkb : Half b n K k 1 kb) (hq : Slab Q b n k h q) (s s' : EReal)
    (hs : s = sinkOf sink k ⟨h.val * 2 + (0 : Fin 2).val, by omega⟩) (hs' : s' = sinkOf sink k ⟨h.val * 2 + (1 : Fin 2).val, by omega⟩) (r l : Fin 128) :
    slabOf (F := Ideal) va vb ka kb (maskAt (BitVec.ofNat 32 n.val)) q s s' (ix2 r l)
      = flat Q K V sink b ⟨n.val * 128 + r.val, by omega⟩ ⟨k.val * 256 + h.val * 128 + l.val, by omega⟩ := by
  subst hs hs'
  show (headOf (F := Ideal) va ka _ q _ (ix2 r l) : EReal) + headOf (F := Ideal) vb kb _ q _ (ix2 r l) = _
  rw [head_eq Q K V sink b n hQ hK ht k h 0 va ka q hva hka hq r l, head_eq Q K V sink b n hQ hK ht k h 1 vb kb q hvb hkb hq r l]
  have hl := l.isLt
  unfold flat
  have e0 : (⟨(n.val * 128 + r.val) / 128, by omega⟩ : Fin 32) = n := Fin.ext (by dsimp only; omega)
  have e1 : (⟨(k.val * 256 + h.val * 128 + l.val) / 256, by omega⟩ : Fin 2) = k := Fin.ext (by dsimp only; omega)
  have e3 : (⟨(n.val * 128 + r.val) % 128, by omega⟩ : Fin 128) = r := Fin.ext (by dsimp only; omega)
  have e4 : (⟨(k.val * 256 + h.val * 128 + l.val) % 64, by omega⟩ : Fin 64) = ⟨l.val % 64, by omega⟩ := Fin.ext (by dsimp only; omega)
  by_cases hl' : l.val / 64 = 0
  · have e2 : (⟨(k.val * 256 + h.val * 128 + l.val) / 64 % 4, by omega⟩ : Fin 4) = ⟨h.val * 2 + (0 : Fin 2).val, by omega⟩ := Fin.ext (by dsimp only; omega)
    rw [e0, e1, e2, e3, e4]
    rw [if_pos (show l.val / 64 = (0 : Fin 2).val from hl'), if_neg (show ¬ l.val / 64 = (1 : Fin 2).val from by show ¬ l.val / 64 = 1; omega), add_zero]
  · have e2 : (⟨(k.val * 256 + h.val * 128 + l.val) / 64 % 4, by omega⟩ : Fin 4) = ⟨h.val * 2 + (1 : Fin 2).val, by omega⟩ := Fin.ext (by dsimp only; omega)
    rw [e0, e1, e2, e3, e4]
    rw [if_neg (show ¬ l.val / 64 = (0 : Fin 2).val from hl'), if_pos (show l.val / 64 = (1 : Fin 2).val from by show l.val / 64 = 1; omega), zero_add]

end

end Cert.KernelIdeal.Swa

end
-- ==== Proof.Swa.Blocks.lean ====
module

public import proofs.«01_k».proof.Proof.Swa.Head
public import Idealize.ShloMosaic.Lib.Pipeline.ValueKit.Point

@[expose] public section

set_option maxRecDepth 16384

noncomputable section

/-! The blocks a grid point reads, as parts of the arguments: queries, keys, values, sinks and gains. -/

namespace Cert.KernelIdeal.Swa

open Cert.KernelIdeal Cert.KernelIdeal.Gen Idealize.ShloMosaic Idealize.ShloMosaic.TcCoe Window

variable (m : (ℓ : Loc nD τ sig) → Buf (Elt Ideal) ℓ) (c : Dev nD) (t : Fin cfg0.N)

abbrev Q : Arr 512 := m ((c : Thread nD τ).loc main_arg0)
abbrev K : Arr 128 := m ((c : Thread nD τ).loc main_arg1)
abbrev V' : Arr 128 := m ((c : Thread nD τ).loc main_arg2)
abbrev S' : (⟨2, ![1, 8]⟩ : Shape).Idx → EReal := m ((c : Thread nD τ).loc main_arg3)
abbrev G' : (⟨2, ![1, 512]⟩ : Shape).Idx → EReal := m ((c : Thread nD τ).loc main_arg4)

/-- The index maps at point `t`: batch `t / 32`, chunk `t % 32`, with the chunk before (held at the first) and after (held at the last). -/
theorem idx : ∀ t : Fin cfg0.N,
    (win0_0.index t 0 = 0 ∧ win0_0.index t 1 = 0) ∧
    (win0_1.index t 0 = t.val / 32 ∧ win0_1.index t 1 = t.val % 32 ∧ win0_1.index t 2 = 0) ∧
    (win0_2.index t 0 = t.val / 32 ∧ win0_2.index t 1 = t.val % 32 - 1 ∧ win0_2.index t 2 = 0) ∧
    (win0_3.index t 0 = t.val / 32 ∧ win0_3.index t 1 = t.val % 32 ∧ win0_3.index t 2 = 0) ∧
    (win0_4.index t 0 = t.val / 32 ∧ win0_4.index t 1 = min (t.val % 32 + 1) 31 ∧ win0_4.index t 2 = 0) ∧
    (win0_5.index t 0 = t.val / 32 ∧ win0_5.index t 1 = t.val % 32 - 1 ∧ win0_5.index t 2 = 0) ∧
    (win0_6.index t 0 = t.val / 32 ∧ win0_6.index t 1 = t.val % 32 ∧ win0_6.index t 2 = 0) ∧
    (win0_7.index t 0 = t.val / 32 ∧ win0_7.index t 1 = min (t.val % 32 + 1) 31 ∧ win0_7.index t 2 = 0) ∧
    (win0_8.index t 0 = 0 ∧ win0_8.index t 1 = 0) ∧
    (win0_9.index t 0 = t.val / 32 ∧ win0_9.index t 1 = t.val % 32 ∧ win0_9.index t 2 = 0) ∧
    ((grid0.coords t 1 : Nat) = t.val % 32) :=
  (by decide +kernel : ∀ t : Fin grid0.N,
    (win0_0.index t 0 = 0 ∧ win0_0.index t 1 = 0) ∧
    (win0_1.index t 0 = t.val / 32 ∧ win0_1.index t 1 = t.val % 32 ∧ win0_1.index t 2 = 0) ∧
    (win0_2.index t 0 = t.val / 32 ∧ win0_2.index t 1 = t.val % 32 - 1 ∧ win0_2.index t 2 = 0) ∧
    (win0_3.index t 0 = t.val / 32 ∧ win0_3.index t 1 = t.val % 32 ∧ win0_3.index t 2 = 0) ∧
    (win0_4.index t 0 = t.val / 32 ∧ win0_4.index t 1 = min (t.val % 32 + 1) 31 ∧ win0_4.index t 2 = 0) ∧
    (win0_5.index t 0 = t.val / 32 ∧ win0_5.index t 1 = t.val % 32 - 1 ∧ win0_5.index t 2 = 0) ∧
    (win0_6.index t 0 = t.val / 32 ∧ win0_6.index t 1 = t.val % 32 ∧ win0_6.index t 2 = 0) ∧
    (win0_7.index t 0 = t.val / 32 ∧ win0_7.index t 1 = min (t.val % 32 + 1) 31 ∧ win0_7.index t 2 = 0) ∧
    (win0_8.index t 0 = 0 ∧ win0_8.index t 1 = 0) ∧
    (win0_9.index t 0 = t.val / 32 ∧ win0_9.index t 1 = t.val % 32 ∧ win0_9.index t 2 = 0) ∧
    ((grid0.coords t 1 : Nat) = t.val % 32))

abbrev bOf : Fin 4 := ⟨t.val / 32, by have : t.val < 128 := t.isLt; omega⟩
abbrev nOf : Fin 32 := ⟨t.val % 32, by omega⟩

theorem kb0_at (r x : Fin 128) : kb0 m c t (ix3 0 r x) = K m c (ix3 (bOf t) ⟨(t.val % 32 - 1) * 128 + r.val, by omega⟩ x) := by
  unfold kb0
  pointwise
  blk_simp [iblk, idx t]
  entry_read
  pointwise
  blk_ext [idx t]

theorem kb1_at (r x : Fin 128) : kb1 m c t (ix3 0 r x) = K m c (ix3 (bOf t) ⟨(t.val % 32) * 128 + r.val, by omega⟩ x) := by
  unfold kb1
  pointwise
  blk_simp [iblk, idx t]
  entry_read
  pointwise
  blk_ext [idx t]

theorem kb2_at (r x : Fin 128) : kb2 m c t (ix3 0 r x) = K m c (ix3 (bOf t) ⟨(min (t.val % 32 + 1) 31) * 128 + r.val, by omega⟩ x) := by
  unfold kb2
  pointwise
  blk_simp [iblk, idx t]
  entry_read
  pointwise
  blk_ext [idx t]

theorem vb0_at (r x : Fin 128) : vb0 m c t (ix3 0 r x) = V' m c (ix3 (bOf t) ⟨(t.val % 32 - 1) * 128 + r.val, by omega⟩ x) := by
  unfold vb0
  pointwise
  blk_simp [iblk, idx t]
  entry_read
  pointwise
  blk_ext [idx t]

theorem vb1_at (r x : Fin 128) : vb1 m c t (ix3 0 r x) = V' m c (ix3 (bOf t) ⟨(t.val % 32) * 128 + r.val, by omega⟩ x) := by
  unfold vb1
  pointwise
  blk_simp [iblk, idx t]
  entry_read
  pointwise
  blk_ext [idx t]

theorem vb2_at (r x : Fin 128) : vb2 m c t (ix3 0 r x) = V' m c (ix3 (bOf t) ⟨(min (t.val % 32 + 1) 31) * 128 + r.val, by omega⟩ x) := by
  unfold vb2
  pointwise
  blk_simp [iblk, idx t]
  entry_read
  pointwise
  blk_ext [idx t]

theorem qb0_at (r x : Fin 128) : qb0 m c t (ix3 0 r x) = Q m c (ix3 (bOf t) ⟨(t.val % 32) * 128 + r.val, by omega⟩ ⟨x.val, by omega⟩) * ((1 / 8 : ℝ) : EReal) := by
  unfold qb0
  pointwise
  blk_simp [iblk, idx t]
  entry_read
  pointwise
  rw [lit_eighth]
  refine congrArg₂ (· * ·) ?_ rfl
  blk_ext [idx t]

theorem gb0_at (x : Fin 128) : gb0 m c t (ix2 0 x) = G' m c (ix2 0 ⟨x.val, by omega⟩) := by
  unfold gb0
  pointwise
  blk_simp [iblk, idx t]
  entry_read
  pointwise
  blk_ext [idx t]

theorem qb1_at (r x : Fin 128) : qb1 m c t (ix3 0 r x) = Q m c (ix3 (bOf t) ⟨(t.val % 32) * 128 + r.val, by omega⟩ ⟨128 + x.val, by omega⟩) * ((1 / 8 : ℝ) : EReal) := by
  unfold qb1
  pointwise
  blk_simp [iblk, idx t]
  entry_read
  pointwise
  rw [lit_eighth]
  refine congrArg₂ (· * ·) ?_ rfl
  blk_ext [idx t]

theorem gb1_at (x : Fin 128) : gb1 m c t (ix2 0 x) = G' m c (ix2 0 ⟨128 + x.val, by omega⟩) := by
  unfold gb1
  pointwise
  blk_simp [iblk, idx t]
  entry_read
  pointwise
  blk_ext [idx t]

theorem qb2_at (r x : Fin 128) : qb2 m c t (ix3 0 r x) = Q m c (ix3 (bOf t) ⟨(t.val % 32) * 128 + r.val, by omega⟩ ⟨256 + x.val, by omega⟩) * ((1 / 8 : ℝ) : EReal) := by
  unfold qb2
  pointwise
  blk_simp [iblk, idx t]
  entry_read
  pointwise
  rw [lit_eighth]
  refine congrArg₂ (· * ·) ?_ rfl
  blk_ext [idx t]

theorem gb2_at (x : Fin 128) : gb2 m c t (ix2 0 x) = G' m c (ix2 0 ⟨256 + x.val, by omega⟩) := by
  unfold gb2
  pointwise
  blk_simp [iblk, idx t]
  entry_read
  pointwise
  blk_ext [idx t]

theorem qb3_at (r x : Fin 128) : qb3 m c t (ix3 0 r x) = Q m c (ix3 (bOf t) ⟨(t.val % 32) * 128 + r.val, by omega⟩ ⟨384 + x.val, by omega⟩) * ((1 / 8 : ℝ) : EReal) := by
  unfold qb3
  pointwise
  blk_simp [iblk, idx t]
  entry_read
  pointwise
  rw [lit_eighth]
  refine congrArg₂ (· * ·) ?_ rfl
  blk_ext [idx t]

theorem gb3_at (x : Fin 128) : gb3 m c t (ix2 0 x) = G' m c (ix2 0 ⟨384 + x.val, by omega⟩) := by
  unfold gb3
  pointwise
  blk_simp [iblk, idx t]
  entry_read
  pointwise
  blk_ext [idx t]

theorem sk_at (h : Fin 8) : sk m c t h = S' m c (ix2 0 h) := by
  unfold sk
  pointwise
  blk_simp [iblk, idx t]
  entry_read
  pointwise
  blk_ext [idx t]

/-- The three key blocks side by side, at a slot of the sequence. -/
theorem keys_at (j : Fin 384) (x : Fin 128) (h : 128 ≤ t.val % 32 * 128 + j.val ∧ t.val % 32 * 128 + j.val < 4224) :
    k0_pay4 (kb0 m c t) (kb1 m c t) (kb2 m c t) (ix2 j x) = K m c (ix3 (bOf t) (pos (nOf t) j) x) := by
  have e : ∀ p : Fin 4096, p.val = t.val % 32 * 128 + j.val - 128 → p = pos (nOf t) j := fun p hp => Fin.ext (by unfold pos; rw [dif_pos h]; exact hp)
  rw [pay4_at]
  split_ifs
  · rw [kb0_at]; exact congrArg (fun p => K m c (ix3 (bOf t) p x)) (e _ (by first | omega | (dsimp only; done) | (dsimp only; omega)))
  · rw [kb1_at]; exact congrArg (fun p => K m c (ix3 (bOf t) p x)) (e _ (by first | omega | (dsimp only; done) | (dsimp only; omega)))
  · rw [kb2_at]; exact congrArg (fun p => K m c (ix3 (bOf t) p x)) (e _ (by first | omega | (dsimp only; done) | (dsimp only; omega)))

/-- The three value blocks side by side, at a slot of the sequence. -/
theorem values_at (j : Fin 384) (x : Fin 128) (h : 128 ≤ t.val % 32 * 128 + j.val ∧ t.val % 32 * 128 + j.val < 4224) :
    k0_pay5 (vb0 m c t) (vb1 m c t) (vb2 m c t) (ix2 j x) = V' m c (ix3 (bOf t) (pos (nOf t) j) x) := by
  have e : ∀ p : Fin 4096, p.val = t.val % 32 * 128 + j.val - 128 → p = pos (nOf t) j := fun p hp => Fin.ext (by unfold pos; rw [dif_pos h]; exact hp)
  rw [pay5_at]
  split_ifs
  · rw [vb0_at]; exact congrArg (fun p => V' m c (ix3 (bOf t) p x)) (e _ (by first | omega | (dsimp only; done) | (dsimp only; omega)))
  · rw [vb1_at]; exact congrArg (fun p => V' m c (ix3 (bOf t) p x)) (e _ (by first | omega | (dsimp only; done) | (dsimp only; omega)))
  · rw [vb2_at]; exact congrArg (fun p => V' m c (ix3 (bOf t) p x)) (e _ (by first | omega | (dsimp only; done) | (dsimp only; omega)))

theorem half10 : Half (bOf t) (nOf t) (K m c) 0 0 (k0_pay10 (kb0 m c t) (kb1 m c t) (kb2 m c t)) := by
  intro j x h
  have hx := x.isLt
  rw [pay10_at]
  by_cases hl : x.val < 64
  · rw [if_pos hl]
    rw [if_pos (show x.val / 64 = (0 : Fin 2).val from by show x.val / 64 = 0; omega), keys_at m c t j _ h]; exact congrArg (fun p => (K m c) (ix3 (bOf t) (pos (nOf t) j) p)) (Fin.ext (by show _ = 0 * 64 + x.val % 64; first | omega | (dsimp only; done) | (dsimp only; omega)))
  · rw [if_neg hl]
    rw [if_neg (show ¬ x.val / 64 = (0 : Fin 2).val from by show ¬ x.val / 64 = 0; omega)]

theorem half11 : Half (bOf t) (nOf t) (K m c) 0 1 (k0_pay11 (kb0 m c t) (kb1 m c t) (kb2 m c t)) := by
  intro j x h
  have hx := x.isLt
  rw [pay11_at]
  by_cases hl : x.val < 64
  · rw [if_pos hl]
    rw [if_neg (show ¬ x.val / 64 = (1 : Fin 2).val from by show ¬ x.val / 64 = 1; omega)]
  · rw [if_neg hl]
    rw [if_pos (show x.val / 64 = (1 : Fin 2).val from by show x.val / 64 = 1; omega), keys_at m c t j _ h]; exact congrArg (fun p => (K m c) (ix3 (bOf t) (pos (nOf t) j) p)) (Fin.ext (by show _ = 0 * 64 + x.val % 64; first | omega | (dsimp only; done) | (dsimp only; omega)))

theorem half12 : Half (bOf t) (nOf t) (K m c) 1 0 (k0_pay12 (kb0 m c t) (kb1 m c t) (kb2 m c t)) := by
  intro j x h
  have hx := x.isLt
  rw [pay12_at]
  by_cases hl : x.val < 64
  · rw [if_pos hl]
    rw [if_pos (show x.val / 64 = (0 : Fin 2).val from by show x.val / 64 = 0; omega), keys_at m c t j _ h]; exact congrArg (fun p => (K m c) (ix3 (bOf t) (pos (nOf t) j) p)) (Fin.ext (by show _ = 1 * 64 + x.val % 64; first | omega | (dsimp only; done) | (dsimp only; omega)))
  · rw [if_neg hl]
    rw [if_neg (show ¬ x.val / 64 = (0 : Fin 2).val from by show ¬ x.val / 64 = 0; omega)]

theorem half13 : Half (bOf t) (nOf t) (K m c) 1 1 (k0_pay13 (kb0 m c t) (kb1 m c t) (kb2 m c t)) := by
  intro j x h
  have hx := x.isLt
  rw [pay13_at]
  by_cases hl : x.val < 64
  · rw [if_pos hl]
    rw [if_neg (show ¬ x.val / 64 = (1 : Fin 2).val from by show ¬ x.val / 64 = 1; omega)]
  · rw [if_neg hl]
    rw [if_pos (show x.val / 64 = (1 : Fin 2).val from by show x.val / 64 = 1; omega), keys_at m c t j _ h]; exact congrArg (fun p => (K m c) (ix3 (bOf t) (pos (nOf t) j) p)) (Fin.ext (by show _ = 1 * 64 + x.val % 64; first | omega | (dsimp only; done) | (dsimp only; omega)))

theorem half14 : Half (bOf t) (nOf t) (V' m c) 0 0 (k0_pay14 (vb0 m c t) (vb1 m c t) (vb2 m c t)) := by
  intro j x h
  have hx := x.isLt
  rw [pay14_at]
  by_cases hl : x.val < 64
  · rw [if_pos hl]
    rw [if_pos (show x.val / 64 = (0 : Fin 2).val from by show x.val / 64 = 0; omega), values_at m c t j _ h]; exact congrArg (fun p => (V' m c) (ix3 (bOf t) (pos (nOf t) j) p)) (Fin.ext (by show _ = 0 * 64 + x.val % 64; first | omega | (dsimp only; done) | (dsimp only; omega)))
  · rw [if_neg hl]
    rw [if_neg (show ¬ x.val / 64 = (0 : Fin 2).val from by show ¬ x.val / 64 = 0; omega)]

theorem half15 : Half (bOf t) (nOf t) (V' m c) 0 1 (k0_pay15 (vb0 m c t) (vb1 m c t) (vb2 m c t)) := by
  intro j x h
  have hx := x.isLt
  rw [pay15_at]
  by_cases hl : x.val < 64
  · rw [if_pos hl]
    rw [if_neg (show ¬ x.val / 64 = (1 : Fin 2).val from by show ¬ x.val / 64 = 1; omega)]
  · rw [if_neg hl]
    rw [if_pos (show x.val / 64 = (1 : Fin 2).val from by show x.val / 64 = 1; omega), values_at m c t j _ h]; exact congrArg (fun p => (V' m c) (ix3 (bOf t) (pos (nOf t) j) p)) (Fin.ext (by show _ = 0 * 64 + x.val % 64; first | omega | (dsimp only; done) | (dsimp only; omega)))

theorem half16 : Half (bOf t) (nOf t) (V' m c) 1 0 (k0_pay16 (vb0 m c t) (vb1 m c t) (vb2 m c t)) := by
  intro j x h
  have hx := x.isLt
  rw [pay16_at]
  by_cases hl : x.val < 64
  · rw [if_pos hl]
    rw [if_pos (show x.val / 64 = (0 : Fin 2).val from by show x.val / 64 = 0; omega), values_at m c t j _ h]; exact congrArg (fun p => (V' m c) (ix3 (bOf t) (pos (nOf t) j) p)) (Fin.ext (by show _ = 1 * 64 + x.val % 64; first | omega | (dsimp only; done) | (dsimp only; omega)))
  · rw [if_neg hl]
    rw [if_neg (show ¬ x.val / 64 = (0 : Fin 2).val from by show ¬ x.val / 64 = 0; omega)]

theorem half17 : Half (bOf t) (nOf t) (V' m c) 1 1 (k0_pay17 (vb0 m c t) (vb1 m c t) (vb2 m c t)) := by
  intro j x h
  have hx := x.isLt
  rw [pay17_at]
  by_cases hl : x.val < 64
  · rw [if_pos hl]
    rw [if_neg (show ¬ x.val / 64 = (1 : Fin 2).val from by show ¬ x.val / 64 = 1; omega)]
  · rw [if_neg hl]
    rw [if_pos (show x.val / 64 = (1 : Fin 2).val from by show x.val / 64 = 1; omega), values_at m c t j _ h]; exact congrArg (fun p => (V' m c) (ix3 (bOf t) (pos (nOf t) j) p)) (Fin.ext (by show _ = 1 * 64 + x.val % 64; first | omega | (dsimp only; done) | (dsimp only; omega)))

theorem queries0 : Slab (Q m c) (bOf t) (nOf t) 0 0 (qb0 m c t) := by
  intro r x
  rw [qb0_at]
  exact congrArg (fun p => Q m c (ix3 (bOf t) _ p) * ((1 / 8 : ℝ) : EReal)) (Fin.ext (by show _ = 0 * 256 + 0 * 128 + x.val; first | omega | (dsimp only; done) | (dsimp only; omega)))

theorem queries1 : Slab (Q m c) (bOf t) (nOf t) 0 1 (qb1 m c t) := by
  intro r x
  rw [qb1_at]
  exact congrArg (fun p => Q m c (ix3 (bOf t) _ p) * ((1 / 8 : ℝ) : EReal)) (Fin.ext (by show _ = 0 * 256 + 1 * 128 + x.val; first | omega | (dsimp only; done) | (dsimp only; omega)))

theorem queries2 : Slab (Q m c) (bOf t) (nOf t) 1 0 (qb2 m c t) := by
  intro r x
  rw [qb2_at]
  exact congrArg (fun p => Q m c (ix3 (bOf t) _ p) * ((1 / 8 : ℝ) : EReal)) (Fin.ext (by show _ = 1 * 256 + 0 * 128 + x.val; first | omega | (dsimp only; done) | (dsimp only; omega)))

theorem queries3 : Slab (Q m c) (bOf t) (nOf t) 1 1 (qb3 m c t) := by
  intro r x
  rw [qb3_at]
  exact congrArg (fun p => Q m c (ix3 (bOf t) _ p) * ((1 / 8 : ℝ) : EReal)) (Fin.ext (by show _ = 1 * 256 + 1 * 128 + x.val; first | omega | (dsimp only; done) | (dsimp only; omega)))

end Cert.KernelIdeal.Swa

end
-- ==== Proof.Swa.Final.lean ====
module

public import proofs.«01_k».proof.Proof.Swa.Blocks

@[expose] public section

set_option maxRecDepth 16384

noncomputable section

/-! The kernel's result array is the formula, when the queries and keys are real and no sink is plus infinity. -/

namespace Cert.KernelIdeal.Swa

open Cert.KernelIdeal Cert.KernelIdeal.Gen Cert.KernelIdeal.Value Idealize.ShloMosaic Idealize.ShloMosaic.TcCoe Window
open Idealize.ShloMosaic.Pipeline (Dat)

variable (m : (ℓ : Loc nD τ sig) → Buf (Elt Ideal) ℓ) (c : Dev nD) (t : Fin cfg0.N)

/-- The result as one array. -/
def Out : Arr 512 := fun i => out (Q m c) (K m c) (V' m c) (S' m c) (G' m c) (i 0) (i 1) (i 2)

variable (hQ : ∀ i, ∃ x : ℝ, Q m c i = x) (hK : ∀ i, ∃ x : ℝ, K m c i = x) (ht : ∀ i, S' m c i < ⊤)
theorem mk_eq : mk t = maskAt (BitVec.ofNat 32 (nOf t).val) := by
  unfold mk
  rw [(idx t).2.2.2.2.2.2.2.2.2.2]

include hQ hK ht

theorem slab0_at (r l : Fin 128) : slab0 m c t (ix2 r l) = flat (Q m c) (K m c) (V' m c) (S' m c) (bOf t) ⟨(nOf t).val * 128 + r.val, by omega⟩ ⟨0 + l.val, by omega⟩ := by
  unfold slab0
  rw [mk_eq]
  refine (slab_eq (Q m c) (K m c) (V' m c) (S' m c) (bOf t) (nOf t) hQ hK ht 0 0 _ _ _ _ _ (half14 m c t) (half15 m c t) (half10 m c t) (half11 m c t) (queries0 m c t) _ _ ?_ ?_ r l).trans ?_
  · rw [sk_at]; rfl
  · rw [sk_at]; rfl
  · exact congrArg (flat (Q m c) (K m c) (V' m c) (S' m c) (bOf t) _) (Fin.ext (by show 0 * 256 + 0 * 128 + l.val = 0 + l.val; omega))

theorem slab1_at (r l : Fin 128) : slab1 m c t (ix2 r l) = flat (Q m c) (K m c) (V' m c) (S' m c) (bOf t) ⟨(nOf t).val * 128 + r.val, by omega⟩ ⟨128 + l.val, by omega⟩ := by
  unfold slab1
  rw [mk_eq]
  refine (slab_eq (Q m c) (K m c) (V' m c) (S' m c) (bOf t) (nOf t) hQ hK ht 0 1 _ _ _ _ _ (half14 m c t) (half15 m c t) (half10 m c t) (half11 m c t) (queries1 m c t) _ _ ?_ ?_ r l).trans ?_
  · rw [sk_at]; rfl
  · rw [sk_at]; rfl
  · exact congrArg (flat (Q m c) (K m c) (V' m c) (S' m c) (bOf t) _) (Fin.ext (by show 0 * 256 + 1 * 128 + l.val = 128 + l.val; omega))

theorem slab2_at (r l : Fin 128) : slab2 m c t (ix2 r l) = flat (Q m c) (K m c) (V' m c) (S' m c) (bOf t) ⟨(nOf t).val * 128 + r.val, by omega⟩ ⟨256 + l.val, by omega⟩ := by
  unfold slab2
  rw [mk_eq]
  refine (slab_eq (Q m c) (K m c) (V' m c) (S' m c) (bOf t) (nOf t) hQ hK ht 1 0 _ _ _ _ _ (half16 m c t) (half17 m c t) (half12 m c t) (half13 m c t) (queries2 m c t) _ _ ?_ ?_ r l).trans ?_
  · rw [sk_at]; rfl
  · rw [sk_at]; rfl
  · exact congrArg (flat (Q m c) (K m c) (V' m c) (S' m c) (bOf t) _) (Fin.ext (by show 1 * 256 + 0 * 128 + l.val = 256 + l.val; omega))

theorem slab3_at (r l : Fin 128) : slab3 m c t (ix2 r l) = flat (Q m c) (K m c) (V' m c) (S' m c) (bOf t) ⟨(nOf t).val * 128 + r.val, by omega⟩ ⟨384 + l.val, by omega⟩ := by
  unfold slab3
  rw [mk_eq]
  refine (slab_eq (Q m c) (K m c) (V' m c) (S' m c) (bOf t) (nOf t) hQ hK ht 1 1 _ _ _ _ _ (half16 m c t) (half17 m c t) (half12 m c t) (half13 m c t) (queries3 m c t) _ _ ?_ ?_ r l).trans ?_
  · rw [sk_at]; rfl
  · rw [sk_at]; rfl
  · exact congrArg (flat (Q m c) (K m c) (V' m c) (S' m c) (bOf t) _) (Fin.ext (by show 1 * 256 + 1 * 128 + l.val = 384 + l.val; omega))

omit hQ hK ht in
theorem sum_lanes (f : Fin 512 → EReal) : ∑ l, f l = (∑ x : Fin 128, f ⟨0 + x.val, by omega⟩) + (∑ x : Fin 128, f ⟨128 + x.val, by omega⟩)
    + (∑ x : Fin 128, f ⟨256 + x.val, by omega⟩) + (∑ x : Fin 128, f ⟨384 + x.val, by omega⟩) := by
  rw [show (∑ l : Fin 512, f l) = ∑ l : Fin (128 + 128 + 128 + 128), f l from rfl, Fin.sum_univ_add, Fin.sum_univ_add, Fin.sum_univ_add]
  refine congrArg₂ (· + ·) (congrArg₂ (· + ·) (congrArg₂ (· + ·) ?_ rfl) rfl) rfl
  exact Finset.sum_congr rfl fun x _ => congrArg f (Fin.ext (by show x.val = 0 + x.val; omega))

theorem rs_at (r : Fin 128) : rs m c t (ix2 r 0) = scale (Q m c) (K m c) (V' m c) (S' m c) (bOf t) ⟨(nOf t).val * 128 + r.val, by omega⟩ := by
  unfold rs scale
  rw [rowScale_at, sum_lanes]
  simp only [slab0_at m c t hQ hK ht, slab1_at m c t hQ hK ht, slab2_at m c t hQ hK ht, slab3_at m c t hQ hK ht]

/-- What a point leaves, as a function of the block's index. -/
def blockOf : (⟨3, ![1, 128, 512]⟩ : Shape).Idx → EReal := fun y =>
  out (Q m c) (K m c) (V' m c) (S' m c) (G' m c) (bOf t) ⟨(nOf t).val * 128 + (y 1).val, by have := (y 1).isLt; have : (y 1).val < 128 := this; omega⟩ (y 2)

omit hQ hK ht in
theorem blockOf_at (y : (⟨3, ![1, 128, 512]⟩ : Shape).Idx) (r : Fin 128) (l : Fin 512) (h1 : (y 1).val = r.val) (h2 : (y 2).val = l.val) :
    blockOf m c t y = out (Q m c) (K m c) (V' m c) (S' m c) (G' m c) (bOf t) ⟨(nOf t).val * 128 + r.val, by omega⟩ l := by
  unfold blockOf
  refine congrArg₂ (out (Q m c) (K m c) (V' m c) (S' m c) (G' m c) (bOf t)) (Fin.ext ?_) (Fin.ext h2)
  show _ * 128 + (y 1).val = _ * 128 + r.val
  rw [h1]

omit hQ hK ht in
theorem mem_slab (y : (⟨3, ![1, 128, 512]⟩ : Shape).Idx) (o : Nat) (inb) (h : o ≤ (y 2).val ∧ (y 2).val < o + 128) :
    y ∈ (Rect.unit (s := ⟨3, ![1, 128, 512]⟩) ![0, 0, o] ![1, 128, 128] inb).set := by
  refine Rect.mem_set_unit.mpr fun a => ?_
  match a with
  | ⟨0, _⟩ => exact ⟨Nat.zero_le _, (y 0).isLt⟩
  | ⟨1, _⟩ => exact ⟨Nat.zero_le _, by show (y 1).val < 0 + 128; rw [Nat.zero_add]; exact (y 1).isLt⟩
  | ⟨2, _⟩ => exact h

/-- The block a point leaves, at an index. -/
theorem outs_at (y : (⟨3, ![1, 128, 512]⟩ : Shape).Idx) : outsAt0 m c t y = blockOf m c t y := by
  rw [outs_eq]
  refine View.canon_apply_of_pieces (Val := Elt Ideal) (e := .bf16) (blockOf m c t) _ ?_ y ?_
  · intro p hp x
    simp only [List.mem_cons, List.not_mem_nil, or_false] at hp
    rcases hp with rfl | rfl | rfl | rfl
    · obtain ⟨a, r, l, rfl⟩ : ∃ (a : Fin 1) (r l : Fin 128), x = ix3 a r l := ⟨x 0, x 1, x 2, by funext a; match a with | ⟨0, _⟩ => rfl | ⟨1, _⟩ => rfl | ⟨2, _⟩ => rfl⟩
      obtain rfl : a = 0 := Subsingleton.elim _ _
      refine (stored_at _ _ _ r l).trans ?_
      rw [slab3_at m c t hQ hK ht, rs_at m c t hQ hK ht, gb3_at]
      exact (blockOf_at m c t _ r ⟨384 + l.val, by omega⟩ (by show 0 + 1 * r.val = r.val; omega) (by show 384 + 1 * l.val = 384 + l.val; omega)).symm
    · obtain ⟨a, r, l, rfl⟩ : ∃ (a : Fin 1) (r l : Fin 128), x = ix3 a r l := ⟨x 0, x 1, x 2, by funext a; match a with | ⟨0, _⟩ => rfl | ⟨1, _⟩ => rfl | ⟨2, _⟩ => rfl⟩
      obtain rfl : a = 0 := Subsingleton.elim _ _
      refine (stored_at _ _ _ r l).trans ?_
      rw [slab2_at m c t hQ hK ht, rs_at m c t hQ hK ht, gb2_at]
      exact (blockOf_at m c t _ r ⟨256 + l.val, by omega⟩ (by show 0 + 1 * r.val = r.val; omega) (by show 256 + 1 * l.val = 256 + l.val; omega)).symm
    · obtain ⟨a, r, l, rfl⟩ : ∃ (a : Fin 1) (r l : Fin 128), x = ix3 a r l := ⟨x 0, x 1, x 2, by funext a; match a with | ⟨0, _⟩ => rfl | ⟨1, _⟩ => rfl | ⟨2, _⟩ => rfl⟩
      obtain rfl : a = 0 := Subsingleton.elim _ _
      refine (stored_at _ _ _ r l).trans ?_
      rw [slab1_at m c t hQ hK ht, rs_at m c t hQ hK ht, gb1_at]
      exact (blockOf_at m c t _ r ⟨128 + l.val, by omega⟩ (by show 0 + 1 * r.val = r.val; omega) (by show 128 + 1 * l.val = 128 + l.val; omega)).symm
    · obtain ⟨a, r, l, rfl⟩ : ∃ (a : Fin 1) (r l : Fin 128), x = ix3 a r l := ⟨x 0, x 1, x 2, by funext a; match a with | ⟨0, _⟩ => rfl | ⟨1, _⟩ => rfl | ⟨2, _⟩ => rfl⟩
      obtain rfl : a = 0 := Subsingleton.elim _ _
      refine (stored_at _ _ _ r l).trans ?_
      rw [slab0_at m c t hQ hK ht, rs_at m c t hQ hK ht, gb0_at]
      rw [show (⟨0 + l.val, by omega⟩ : Fin 512) = ⟨l.val, by omega⟩ from Fin.ext (Nat.zero_add _)]
      exact (blockOf_at m c t _ r ⟨l.val, by omega⟩ (by show 0 + 1 * r.val = r.val; omega) (by show 0 + 1 * l.val = l.val; omega)).symm
  · have h2 : (y 2).val < 512 := (y 2).isLt
    rcases Nat.lt_or_ge (y 2).val 128 with a | a
    · exact ⟨_, List.mem_cons_of_mem _ (List.mem_cons_of_mem _ (List.mem_cons_of_mem _ List.mem_cons_self)), mem_slab y 0 inb_S1x128x512_S1x128x128_0_0_0 ⟨Nat.zero_le _, by omega⟩⟩
    rcases Nat.lt_or_ge (y 2).val 256 with b | b
    · exact ⟨_, List.mem_cons_of_mem _ (List.mem_cons_of_mem _ List.mem_cons_self), mem_slab y 128 inb_S1x128x512_S1x128x128_0_0_128 ⟨a, by omega⟩⟩
    rcases Nat.lt_or_ge (y 2).val 384 with d | d
    · exact ⟨_, List.mem_cons_of_mem _ List.mem_cons_self, mem_slab y 256 inb_S1x128x512_S1x128x128_0_0_256 ⟨b, by omega⟩⟩
    · exact ⟨_, List.mem_cons_self, mem_slab y 384 inb_S1x128x512_S1x128x128_0_0_384 ⟨d, by omega⟩⟩

theorem final : (dats m 0 c).arrAt 9 cfg0.N = Out m c := by
  refine (dats m 0 c).arrAt_eq_of_covers 9 _ (by decide +kernel) fun t hf y => ?_
  blk_simp
  rw [after0_9, outs_at m c t hQ hK ht]
  have h0 : (y 0).val < 1 := (y 0).isLt
  have e0 : (((win0_9.blk t).view.emb y) 0).val = (bOf t).val := by
    blk_simp [idx t]
  have e1 : (((win0_9.blk t).view.emb y) 1).val = (nOf t).val * 128 + (y 1).val := by blk_simp [idx t]
  have e2 : (((win0_9.blk t).view.emb y) 2).val = (y 2).val := by
    blk_simp [idx t]
  unfold blockOf Out
  rw [show bOf t = ((win0_9.blk t).view.emb y) 0 from Fin.ext e0.symm]
  exact congrArg₂ (out (Q m c) (K m c) (V' m c) (S' m c) (G' m c) _) (Fin.ext e1.symm) (Fin.ext e2.symm)

end Cert.KernelIdeal.Swa

end
-- ==== Proof.Swa.Finite.lean ====
module

public import proofs.«01_k».proof.Defs
public import proofs.«01_k».proof.Proof.Swa.Spec

@[expose] public section

set_option maxRecDepth 16384

noncomputable section

/-! What the precondition says: every query and key is a real number and no sink is plus infinity. -/

namespace Window

open Idealize.ShloMosaic

instance facts : Cert.Pre_finite_scores.Facts := ⟨by decide, by decide, by decide⟩

theorem inf_word : Ideal.ofBits .f32 0x7F800000#32 = ⊤ := by
  simp [Ideal.ofBits, Ideal.ieee, -EReal.coe_mul]

theorem ofBool_one (p : Bool) : (BitVec.ofBool p = 1#1) ↔ p = true := by cases p <;> decide

theorem real_of_abs (x : EReal) (h : max x (-x) < ⊤) : ∃ r : ℝ, x = r := by
  induction x with
  | bot => simp at h
  | top => simp at h
  | coe r => exact ⟨r, rfl⟩

open Cert.Pre_finite_scores in
theorem finite_of (q : FVec Ideal S4x4096x512 .f32) (k v : FVec Ideal S4x4096x128 .f32) (s : FVec Ideal S1x8 .f32) (g : FVec Ideal S1x512 .f32)
    (h : (fn q k v s g).1 = (fun _ => 1#1) ∧ (fn q k v s g).2.1 = (fun _ => 1#1) ∧ (fn q k v s g).2.2 = (fun _ => 1#1)) :
    (∀ i, ∃ x : ℝ, q i = x) ∧ (∀ i, ∃ x : ℝ, k i = x) ∧ ∀ i, s i < ⊤ := by
  obtain ⟨h1, h2, h3⟩ := h
  refine ⟨fun i => real_of_abs _ ?_, fun i => real_of_abs _ ?_, fun i => ?_⟩
  · have e : BitVec.ofBool (decide (max (q i) (-q i) < Ideal.ofBits .f32 0x7F800000#32)) = 1#1 := congrFun h1 i
    rw [ofBool_one, inf_word] at e
    exact of_decide_eq_true e
  · have e : BitVec.ofBool (decide (max (k i) (-k i) < Ideal.ofBits .f32 0x7F800000#32)) = 1#1 := congrFun h2 i
    rw [ofBool_one, inf_word] at e
    exact of_decide_eq_true e
  · have e : BitVec.ofBool (decide (s i < Ideal.ofBits .f32 0x7F800000#32)) = 1#1 := congrFun h3 i
    rw [ofBool_one, inf_word] at e
    exact of_decide_eq_true e

end Window

end
-- ==== Proof.Experts.Runs.lean ====
/- One point of the experts' kernel, run in each of its three ways: the tile's expert is new (its weights are copied into
   the two scratch buffers first), the expert is the one of the tile before (the scratch buffers are read as they are),
   or the tile is past the ones in use (nothing is touched). -/
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables (a tile's expert; how many tiles are in use) and the two scratch buffers, whole. -/
abbrev teM : Memref sig .tc .smem S159 .i32 := Memref.whole main_arg0
abbrev ntM : Memref sig .tc .smem S1 .i32 := Memref.whole main_arg1
abbrev wguM : Memref sig .tc .vmem S1024x512 .bf16 := Memref.whole cc0_scratch0
abbrev wdM : Memref sig .tc .vmem S256x1024 .bf16 := Memref.whole cc0_scratch1

/-- The word the body reads of the second table. -/
abbrev inUse (T1 : S1.Idx → Elt F .i32) : Elt F .i32 :=
  View.readAt (Elt F) ntM.view (Rect.unit (s := S1) ![0] S1.size inb_S1_S1_0).toLoadRect T1 (Shape.Idx.first (numel1_S1.symm ▸ Nat.one_pos))
/-- The words it reads of the first: this tile's expert and the expert of the tile before. -/
abbrev expertAt (T0 : S159.Idx → Elt F .i32) (i : grid0.Coords) : Elt F .i32 :=
  View.readAt (Elt F) teM.view (Rect.unit (s := S159) (k0_off2 i) S1.size (k0_off2_inb i)).toLoadRect T0 (Shape.Idx.first (numel1_S1.symm ▸ Nat.one_pos))
abbrev expertBefore (T0 : S159.Idx → Elt F .i32) (i : grid0.Coords) : Elt F .i32 :=
  View.readAt (Elt F) teM.view (Rect.unit (s := S159) (k0_off3 i) S1.size (k0_off3_inb i)).toLoadRect T0 (Shape.Idx.first (numel1_S1.symm ▸ Nat.one_pos))

/-- The tile is in use, and its expert is new: the two decisions of the body, as it computes them. -/
abbrev Used (T1 : S1.Idx → Elt F .i32) (i : grid0.Coords) : Prop := k0_cond1 i (inUse T1) = 1#1
abbrev Fresh (T0 : S159.Idx → Elt F .i32) (i : grid0.Coords) : Prop :=
  Scalar.cmpi .ne (Scalar.extui (Scalar.ori (Scalar.cmpi .eq (BitVec.ofNat 32 (i 0).val) 0#32)
    (Scalar.cmpi .ne (expertAt T0 i) (expertBefore T0 i)))) 0#32 = 1#1

variable (c : Dev nD) (i : grid0.Coords)
  (arg3 : Memref sig .tc .vmem S256x1024 .f32) (harg3 : arg3.IsWhole) (arg4 : Memref sig .tc .vmem S1x1024x256 .f32) (harg4 : arg4.IsWhole)
  (arg5 : Memref sig .tc .vmem S1x1024x256 .f32) (harg5 : arg5.IsWhole) (arg6 : Memref sig .tc .vmem S1x256x1024 .f32) (harg6 : arg6.IsWhole)
  (arg7 : Memref sig .tc .vmem S256x1024 .f32) (harg7 : arg7.IsWhole)
  (T0 : S159.Idx → Elt F .i32) (T1 : S1.Idx → Elt F .i32)
  (x0 : S256x1024.Idx → Elt F .f32) (x1 : S1x1024x256.Idx → Elt F .f32) (x2 : S1x1024x256.Idx → Elt F .f32) (x3 : S1x256x1024.Idx → Elt F .f32)

/-- What every run holds throughout: the four input blocks and the body's halves of the tables. -/
abbrev inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (teM.view.loc (c : Thread nD τ) ↦{fullShare.right} T0)
    ∗ (ntM.view.loc (c : Thread nD τ) ↦{fullShare.right} T1))

/-- The body at the point, on the buffers above. -/
abbrev theBody : Prog (TpuEff nD τ sig (Elt F) Λ₀ .tc) PUnit :=
  cc0_moe_experts i teM (Memref.isWhole_whole _) ntM (Memref.isWhole_whole _) arg3 harg3 arg4 harg4 arg5 harg5 arg6 harg6 arg7 harg7
    wguM (Memref.isWhole_whole _) wdM (Memref.isWhole_whole _)

set_option backward.proofsInPublic true in
set_option maxHeartbeats 8000000 in
/-- A tile in use with a new expert: what it leaves in the output's buffer and in the two scratch buffers. -/
def runFresh (hu : Used T1 i) (hf : Fresh T0 i) :
    Σ' (out0 : List (View.Piece (Elt F) S256x1024 .f32)) (out1 : Buf (Elt F) ((c : Thread nD τ).loc cc0_scratch0)),
      { out2 : Buf (Elt F) ((c : Thread nD τ).loc cc0_scratch1) //
      ∀ (a0 : Buf (Elt F) ((c : Thread nD τ).loc cc0_scratch0)) (a1 : Buf (Elt F) ((c : Thread nD τ).loc cc0_scratch1)) (K : PUnit → sProp 𝕄),
        iprop(inputs c arg3 arg4 arg5 arg6 T0 T1 x0 x1 x2 x3 ∗ (∃ d, owns (c : Thread nD τ) arg7 fullShare d)
          ∗ (wguM.view.loc (c : Thread nD τ) ↦{fullShare} a0) ∗ (wdM.view.loc (c : Thread nD τ) ↦{fullShare} a1)
          ∗ (iprop(inputs c arg3 arg4 arg5 arg6 T0 T1 x0 x1 x2 x3
              ∗ (∃ f, arg7.view.loc (c : Thread nD τ) ↦[arg7.view.set]{fullShare} arg7.view.writes (Elt F) f out0)
              ∗ (wguM.view.loc (c : Thread nD τ) ↦{fullShare} out1) ∗ (wdM.view.loc (c : Thread nD τ) ↦{fullShare} out2)) -∗ K ⟨⟩))
          ⊢ wp frame (wpE (defs₀ (F := F)) Variants.none c none) Set.univ
              (theBody i arg3 harg3 arg4 harg4 arg5 harg5 arg6 harg6 arg7 harg7) K } :=
  ⟨_, _, _, fun a0 a1 K => by
    unfold theBody inputs owns
    rw [cc0_moe_experts_eq_skeleton]; unfold cc0_moe_experts_skel
    iintro ⟨⟨H0, H1, H2, H3, HT0, HT1⟩, ⟨%d4, %f4, -, HO4⟩, HS0, HS1, Hk⟩
    have hS0 : wguM.IsWhole := Memref.isWhole_whole _
    have hS1 : wdM.IsWhole := Memref.isWhole_whole _
    have hT0 : teM.IsWhole := Memref.isWhole_whole _
    have hT1 : ntM.IsWhole := Memref.isWhole_whole _
    sl_exec! (disch := first | (guard_target = k0_cond1 _ _ = _; exact hu) | (guard_target = Scalar.cmpi = _; exact hf))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 8000000 in
/-- A tile in use whose expert the scratch buffers already hold: what it leaves in the output's buffer. -/
def runKept (a0 : Buf (Elt F) ((c : Thread nD τ).loc cc0_scratch0)) (a1 : Buf (Elt F) ((c : Thread nD τ).loc cc0_scratch1))
    (hu : Used T1 i) (hf : ¬ Fresh T0 i) :
    { out0 : List (View.Piece (Elt F) S256x1024 .f32) //
      ∀ (K : PUnit → sProp 𝕄),
        iprop(inputs c arg3 arg4 arg5 arg6 T0 T1 x0 x1 x2 x3 ∗ (∃ d, owns (c : Thread nD τ) arg7 fullShare d)
          ∗ (wguM.view.loc (c : Thread nD τ) ↦{fullShare} a0) ∗ (wdM.view.loc (c : Thread nD τ) ↦{fullShare} a1)
          ∗ (iprop(inputs c arg3 arg4 arg5 arg6 T0 T1 x0 x1 x2 x3
              ∗ (∃ f, arg7.view.loc (c : Thread nD τ) ↦[arg7.view.set]{fullShare} arg7.view.writes (Elt F) f out0)
              ∗ (wguM.view.loc (c : Thread nD τ) ↦{fullShare} a0) ∗ (wdM.view.loc (c : Thread nD τ) ↦{fullShare} a1)) -∗ K ⟨⟩))
          ⊢ wp frame (wpE (defs₀ (F := F)) Variants.none c none) Set.univ
              (theBody i arg3 harg3 arg4 harg4 arg5 harg5 arg6 harg6 arg7 harg7) K } :=
  ⟨_, fun K => by
    unfold theBody inputs owns
    rw [cc0_moe_experts_eq_skeleton]; unfold cc0_moe_experts_skel
    iintro ⟨⟨H0, H1, H2, H3, HT0, HT1⟩, ⟨%d4, %f4, -, HO4⟩, HS0, HS1, Hk⟩
    have hS0 : wguM.IsWhole := Memref.isWhole_whole _
    have hS1 : wdM.IsWhole := Memref.isWhole_whole _
    have hT0 : teM.IsWhole := Memref.isWhole_whole _
    have hT1 : ntM.IsWhole := Memref.isWhole_whole _
    sl_exec! (disch := first | (guard_target = k0_cond1 _ _ = _; exact hu) | (guard_target = ¬(Scalar.cmpi = _); exact hf))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

/-- A tile past the ones in use: everything is left as it was. -/
theorem runIdle (y4 : S256x1024.Idx → Elt F .f32) (a0 : Buf (Elt F) ((c : Thread nD τ).loc cc0_scratch0))
    (a1 : Buf (Elt F) ((c : Thread nD τ).loc cc0_scratch1)) (hu : ¬ Used T1 i) (K : PUnit → sProp 𝕄) :
    iprop(inputs c arg3 arg4 arg5 arg6 T0 T1 x0 x1 x2 x3 ∗ owns (c : Thread nD τ) arg7 fullShare y4
          ∗ (wguM.view.loc (c : Thread nD τ) ↦{fullShare} a0) ∗ (wdM.view.loc (c : Thread nD τ) ↦{fullShare} a1)
          ∗ (iprop(inputs c arg3 arg4 arg5 arg6 T0 T1 x0 x1 x2 x3 ∗ owns (c : Thread nD τ) arg7 fullShare y4
              ∗ (wguM.view.loc (c : Thread nD τ) ↦{fullShare} a0) ∗ (wdM.view.loc (c : Thread nD τ) ↦{fullShare} a1)) -∗ K ⟨⟩))
      ⊢ wp frame (wpE (defs₀ (F := F)) Variants.none c none) Set.univ
          (theBody i arg3 harg3 arg4 harg4 arg5 harg5 arg6 harg6 arg7 harg7) K := by
  unfold theBody inputs owns
  rw [cc0_moe_experts_eq_skeleton]; unfold cc0_moe_experts_skel
  iintro ⟨⟨H0, H1, H2, H3, HT0, HT1⟩, ⟨%f4, %hf4, HO4⟩, HS0, HS1, Hk⟩
  have hT1 : ntM.IsWhole := Memref.isWhole_whole _
  sl_exec! (disch := first | (guard_target = ¬(k0_cond1 _ _ = _); exact hu))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; · ipureintro; exact hf4
    iexact HO4
  isplitl [HS0]; · iexact HS0
  iexact HS1

end Cert.Kernel2Ideal.Experts

end
-- ==== Proof.Experts.Plan.lean ====
/- The plan the two tables hold: the expert of each tile and how many tiles are in use. What the kernel computes of it —
   which tiles it works on, which of them bring a new expert, and which block of each array a tile's window names. -/
module

public import proofs.«01_k».proof.Proof.Experts.Runs
public import Idealize.ShloMosaic.Lib.Pointwise.Index
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.Pipeline Idealize.ShloMosaic.WordCmp

variable {F : FTy → Type} [FloatOps F]

/-- The tables' contents. -/
abbrev Tables : Type := pre0.Contents (Elt F)

/-- The expert of tile `n`. -/
def te (pf : pre0.Contents (Elt F)) (n : Fin 159) : BitVec 32 := pf 0 (ix1 (n0 := 159) n)
/-- How many tiles are in use. -/
def nt (pf : pre0.Contents (Elt F)) : BitVec 32 := pf 1 (ix1 (n0 := 1) 0)

/-- The plan names existing experts, and the tiles in use are some of the 159. -/
structure Plan (pf : pre0.Contents (Elt F)) : Prop where
  te_lt : ∀ n, (te pf n).toNat < 32
  nt_pos : 1 ≤ (nt pf).toNat
  nt_le : (nt pf).toNat ≤ 159

theorem bound0 : grid0.bound 0 = 159 := rfl

/-- The one coordinate of point `t` is `t`. -/
theorem coord (t : Fin grid0.N) : (grid0.coords t 0).val = t.val := by
  have h := Grid.coords_val (G := grid0) t 0 (S := 1) (B := 159) (by decide) rfl
  have ht : t.val < 159 := N_0 ▸ t.isLt
  omega

theorem te_at (pf : pre0.Contents (Elt F)) (off : Fin 1 → Nat) (h : ∀ a, off a + S1.size a ≤ S159.size a) (h1) (n : Fin 159) (hn : off 0 = n.val) :
    pf.at 0 (Rect.unit (s := S159) off S1.size h) h1 = te pf n := by
  show pf 0 _ = pf 0 _
  congr 1
  funext a
  match a with
  | ⟨0, _⟩ => apply Fin.ext; show off 0 + 1 * 0 = n.val; omega

theorem nt_at (pf : pre0.Contents (Elt F)) (h) (h1) : pf.at 1 (Rect.unit (s := S1) ![0] S1.size h) h1 = nt pf := by
  show pf 1 _ = pf 1 _
  congr 1
  funext a
  match a with
  | ⟨0, _⟩ => apply Fin.ext; rfl

theorem inUse_eq (pf : pre0.Contents (Elt F)) : inUse (F := F) (pf 1) = nt pf := nt_at pf _ numel1_S1
theorem expertAt_eq (pf : pre0.Contents (Elt F)) (i : grid0.Coords) (n : Fin 159) (h : (k0_off2 i) 0 = n.val) :
    expertAt (F := F) (pf 0) i = te pf n := te_at pf _ (k0_off2_inb i) numel1_S1 n h
theorem expertBefore_eq (pf : pre0.Contents (Elt F)) (i : grid0.Coords) (n : Fin 159) (h : (k0_off3 i) 0 = n.val) :
    expertBefore (F := F) (pf 0) i = te pf n := te_at pf _ (k0_off3_inb i) numel1_S1 n h

theorem toInt_small (x : BitVec 32) (h : x.toNat < 2 ^ 31) : x.toInt = x.toNat := by
  rw [BitVec.toInt_eq_toNat_cond]; split <;> omega

theorem ofNat_toNat (n : Nat) (h : n < 160) : (BitVec.ofNat 32 n).toNat = n := by
  rw [BitVec.toNat_ofNat]; omega

theorem bit_ne (b : Bool) : IntOp.cmpi .ne ((BitVec.ofBool b).setWidth 32) 0#32 = BitVec.ofBool b := by
  cases b <;> decide

theorem cond1_eq (i : grid0.Coords) (v : BitVec 32) (hv : v.toNat ≤ 159) : k0_cond1 i v = BitVec.ofBool (decide ((i 0).val < v.toNat)) := by
  have hi : (i 0).val < 159 := (i 0).isLt
  have e := ofNat_toNat (i 0).val (by omega)
  show IntOp.cmpi .ne ((IntOp.cmpi .slt (BitVec.ofNat 32 (i 0).val) v).setWidth 32) 0#32 = _
  rw [cmpi_slt_of_lt (by rw [e]; omega) (by omega), bit_ne, e]

theorem ofBool_eq_one (b : Bool) : (BitVec.ofBool b = 1#1) ↔ b = true := by cases b <;> decide

/-- A tile is worked on when it is one of those in use. -/
theorem used_iff {pf : pre0.Contents (Elt F)} (hp : Plan pf) (i : grid0.Coords) : Used (F := F) (pf 1) i ↔ (i 0).val < (nt pf).toNat := by
  show k0_cond1 i (inUse (F := F) (pf 1)) = 1#1 ↔ _
  rw [inUse_eq, cond1_eq i _ hp.nt_le, ofBool_eq_one, decide_eq_true_iff]

/-- The weights are read anew at the first tile, and where the expert is not the one of the tile before. -/
theorem fresh_iff {pf : pre0.Contents (Elt F)} (i : grid0.Coords) (n : Fin 159) (hn : (i 0).val = n.val) :
    Fresh (F := F) (pf 0) i ↔ n.val = 0 ∨ te pf n ≠ te pf ⟨n.val - 1, by omega⟩ := by
  have hi := n.isLt
  have e := ofNat_toNat (i 0).val (by omega)
  have o2 : (k0_off2 i) 0 = n.val := by show (BitVec.ofNat 32 (i 0).val).toNat = _; omega
  have o3 : (k0_off3 i) 0 = n.val - 1 := by
    show (if (0#32 : BitVec 32).slt (BitVec.ofNat 32 (i 0).val - 1#32) then BitVec.ofNat 32 (i 0).val - 1#32 else 0#32).toNat = _
    by_cases h0 : n.val = 0
    · rw [hn, h0]; decide
    · have hs : (BitVec.ofNat 32 (i 0).val - 1#32).toNat = n.val - 1 := by
        rw [BitVec.toNat_sub, e]; show (2 ^ 32 - 1 + (i 0).val) % 2 ^ 32 = _; omega
      rw [BitVec.slt, toInt_small 0#32 (by decide), toInt_small (BitVec.ofNat 32 (i 0).val - 1#32) (by omega), hs]
      split
      · exact hs
      · rename_i h; simp only [decide_eq_true_eq] at h; show 0 = _; change ¬ (((0 : Nat) : Int) < _) at h; omega
  show Scalar.cmpi .ne (Scalar.extui (Scalar.ori (Scalar.cmpi .eq (BitVec.ofNat 32 (i 0).val) 0#32)
    (Scalar.cmpi .ne (expertAt (F := F) (pf 0) i) (expertBefore (F := F) (pf 0) i)))) 0#32 = 1#1 ↔ _
  rw [expertAt_eq pf i n o2, expertBefore_eq pf i ⟨n.val - 1, by omega⟩ o3]
  show IntOp.cmpi .ne ((IntOp.cmpi .eq (BitVec.ofNat 32 (i 0).val) 0#32 ||| IntOp.cmpi .ne (te pf n) (te pf ⟨n.val - 1, by omega⟩)).setWidth 32) 0#32 = 1#1 ↔ _
  rw [cmpi_eq_eq_toNat, cmpi_ne_eq (te pf n), e, hn]
  have : ∀ b c : Bool, BitVec.ofBool b ||| BitVec.ofBool c = BitVec.ofBool (b || c) := by decide
  rw [this, bit_ne, ofBool_eq_one, Bool.or_eq_true, decide_eq_true_iff, decide_eq_true_iff]
  rfl

/-- The rows' windows (the tokens' and the result's) stop at the last tile in use; -/
theorem rows_index {pf : pre0.Contents (Elt F)} (hp : Plan pf) (i : grid0.Coords) :
    cc0_transform_0 inb_S1_S1_0 numel1_S1 pf i = ![min (i 0).val ((nt pf).toNat - 1), 0] := by
  have hi : (i 0).val < 159 := (i 0).isLt
  have e := ofNat_toNat (i 0).val (by omega)
  have := hp.nt_pos; have := hp.nt_le
  have hs : (nt pf - 1#32).toNat = (nt pf).toNat - 1 := by
    rw [BitVec.toNat_sub]; show (2 ^ 32 - 1 + (nt pf).toNat) % 2 ^ 32 = _; omega
  have hv : (pf.at 1 (Rect.unit (s := S1) ![0] S1.size inb_S1_S1_0) numel1_S1 : BitVec 32) = nt pf := nt_at pf _ _
  have hu : cc0_transform_0 inb_S1_S1_0 numel1_S1 pf i = ![(Scalar.minsi (BitVec.ofNat 32 (i 0).val)
    (Scalar.subi (pf.at 1 (Rect.unit (s := S1) ![0] S1.size inb_S1_S1_0) numel1_S1 : BitVec 32) 1#32)).toNat, 0] := rfl
  rw [hu, hv]
  show ![(if (BitVec.ofNat 32 (i 0).val).slt (nt pf - 1#32) then BitVec.ofNat 32 (i 0).val else nt pf - 1#32).toNat, 0] = _
  congr 1
  rw [BitVec.slt, toInt_small _ (by omega), toInt_small (nt pf - 1#32) (by omega), hs, e]
  split
  · rename_i h; simp only [decide_eq_true_eq] at h; rw [e]; omega
  · rename_i h; simp only [decide_eq_true_eq] at h; rw [hs]; omega

theorem rows_index' {pf : pre0.Contents (Elt F)} (hp : Plan pf) (i : grid0.Coords) :
    cc0_transform_4 inb_S1_S1_0 numel1_S1 pf i = ![min (i 0).val ((nt pf).toNat - 1), 0] := rows_index hp i

/-- the weights' windows name the tile's expert. -/
theorem weights_index (pf : pre0.Contents (Elt F)) (i : grid0.Coords) (n : Fin 159) (hn : (i 0).val = n.val) :
    cc0_transform_1 k0_off1_inb numel1_S1 pf i = ![(te pf n).toNat, 0, 0] := by
  have hi := n.isLt
  have e := ofNat_toNat (i 0).val (by omega)
  have hv : (pf.at 0 (Rect.unit (s := S159) (k0_off1 i) S1.size (k0_off1_inb i)) numel1_S1 : BitVec 32) = te pf n :=
    te_at pf _ _ _ n (by show (BitVec.ofNat 32 (i 0).val).toNat = _; omega)
  have hu : cc0_transform_1 k0_off1_inb numel1_S1 pf i
    = ![(pf.at 0 (Rect.unit (s := S159) (k0_off1 i) S1.size (k0_off1_inb i)) numel1_S1 : BitVec 32).toNat, 0, 0] := rfl
  rw [hu, hv]

theorem weights_index2 (pf : pre0.Contents (Elt F)) (i : grid0.Coords) (n : Fin 159) (hn : (i 0).val = n.val) :
    cc0_transform_2 k0_off1_inb numel1_S1 pf i = ![(te pf n).toNat, 0, 0] := weights_index pf i n hn
theorem weights_index3 (pf : pre0.Contents (Elt F)) (i : grid0.Coords) (n : Fin 159) (hn : (i 0).val = n.val) :
    cc0_transform_3 k0_off1_inb numel1_S1 pf i = ![(te pf n).toNat, 0, 0] := weights_index pf i n hn

/-- Every block the windows name lies in its array. -/
theorem ok_of_plan {pf : pre0.Contents (Elt F)} (hp : Plan pf) : ok0 pf := by
  have := hp.nt_pos; have := hp.nt_le
  have hrow : ∀ i : grid0.Coords, ∀ a, (cc0_transform_0 inb_S1_S1_0 numel1_S1 pf i a + 1) * S256x1024.size a ≤ S40704x1024.size a := by
    intro i a
    rw [rows_index hp i]
    have hi : (i 0).val < 159 := (i 0).isLt
    match a with
    | ⟨0, _⟩ => show (min (i 0).val ((nt pf).toNat - 1) + 1) * 256 ≤ 40704; omega
    | ⟨1, _⟩ => show (0 + 1) * 1024 ≤ 1024; omega
  have hw : ∀ i : grid0.Coords, ∀ a, (cc0_transform_1 k0_off1_inb numel1_S1 pf i a + 1) * S1x1024x256.size a ≤ S32x1024x256.size a := by
    intro i a
    rw [weights_index pf i (i 0) rfl]
    have ht := hp.te_lt (i 0)
    match a with
    | ⟨0, _⟩ => show ((te pf (i 0)).toNat + 1) * 1 ≤ 32; omega
    | ⟨1, _⟩ => show (0 + 1) * 1024 ≤ 1024; omega
    | ⟨2, _⟩ => show (0 + 1) * 256 ≤ 256; omega
  have hd : ∀ i : grid0.Coords, ∀ a, (cc0_transform_3 k0_off1_inb numel1_S1 pf i a + 1) * S1x256x1024.size a ≤ S32x256x1024.size a := by
    intro i a
    rw [weights_index3 pf i (i 0) rfl]
    have ht := hp.te_lt (i 0)
    match a with
    | ⟨0, _⟩ => show ((te pf (i 0)).toNat + 1) * 1 ≤ 32; omega
    | ⟨1, _⟩ => show (0 + 1) * 256 ≤ 256; omega
    | ⟨2, _⟩ => show (0 + 1) * 1024 ≤ 1024; omega
  exact ⟨fun i => ⟨hrow i, .inl rfl⟩, fun i => ⟨hw i, .inl rfl⟩, fun i => ⟨hw i, .inl rfl⟩, fun i => ⟨hd i, .inl rfl⟩, fun i => ⟨hrow i, .inl rfl⟩⟩

/-! ## The schedule of the result's window -/

variable (a : (pcfg0 (F := F)).Adm)

/-- The last tile in use at or before tile `n`: whose rows the result's window holds after point `n`. -/
def lastUsed (a : (pcfg0 (F := F)).Adm) (n : Nat) : Nat := min n ((nt a.1).toNat - 1)

theorem lastUsed_lt {n : Nat} (hn : n < 159) : lastUsed a n < 159 := by unfold lastUsed; omega

theorem idle_eq (hp : Plan a.1) (t : Fin (cfg0 a).N) : (cfg0 a).idle (4 : Fin 5) ((cfg0 a).grid.coords t) = !decide (t.val < (nt a.1).toNat) := by
  show (!(k0_cond1 (grid0.coords t) (a.1.atD 1 ![0]) == 1#1)) = _
  have : a.1.atD 1 ![0] = nt a.1 := by
    show (if h : ∀ x, (![0] : Fin 1 → Nat) x + 1 ≤ S1.size x then _ else _) = _
    rw [dif_pos (by decide)]
    exact congrArg (a.1 1) (funext fun x => match x with | ⟨0, _⟩ => rfl)
  rw [this, cond1_eq _ _ hp.nt_le, coord]
  cases decide (t.val < (nt a.1).toNat) <;> rfl

theorem index4 (hp : Plan a.1) (t : Fin (cfg0 a).N) : ((cfg0 a).win (4 : Fin 5)).index t = ![lastUsed a t.val, 0] := by
  show cc0_transform_4 inb_S1_S1_0 numel1_S1 a.1 (grid0.coords t) = _
  rw [rows_index' hp, coord]; rfl

/-- It is written back where the next point names another block, and at the end. -/
theorem flush_iff (hp : Plan a.1) (t : Fin (cfg0 a).N) :
    ((cfg0 a).win (4 : Fin 5)).flush t = true ↔ t.val + 1 = 159 ∨ t.val + 1 < (nt a.1).toNat := by
  have hN : (cfg0 a).N = 159 := N_0
  have ht := t.isLt
  have := hp.nt_le
  unfold Window.flush
  show (true && (decide (t.val + 1 = grid0.N) || _)) = true ↔ _
  rw [Bool.true_and, Bool.or_eq_true, decide_eq_true_iff, decide_eq_true_iff]
  have hN' : t.val + 1 = grid0.N ↔ t.val + 1 = 159 := by rw [N_0]
  rw [hN']
  refine or_congr_right ?_
  constructor
  · rintro ⟨h, hx⟩
    by_contra hlt
    apply hx
    rw [index4 a hp, index4 a hp]
    show ![lastUsed a (t.val + 1), 0] = ![lastUsed a t.val, 0]
    unfold lastUsed
    rw [show min (t.val + 1) ((nt a.1).toNat - 1) = min t.val ((nt a.1).toNat - 1) by omega]
  · intro hlt
    refine ⟨by show t.val + 1 < grid0.N; rw [N_0]; omega, fun hx => ?_⟩
    rw [index4 a hp, index4 a hp] at hx
    have := congrFun hx 0
    change lastUsed a (t.val + 1) = lastUsed a t.val at this
    unfold lastUsed at this
    omega

/-- Past the tiles in use the window still holds the last tile's rows, not yet written back. -/
theorem held (hp : Plan a.1) : ∀ (n : Nat), (nt a.1).toNat ≤ n → n < 159 → (cfg0 a).fresh (4 : Fin 5) n = false := by
  intro n hn
  have hN : (cfg0 a).N = 159 := N_0
  have h1 := hp.nt_pos
  induction n with
  | zero => omega
  | succ n ih =>
    intro hlt
    have hs := Cfg.fresh_succ (cfg0 a) (4 : Fin 5) n (by omega)
    rw [hs]
    have hf : ((cfg0 a).win (4 : Fin 5)).flush ⟨n, by show n < grid0.N; rw [N_0]; omega⟩ = false := by
      rw [Bool.eq_false_iff, ne_eq, flush_iff a hp]; show ¬ (n + 1 = 159 ∨ n + 1 < (nt a.1).toNat); omega
    rw [hf, Bool.false_or, idle_eq a hp]
    by_cases hd : n < (nt a.1).toNat
    · simp [hd]
    · rw [ih (by omega) (by omega), Bool.and_false]

end Cert.Kernel2Ideal.Experts

end
-- ==== Proof.Experts.Contents.lean ====
/- What the two kinds of point that work leave behind, as plain functions of the blocks: the gate's and the up
   projection's weights side by side, the down projection's weights, and the tile's rows of the result. -/
module

public import proofs.«01_k».proof.Proof.Experts.Runs
public import Idealize.ShloMosaic.Lib.VecWindow

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic

variable {F : FTy → Type} [FloatOps F]

/-- The gate's weights go to columns 0–255 of the first scratch buffer, the up projection's to 256–511. -/
def sides (x1 x2 : S1x1024x256.Idx → Elt F .f32) : List (View.Piece (Elt F) S1024x512 .bf16) :=
  [⟨Rect.unit ![0, 256] ![1024, 256] inb_S1024x512_S1024x256_0_256, k0_pay2 x2⟩,
   ⟨Rect.unit ![0, 0] ![1024, 256] inb_S1024x512_S1024x256_0_0, k0_pay1 x1⟩]

theorem sides_cover (x1 x2 : S1x1024x256.Idx → Elt F .f32) : ∀ y, ∃ p ∈ sides (F := F) x1 x2, y ∈ p.1.set :=
  View.cover_of_tiledL (sides x1 x2) S1024x256.size (by sl_kernel_rfl)

/-- The first scratch buffer: the two side by side. -/
def wgu (x1 x2 : S1x1024x256.Idx → Elt F .f32) : S1024x512.Idx → Elt F .bf16 := View.canon (sides x1 x2)

/-- The second: the down projection's weights. -/
def wdn (x3 : S1x256x1024.Idx → Elt F .f32) : S256x1024.Idx → Elt F .bf16 := k0_pay3 x3

/-- The tile's rows of the result. -/
def rows (x0 : S256x1024.Idx → Elt F .f32) (x1 x2 : S1x1024x256.Idx → Elt F .f32) (x3 : S1x256x1024.Idx → Elt F .f32) :
    S256x1024.Idx → Elt F .f32 := k0_pay4 x0 (wgu x1 x2) (wdn x3)

variable (c : Dev nD) (i : grid0.Coords)
  (arg3 : Memref sig .tc .vmem S256x1024 .f32) (harg3 : arg3.IsWhole) (arg4 : Memref sig .tc .vmem S1x1024x256 .f32) (harg4 : arg4.IsWhole)
  (arg5 : Memref sig .tc .vmem S1x1024x256 .f32) (harg5 : arg5.IsWhole) (arg6 : Memref sig .tc .vmem S1x256x1024 .f32) (harg6 : arg6.IsWhole)
  (arg7 : Memref sig .tc .vmem S256x1024 .f32) (harg7 : arg7.IsWhole)
  (T0 : S159.Idx → Elt F .i32) (T1 : S1.Idx → Elt F .i32)
  (x0 : S256x1024.Idx → Elt F .f32) (x1 : S1x1024x256.Idx → Elt F .f32) (x2 : S1x1024x256.Idx → Elt F .f32) (x3 : S1x256x1024.Idx → Elt F .f32)

theorem readFull {sig : RefSig} {κ : Kind} {sp : Space} {e : EltTy} {n k : Nat} (v : View sig κ sp ⟨2, ![n, k]⟩ e) (x : (⟨2, ![n, k]⟩ : Shape).Idx → Elt F e)
    (inb : ∀ a, (![0, 0] : Fin 2 → Nat) a + (![n, k] : Fin 2 → Nat) a ≤ (⟨2, ![n, k]⟩ : Shape).size a) :
    v.readAt (Elt F) (Rect.unit (s := ⟨2, ![n, k]⟩) ![0, 0] ![n, k] inb).toLoadRect (v.rep x) = x := View.readAt_rep_full v x inb

theorem readFull3 {sig : RefSig} {κ : Kind} {sp : Space} {e : EltTy} {l n k : Nat} (v : View sig κ sp ⟨3, ![l, n, k]⟩ e) (x : (⟨3, ![l, n, k]⟩ : Shape).Idx → Elt F e)
    (inb : ∀ a, (![0, 0, 0] : Fin 3 → Nat) a + (![l, n, k] : Fin 3 → Nat) a ≤ (⟨3, ![l, n, k]⟩ : Shape).size a) :
    v.readAt (Elt F) (Rect.unit (s := ⟨3, ![l, n, k]⟩) ![0, 0, 0] ![l, n, k] inb).toLoadRect (v.rep x) = x := View.readAt_rep_full v x inb

/-- One piece over the whole shape is its payload. -/
theorem canon_full {e : EltTy} {n k : Nat} (w : (⟨2, ![n, k]⟩ : Shape).Idx → Elt F e)
    (inb : ∀ a, (![0, 0] : Fin 2 → Nat) a + (![n, k] : Fin 2 → Nat) a ≤ (⟨2, ![n, k]⟩ : Shape).size a) :
    View.canon (Val := Elt F) (s := ⟨2, ![n, k]⟩) (e := e) [⟨Rect.unit ![0, 0] ![n, k] inb, w⟩] = w := by
  have he : ∀ x, (Rect.unit (s := ⟨2, ![n, k]⟩) ![0, 0] ![n, k] inb).emb x = x := fun x => funext fun a => Fin.ext (by
    match a with
    | ⟨0, _⟩ => show 0 + 1 * (x 0).val = (x 0).val; omega
    | ⟨1, _⟩ => show 0 + 1 * (x 1).val = (x 1).val; omega)
  funext y
  have := View.canon_cons_emb (Val := Elt F) (s := ⟨2, ![n, k]⟩) (e := e) (Rect.unit ![0, 0] ![n, k] inb) w [] y
  rw [he y] at this
  exact this

theorem read_whole {b : Ref sig .tc} (f : b.ty.Contents (Elt F)) : (View.whole b).read (Elt F) f = f := rfl

theorem wgu_held (x1 x2 : S1x1024x256.Idx → Elt F .f32) :
    (View.whole cc0_scratch0).writes (Elt F) (View.whole cc0_scratch0).junk (sides x1 x2) = wgu x1 x2 :=
  (read_whole _).symm.trans (View.read_writes_eq_canon (View.whole cc0_scratch0) _ _ (sides_cover x1 x2))

theorem wgu_read (x1 x2 : S1x1024x256.Idx → Elt F .f32) :
    (View.whole cc0_scratch0).readCov (sides x1 x2) (Rect.unit (s := S1024x512) ![0, 0] S1024x512.size inb_S1024x512_S1024x512_0_0).toLoadRect = wgu x1 x2 :=
  (View.readAt_full (View.whole cc0_scratch0) _ inb_S1024x512_S1024x512_0_0).trans
    (View.read_writes_eq_canon (View.whole cc0_scratch0) _ _ (sides_cover x1 x2))

def downs (x3 : S1x256x1024.Idx → Elt F .f32) : List (View.Piece (Elt F) S256x1024 .bf16) :=
  [⟨Rect.unit ![0, 0] ![256, 1024] inb_S256x1024_S256x1024_0_0, k0_pay3 x3⟩]

theorem downs_cover (x3 : S1x256x1024.Idx → Elt F .f32) : ∀ y, ∃ p ∈ downs (F := F) x3, y ∈ p.1.set :=
  View.cover_of_tiledL (downs x3) S256x1024.size (by sl_kernel_rfl)

theorem downs_canon (x3 : S1x256x1024.Idx → Elt F .f32) : View.canon (downs x3) = wdn x3 :=
  canon_full (e := .bf16) (k0_pay3 x3) inb_S256x1024_S256x1024_0_0

theorem wdn_held (x3 : S1x256x1024.Idx → Elt F .f32) :
    (View.whole cc0_scratch1).writes (Elt F) (View.whole cc0_scratch1).junk (downs x3) = wdn x3 :=
  ((read_whole _).symm.trans (View.read_writes_eq_canon (View.whole cc0_scratch1) _ _ (downs_cover x3))).trans (downs_canon x3)

theorem wdn_read (x3 : S1x256x1024.Idx → Elt F .f32) :
    (View.whole cc0_scratch1).readCov (downs x3) (Rect.unit (s := S256x1024) ![0, 0] S256x1024.size inb_S256x1024_S256x1024_0_0).toLoadRect = wdn x3 :=
  ((View.readAt_full (View.whole cc0_scratch1) _ inb_S256x1024_S256x1024_0_0).trans
    (View.read_writes_eq_canon (View.whole cc0_scratch1) _ _ (downs_cover x3))).trans (downs_canon x3)

variable (hu : Used T1 i)

theorem fresh_wgu (hf : Fresh T0 i) :
    (runFresh c i arg3 harg3 arg4 harg4 arg5 harg5 arg6 harg6 arg7 harg7 T0 T1 x0 x1 x2 x3 hu hf).2.1 = wgu x1 x2 := by
  unfold runFresh
  dsimp only
  unfold runFresh.sl.HS0_2
  rw [readFull3 arg5.view x2, readFull3 arg4.view x1]
  exact wgu_held x1 x2

theorem fresh_wdn (hf : Fresh T0 i) :
    (runFresh c i arg3 harg3 arg4 harg4 arg5 harg5 arg6 harg6 arg7 harg7 T0 T1 x0 x1 x2 x3 hu hf).2.2.1 = wdn x3 := by
  unfold runFresh
  dsimp only
  sl_unfold_words
  rw [readFull3 arg6.view x3]
  exact wdn_held x3

theorem fresh_rows (hf : Fresh T0 i) :
    View.canon (runFresh c i arg3 harg3 arg4 harg4 arg5 harg5 arg6 harg6 arg7 harg7 T0 T1 x0 x1 x2 x3 hu hf).1 = rows x0 x1 x2 x3 := by
  unfold runFresh
  dsimp only
  sl_unfold_words
  rw [readFull arg3.view x0, readFull3 arg4.view x1, readFull3 arg5.view x2, readFull3 arg6.view x3]
  exact (canon_full _ inb_S256x1024_S256x1024_0_0).trans (congrArg₂ (k0_pay4 x0) (wgu_read x1 x2) (wdn_read x3))

theorem kept_rows (a0 : S1024x512.Idx → Elt F .bf16) (a1 : S256x1024.Idx → Elt F .bf16) (hf : ¬ Fresh T0 i) :
    View.canon (runKept c i arg3 harg3 arg4 harg4 arg5 harg5 arg6 harg6 arg7 harg7 T0 T1 x0 x1 x2 x3 a0 a1 hu hf).1 = k0_pay4 x0 a0 a1 := by
  unfold runKept
  dsimp only
  sl_unfold_words
  rw [readFull arg3.view x0]
  exact (canon_full _ inb_S256x1024_S256x1024_0_0).trans (congrArg₂ (k0_pay4 x0)
    (View.readAt_full (View.whole cc0_scratch0) a0 inb_S1024x512_S1024x512_0_0) (View.readAt_full (View.whole cc0_scratch1) a1 inb_S256x1024_S256x1024_0_0))

theorem fresh_cover (hf : Fresh T0 i) : ∀ j, ∃ p ∈ (runFresh c i arg3 harg3 arg4 harg4 arg5 harg5 arg6 harg6 arg7 harg7 T0 T1 x0 x1 x2 x3 hu hf).1, j ∈ p.1.set :=
  View.cover_of_tiledL (s := S256x1024) (runFresh c i arg3 harg3 arg4 harg4 arg5 harg5 arg6 harg6 arg7 harg7 T0 T1 x0 x1 x2 x3 hu hf).1 S256x1024.size (by sl_kernel_rfl)
theorem kept_cover (a0 a1) (hf : ¬ Fresh T0 i) : ∀ j, ∃ p ∈ (runKept c i arg3 harg3 arg4 harg4 arg5 harg5 arg6 harg6 arg7 harg7 T0 T1 x0 x1 x2 x3 a0 a1 hu hf).1, j ∈ p.1.set :=
  View.cover_of_tiledL (s := S256x1024) (runKept c i arg3 harg3 arg4 harg4 arg5 harg5 arg6 harg6 arg7 harg7 T0 T1 x0 x1 x2 x3 a0 a1 hu hf).1 S256x1024.size (by sl_kernel_rfl)

end Cert.Kernel2Ideal.Experts

end
-- ==== Proof.Experts.Data.lean ====
/- The kernel's run over its grid: what each window's block holds at a point, what the scratch buffers and the result's
   block hold after it, and the statement that carries the run from point to point. -/
module

public import proofs.«01_k».proof.Proof.Experts.Plan
public import proofs.«01_k».proof.Proof.Experts.Contents
public import Idealize.ShloMosaic.Lib.Pipeline.Value

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (c : Dev nD)

/-- Block `w` of its array at point `t`. -/
def iblk (w : Fin 5) (t : Fin (cfg0 a).N) : (((cfg0 a).win w).xblock ((cfg0 a).grid.coords t)).Idx → Elt F ((cfg0 a).win w).elt :=
  (((cfg0 a).win w).blk t).view.read (Elt F) (m (((cfg0 a).win w).arr.view.loc (c : Thread nD τ)))

/-- The four input blocks at a point: the tile's token rows, and its expert's weights. -/
def xBlk (t : Fin (cfg0 a).N) : S256x1024.Idx → Elt F .f32 := iblk m a c 0 t
def gBlk (t : Fin (cfg0 a).N) : S1x1024x256.Idx → Elt F .f32 := iblk m a c 1 t
def uBlk (t : Fin (cfg0 a).N) : S1x1024x256.Idx → Elt F .f32 := iblk m a c 2 t
def dBlk (t : Fin (cfg0 a).N) : S1x256x1024.Idx → Elt F .f32 := iblk m a c 3 t

/-- The tile a point stands for. -/
def tile (t : Fin (cfg0 a).N) : Fin 159 := ⟨t.val, N_0 ▸ t.isLt⟩

theorem xBlk_at (hp : Plan a.1) (t : Fin (cfg0 a).N) (r : Fin 256) (d : Fin 1024) :
    xBlk m a c t (ix2 r d) = m ((c : Thread nD τ).loc main_arg2) (ix2 (n0 := 40704) (n1 := 1024)
      ⟨min t.val ((nt a.1).toNat - 1) * 256 + r.val, by have := (tile a t).isLt; change t.val < 159 at this; omega⟩ d) := by
  refine congrArg (m ((c : Thread nD τ).loc main_arg2)) (funext fun x => Fin.ext ?_)
  refine (Window.rect_emb_val ((cfg0 a).win 0) t _ x).trans ?_
  have hi : ((cfg0 a).win 0).index t = ![min t.val ((nt a.1).toNat - 1), 0] := by
    show cc0_transform_0 inb_S1_S1_0 numel1_S1 a.1 (grid0.coords t) = _
    rw [rows_index hp, coord]
  rw [hi]
  match x with
  | ⟨0, _⟩ => rfl
  | ⟨1, _⟩ => show 0 * 1024 + d.val = d.val; omega

theorem gBlk_at (hp : Plan a.1) (t : Fin (cfg0 a).N) (z : Fin 1) (d : Fin 1024) (f : Fin 256) :
    gBlk m a c t (ix3 z d f) = m ((c : Thread nD τ).loc main_arg3) (ix3 (n0 := 32) (n1 := 1024) (n2 := 256) ⟨(te a.1 (tile a t)).toNat, hp.te_lt _⟩ d f) := by
  refine congrArg (m ((c : Thread nD τ).loc main_arg3)) (funext fun x => Fin.ext ?_)
  refine (Window.rect_emb_val ((cfg0 a).win 1) t _ x).trans ?_
  have hi : ((cfg0 a).win 1).index t = ![(te a.1 (tile a t)).toNat, 0, 0] := weights_index a.1 (grid0.coords t) (tile a t) (coord t)
  rw [hi]
  match x with
  | ⟨0, _⟩ => show (te a.1 (tile a t)).toNat * 1 + z.val = (te a.1 (tile a t)).toNat; omega
  | ⟨1, _⟩ => show 0 * 1024 + d.val = d.val; omega
  | ⟨2, _⟩ => show 0 * 256 + f.val = f.val; omega

theorem uBlk_at (hp : Plan a.1) (t : Fin (cfg0 a).N) (z : Fin 1) (d : Fin 1024) (f : Fin 256) :
    uBlk m a c t (ix3 z d f) = m ((c : Thread nD τ).loc main_arg4) (ix3 (n0 := 32) (n1 := 1024) (n2 := 256) ⟨(te a.1 (tile a t)).toNat, hp.te_lt _⟩ d f) := by
  refine congrArg (m ((c : Thread nD τ).loc main_arg4)) (funext fun x => Fin.ext ?_)
  refine (Window.rect_emb_val ((cfg0 a).win 2) t _ x).trans ?_
  have hi : ((cfg0 a).win 2).index t = ![(te a.1 (tile a t)).toNat, 0, 0] := weights_index2 a.1 (grid0.coords t) (tile a t) (coord t)
  rw [hi]
  match x with
  | ⟨0, _⟩ => show (te a.1 (tile a t)).toNat * 1 + z.val = (te a.1 (tile a t)).toNat; omega
  | ⟨1, _⟩ => show 0 * 1024 + d.val = d.val; omega
  | ⟨2, _⟩ => show 0 * 256 + f.val = f.val; omega

theorem dBlk_at (hp : Plan a.1) (t : Fin (cfg0 a).N) (z : Fin 1) (f : Fin 256) (d : Fin 1024) :
    dBlk m a c t (ix3 z f d) = m ((c : Thread nD τ).loc main_arg5) (ix3 (n0 := 32) (n1 := 256) (n2 := 1024) ⟨(te a.1 (tile a t)).toNat, hp.te_lt _⟩ f d) := by
  refine congrArg (m ((c : Thread nD τ).loc main_arg5)) (funext fun x => Fin.ext ?_)
  refine (Window.rect_emb_val ((cfg0 a).win 3) t _ x).trans ?_
  have hi : ((cfg0 a).win 3).index t = ![(te a.1 (tile a t)).toNat, 0, 0] := weights_index3 a.1 (grid0.coords t) (tile a t) (coord t)
  rw [hi]
  match x with
  | ⟨0, _⟩ => show (te a.1 (tile a t)).toNat * 1 + z.val = (te a.1 (tile a t)).toNat; omega
  | ⟨1, _⟩ => show 0 * 256 + f.val = f.val; omega
  | ⟨2, _⟩ => show 0 * 1024 + d.val = d.val; omega

/-- Two tiles of one expert read the same weights. -/
theorem weights_eq (hp : Plan a.1) (t s : Fin (cfg0 a).N) (h : te a.1 (tile a t) = te a.1 (tile a s)) :
    gBlk m a c t = gBlk m a c s ∧ uBlk m a c t = uBlk m a c s ∧ dBlk m a c t = dBlk m a c s := by
  refine ⟨funext fun y => ?_, funext fun y => ?_, funext fun y => ?_⟩
  · have e : ∀ z d f, gBlk m a c t (ix3 z d f) = gBlk m a c s (ix3 z d f) := fun z d f => by
      rw [gBlk_at m a c hp, gBlk_at m a c hp]; simp only [h]
    rw [eq_ix3 (n0 := 1) (n1 := 1024) (n2 := 256) y]; exact e (y 0) (y 1) (y 2)
  · have e : ∀ z d f, uBlk m a c t (ix3 z d f) = uBlk m a c s (ix3 z d f) := fun z d f => by
      rw [uBlk_at m a c hp, uBlk_at m a c hp]; simp only [h]
    rw [eq_ix3 (n0 := 1) (n1 := 1024) (n2 := 256) y]; exact e (y 0) (y 1) (y 2)
  · have e : ∀ z d f, dBlk m a c t (ix3 z d f) = dBlk m a c s (ix3 z d f) := fun z d f => by
      rw [dBlk_at m a c hp, dBlk_at m a c hp]; simp only [h]
    rw [eq_ix3 (n0 := 1) (n1 := 256) (n2 := 1024) y]; exact e (y 0) (y 1) (y 2)

/-- The last point in use at or before `t`. -/
def last (t : Fin (cfg0 a).N) : Fin (cfg0 a).N := ⟨lastUsed a t.val, lt_of_le_of_lt (Nat.min_le_left _ _) t.isLt⟩

/-- The result's rows the kernel computes at point `s`. -/
def yBlk (s : Fin (cfg0 a).N) : S256x1024.Idx → Elt F .f32 := rows (xBlk m a c s) (gBlk m a c s) (uBlk m a c s) (dBlk m a c s)

/-- What the first scratch buffer holds after point `s`, and the second. -/
def wguAt (s : Fin (cfg0 a).N) : S1024x512.Idx → Elt F .bf16 := wgu (gBlk m a c s) (uBlk m a c s)
def wdnAt (s : Fin (cfg0 a).N) : S256x1024.Idx → Elt F .bf16 := wdn (dBlk m a c s)

theorem last_used (t : Fin (cfg0 a).N) (h : t.val < (nt a.1).toNat) : last a t = t := Fin.ext (by show min t.val _ = t.val; omega)
theorem last_past (t s : Fin (cfg0 a).N) (h : (nt a.1).toNat ≤ t.val) (hs : s.val + 1 = t.val) : last a t = last a s :=
  Fin.ext (by show min t.val _ = min s.val _; omega)

/-- Before point `t` the scratch buffers hold the weights of the last tile worked on (anything before the first); the
    body's halves of the tables hold the plan. -/
def Phi (t : Fin ((cfg0 a).N + 1)) : sProp 𝕄 :=
  iprop(∃ b0 b1, ⌜∀ s : Fin (cfg0 a).N, s.val + 1 = t.val → b0 = wguAt m a c (last a s) ∧ b1 = wdnAt m a c (last a s)⌝
    ∗ (wguM.view.loc (c : Thread nD τ) ↦{fullShare} b0) ∗ (wdM.view.loc (c : Thread nD τ) ↦{fullShare} b1)
    ∗ (teM.view.loc (c : Thread nD τ) ↦{fullShare.right} a.1 0) ∗ (ntM.view.loc (c : Thread nD τ) ↦{fullShare.right} a.1 1))

/-- The proof data of the one pipeline on core `c`. -/
def dats (_ : Fin 1) (c : Dev nD) : Dat τ (Elt F) Unit ℕ (UR sig nD τ) ℕ (cfg0 a) c where
  A w := m (((cfg0 a).win w).arr.view.loc (c : Thread nD τ))
  after w t := match w with
    | ⟨0, _⟩ => xBlk m a c t
    | ⟨1, _⟩ => gBlk m a c t
    | ⟨2, _⟩ => uBlk m a c t
    | ⟨3, _⟩ => dBlk m a c t
    | ⟨4, _⟩ => yBlk m a c (last a t)
  Φ t := Phi m a c t
  q _ := fullShare
  owed _ := 0

theorem after_0 (t : Fin (cfg0 a).N) : (dats m a 0 c).after (0 : Fin 5) t = xBlk m a c t := rfl
theorem after_1 (t : Fin (cfg0 a).N) : (dats m a 0 c).after (1 : Fin 5) t = gBlk m a c t := rfl
theorem after_2 (t : Fin (cfg0 a).N) : (dats m a 0 c).after (2 : Fin 5) t = uBlk m a c t := rfl
theorem after_3 (t : Fin (cfg0 a).N) : (dats m a 0 c).after (3 : Fin 5) t = dBlk m a c t := rfl
theorem after_4 (t : Fin (cfg0 a).N) : (dats m a 0 c).after (4 : Fin 5) t = yBlk m a c (last a t) := rfl

theorem before_0 (t : Fin (cfg0 a).N) (d) : (dats m a 0 c).before (0 : Fin 5) t d = xBlk m a c t :=
  ((dats m a 0 c).before_in_eq_fetched (0 : Fin 5) rfl (fun _ => rfl) (fun _ _ _ => rfl) (fun t => by rw [after_0]; unfold Dat.blockOf xBlk iblk; rfl) t d).trans
    (by unfold Dat.fetched Dat.blockOf xBlk iblk; rfl)
theorem before_1 (t : Fin (cfg0 a).N) (d) : (dats m a 0 c).before (1 : Fin 5) t d = gBlk m a c t :=
  ((dats m a 0 c).before_in_eq_fetched (1 : Fin 5) rfl (fun _ => rfl) (fun _ _ _ => rfl) (fun t => by rw [after_1]; unfold Dat.blockOf gBlk iblk; rfl) t d).trans
    (by unfold Dat.fetched Dat.blockOf gBlk iblk; rfl)
theorem before_2 (t : Fin (cfg0 a).N) (d) : (dats m a 0 c).before (2 : Fin 5) t d = uBlk m a c t :=
  ((dats m a 0 c).before_in_eq_fetched (2 : Fin 5) rfl (fun _ => rfl) (fun _ _ _ => rfl) (fun t => by rw [after_2]; unfold Dat.blockOf uBlk iblk; rfl) t d).trans
    (by unfold Dat.fetched Dat.blockOf uBlk iblk; rfl)
theorem before_3 (t : Fin (cfg0 a).N) (d) : (dats m a 0 c).before (3 : Fin 5) t d = dBlk m a c t :=
  ((dats m a 0 c).before_in_eq_fetched (3 : Fin 5) rfl (fun _ => rfl) (fun _ _ _ => rfl) (fun t => by rw [after_3]; unfold Dat.blockOf dBlk iblk; rfl) t d).trans
    (by unfold Dat.fetched Dat.blockOf dBlk iblk; rfl)

/-- Past the tiles in use the result's buffer holds what it held: the last tile's rows. -/
theorem before_4 (hp : Plan a.1) (t : Fin (cfg0 a).N) (h : (nt a.1).toNat ≤ t.val) (d) : (dats m a 0 c).before (4 : Fin 5) t d = yBlk m a c (last a t) := by
  have h1 := hp.nt_pos
  have ht : t.val < 159 := (tile a t).isLt
  rw [(dats m a 0 c).before_out_traj (4 : Fin 5) rfl (fun _ _ => rfl) (fun t h0 hi hf => ?_) t.val t rfl d]
  · rw [held a hp t.val h ht, if_neg Bool.false_ne_true, after_4, last_past a t ⟨t.val - 1, by omega⟩ h (by show t.val - 1 + 1 = t.val; omega)]
  · rw [idle_eq a hp] at hi
    have hle : (nt a.1).toNat ≤ t.val := by simpa using hi
    rw [after_4, after_4, last_past a t ⟨t.val - 1, by omega⟩ hle (by show t.val - 1 + 1 = t.val; omega)]

end Cert.Kernel2Ideal.Experts

end
-- ==== Proof.Experts.Body.lean ====
/- The body at every point takes the statement before the point to the statement after it. -/
module

public import proofs.«01_k».proof.Proof.Experts.Data

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm) (c : Dev nD)

/-- The staging buffers of point `t`. -/
abbrev st0 (t : Fin (cfg0 a).N) : Memref sig .tc .vmem S256x1024 .f32 := spec0_0.stage ((cfg0 a).slots t (0 : Fin 5))
abbrev st1 (t : Fin (cfg0 a).N) : Memref sig .tc .vmem S1x1024x256 .f32 := spec0_1.stage ((cfg0 a).slots t (1 : Fin 5))
abbrev st2 (t : Fin (cfg0 a).N) : Memref sig .tc .vmem S1x1024x256 .f32 := spec0_2.stage ((cfg0 a).slots t (2 : Fin 5))
abbrev st3 (t : Fin (cfg0 a).N) : Memref sig .tc .vmem S1x256x1024 .f32 := spec0_3.stage ((cfg0 a).slots t (3 : Fin 5))
abbrev st4 (t : Fin (cfg0 a).N) : Memref sig .tc .vmem S256x1024 .f32 := spec0_4.stage ((cfg0 a).slots t (4 : Fin 5))
abbrev hst0 (t : Fin (cfg0 a).N) : (st0 a t).IsWhole := hstage0_0 (((cfg0 a).slots t (0 : Fin 5)).cast nbuf0_0)
abbrev hst1 (t : Fin (cfg0 a).N) : (st1 a t).IsWhole := hstage0_1 (((cfg0 a).slots t (1 : Fin 5)).cast nbuf0_1)
abbrev hst2 (t : Fin (cfg0 a).N) : (st2 a t).IsWhole := hstage0_2 (((cfg0 a).slots t (2 : Fin 5)).cast nbuf0_2)
abbrev hst3 (t : Fin (cfg0 a).N) : (st3 a t).IsWhole := hstage0_3 (((cfg0 a).slots t (3 : Fin 5)).cast nbuf0_3)
abbrev hst4 (t : Fin (cfg0 a).N) : (st4 a t).IsWhole := hstage0_4 (((cfg0 a).slots t (4 : Fin 5)).cast nbuf0_4)

/-- The body at point `t`, as the pipeline calls it. -/
abbrev bodyAt (t : Fin (cfg0 a).N) : Prog (TpuEff nD τ sig (Elt F) Λ₀ .tc) PUnit :=
  theBody ((cfg0 a).grid.coords t) (st0 a t) (hst0 a t) (st1 a t) (hst1 a t) (st2 a t) (hst2 a t) (st3 a t) (hst3 a t) (st4 a t) (hst4 a t)

/-- What the body hands back of window `w`. -/
abbrev handsBack (t : Fin (cfg0 a).N) (w : Fin 5) : sProp 𝕄 :=
  match (cfg0 a).idle w ((cfg0 a).grid.coords t) with
  | true =>
    match ((cfg0 a).win w).flush t with
    | false => iprop(∃ d, owns (c : Thread nD τ) (((cfg0 a).win w).stage ((cfg0 a).slots t w)) fullShare ((dats m a 0 c).before w t d))
    | true => owns (c : Thread nD τ) (((cfg0 a).win w).stage ((cfg0 a).slots t w)) fullShare ((dats m a 0 c).after w t)
  | false => owns (c : Thread nD τ) (((cfg0 a).win w).stage ((cfg0 a).slots t w)) fullShare ((dats m a 0 c).after w t)

/-- Before the body: the statement, and every staging buffer at what the pipeline left there. -/
abbrev bodyPre (t : Fin (cfg0 a).N) : sProp 𝕄 :=
  iprop((dats m a 0 c).Φ t.castSucc ∗ (dats m a 0 c).owesAt () t.castSucc
        ∗ (∃ d, owns (c : Thread nD τ) (st0 a t) fullShare ((dats m a 0 c).before (0 : Fin 5) t d))
        ∗ (∃ d, owns (c : Thread nD τ) (st1 a t) fullShare ((dats m a 0 c).before (1 : Fin 5) t d))
        ∗ (∃ d, owns (c : Thread nD τ) (st2 a t) fullShare ((dats m a 0 c).before (2 : Fin 5) t d))
        ∗ (∃ d, owns (c : Thread nD τ) (st3 a t) fullShare ((dats m a 0 c).before (3 : Fin 5) t d))
        ∗ (∃ d, owns (c : Thread nD τ) (st4 a t) fullShare ((dats m a 0 c).before (4 : Fin 5) t d)))

theorem handsBack_used (t : Fin (cfg0 a).N) (hp : Plan a.1) (h : t.val < (nt a.1).toNat) :
    handsBack m a c t (4 : Fin 5) = owns (c : Thread nD τ) (st4 a t) fullShare (yBlk m a c t) := by
  unfold handsBack
  rw [idle_eq a hp, decide_eq_true h]
  show owns (c : Thread nD τ) _ fullShare (yBlk m a c (last a t)) = _
  rw [last_used a t h]

theorem handsBack_past (t : Fin (cfg0 a).N) (hp : Plan a.1) (h : (nt a.1).toNat ≤ t.val) :
    owns (c : Thread nD τ) (st4 a t) fullShare (yBlk m a c (last a t)) ⊢ handsBack m a c t (4 : Fin 5) := by
  unfold handsBack
  rw [idle_eq a hp, decide_eq_false (by omega)]
  cases hf : ((cfg0 a).win (4 : Fin 5)).flush t
  · show _ ⊢ iprop(∃ d, owns (c : Thread nD τ) _ fullShare ((dats m a 0 c).before (4 : Fin 5) t d))
    simp only [before_4 m a c hp t h]
    iintro H
    iexists fun _ => Classical.choice inferInstance
    iexact H
  · exact BIBase.Entails.rfl

set_option maxHeartbeats 4000000 in
theorem sound_body (hp : Plan a.1) (t : Fin (cfg0 a).N) :
    bodyPre m a c t
      ⊢ wp frame (wpE (defs₀ (F := F)) Variants.none c none) Set.univ (bodyAt a t) fun _ =>
          iprop((dats m a 0 c).Φ t.succ ∗ (dats m a 0 c).owesAt () t.succ ∗ bigSep Finset.univ (handsBack m a c t)) := by
  have h1 := hp.nt_pos
  rw [bigSep_W0]
  unfold bodyPre
  simp only [before_0, before_1, before_2, before_3]
  rewrite [show handsBack m a c t (0 : Fin 5) = owns (c : Thread nD τ) (st0 a t) fullShare (xBlk m a c t) from rfl,
    show handsBack m a c t (1 : Fin 5) = owns (c : Thread nD τ) (st1 a t) fullShare (gBlk m a c t) from rfl,
    show handsBack m a c t (2 : Fin 5) = owns (c : Thread nD τ) (st2 a t) fullShare (uBlk m a c t) from rfl,
    show handsBack m a c t (3 : Fin 5) = owns (c : Thread nD τ) (st3 a t) fullShare (dBlk m a c t) from rfl,
    show (dats m a 0 c).Φ t.succ = Phi m a c t.succ from rfl, show (dats m a 0 c).Φ t.castSucc = Phi m a c t.castSucc from rfl,
    show (dats m a 0 c).owesAt () t.succ = (dats m a 0 c).owesAt () t.castSucc from rfl]
  unfold Phi
  by_cases hu : t.val < (nt a.1).toNat
  · have hu' : Used (F := F) (a.1 1) ((cfg0 a).grid.coords t) := (used_iff hp _).2 (by rw [show ((cfg0 a).grid.coords t 0).val = t.val from coord t]; exact hu)
    rw [handsBack_used m a c t hp hu]
    by_cases hf : Fresh (F := F) (a.1 0) ((cfg0 a).grid.coords t)
    · iintro ⟨⟨%b0, %b1, -, HS0, HS1, HT0, HT1⟩, Ho, ⟨%d0, H0⟩, ⟨%d1, H1⟩, ⟨%d2, H2⟩, ⟨%d3, H3⟩, ⟨%d4, H4⟩⟩
      iapply ((runFresh c ((cfg0 a).grid.coords t) (st0 a t) (hst0 a t) (st1 a t) (hst1 a t) (st2 a t) (hst2 a t) (st3 a t) (hst3 a t) (st4 a t) (hst4 a t)
        (a.1 0) (a.1 1) (xBlk m a c t) (gBlk m a c t) (uBlk m a c t) (dBlk m a c t) hu' hf).2.2.2 b0 b1 _)
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      iintro ⟨⟨H0, H1, H2, H3, HT0, HT1⟩, ⟨%e4, H4⟩, HS0, HS1⟩
      isplitl [HS0 HS1 HT0 HT1]
      · iexists _, _
        isplitr; swap
        · isplitl [HS0]; · iexact HS0
          isplitl [HS1]; · iexact HS1
          isplitl [HT0]; · iexact HT0
          iexact HT1
        · ipureintro
          intro s hs
          have hst : s = t := Fin.ext (by have : s.val + 1 = t.val + 1 := hs; omega)
          rw [hst, last_used a t hu]
          exact ⟨fresh_wgu .., fresh_wdn ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        exact (View.read_writes_eq_canon _ _ _ (fun _ => fresh_cover ..)).trans (fresh_rows ..)
    · have hn := mt (fresh_iff ((cfg0 a).grid.coords t) (tile a t) (coord t)).2 hf
      rw [not_or, not_not] at hn
      obtain ⟨h0, hte⟩ := hn
      have h0' : t.val ≠ 0 := h0
      have hw := weights_eq m a c hp t ⟨t.val - 1, by omega⟩ hte
      have hl : last a (⟨t.val - 1, by omega⟩ : Fin (cfg0 a).N) = ⟨t.val - 1, by omega⟩ := last_used a _ (by show t.val - 1 < _; omega)
      iintro ⟨⟨%b0, %b1, %hb, HS0, HS1, HT0, HT1⟩, Ho, ⟨%d0, H0⟩, ⟨%d1, H1⟩, ⟨%d2, H2⟩, ⟨%d3, H3⟩, ⟨%d4, H4⟩⟩
      obtain ⟨hb0, hb1⟩ := hb ⟨t.val - 1, by omega⟩ (by show t.val - 1 + 1 = t.val; omega)
      rw [hl] at hb0 hb1
      have hb0' : b0 = wgu (gBlk m a c t) (uBlk m a c t) := by rw [hb0, hw.1, hw.2.1]; rfl
      have hb1' : b1 = wdn (dBlk m a c t) := by rw [hb1, hw.2.2]; rfl
      subst hb0' hb1'
      iapply ((runKept c ((cfg0 a).grid.coords t) (st0 a t) (hst0 a t) (st1 a t) (hst1 a t) (st2 a t) (hst2 a t) (st3 a t) (hst3 a t) (st4 a t) (hst4 a t)
        (a.1 0) (a.1 1) (xBlk m a c t) (gBlk m a c t) (uBlk m a c t) (dBlk m a c t) (wgu (gBlk m a c t) (uBlk m a c t)) (wdn (dBlk m a c t)) hu' hf).2 _)
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      iintro ⟨⟨H0, H1, H2, H3, HT0, HT1⟩, ⟨%e4, H4⟩, HS0, HS1⟩
      isplitl [HS0 HS1 HT0 HT1]
      · iexists _, _
        isplitr; swap
        · isplitl [HS0]; · iexact HS0
          isplitl [HS1]; · iexact HS1
          isplitl [HT0]; · iexact HT0
          iexact HT1
        · ipureintro
          intro s hs
          have hst : s = t := Fin.ext (by have : s.val + 1 = t.val + 1 := hs; omega)
          rw [hst, last_used a t hu]
          exact ⟨rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        exact (View.read_writes_eq_canon _ _ _ (fun _ => kept_cover ..)).trans (kept_rows ..)
  · have hle : (nt a.1).toNat ≤ t.val := by omega
    have hu' : ¬ Used (F := F) (a.1 1) ((cfg0 a).grid.coords t) := fun h => hu (by
      have := (used_iff hp _).1 h; rwa [show ((cfg0 a).grid.coords t 0).val = t.val from coord t] at this)
    simp only [before_4 m a c hp t hle]
    iintro ⟨⟨%b0, %b1, %hb, HS0, HS1, HT0, HT1⟩, Ho, ⟨%d0, H0⟩, ⟨%d1, H1⟩, ⟨%d2, H2⟩, ⟨%d3, H3⟩, ⟨%d4, H4⟩⟩
    iapply (runIdle c ((cfg0 a).grid.coords t) (st0 a t) (hst0 a t) (st1 a t) (hst1 a t) (st2 a t) (hst2 a t) (st3 a t) (hst3 a t) (st4 a t) (hst4 a t)
        (a.1 0) (a.1 1) (xBlk m a c t) (gBlk m a c t) (uBlk m a c t) (dBlk m a c t) (yBlk m a c (last a t)) b0 b1 hu' _)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS0]; · iexact HS0
    isplitl [HS1]; · iexact HS1
    iintro ⟨⟨H0, H1, H2, H3, HT0, HT1⟩, H4, HS0, HS1⟩
    isplitl [HS0 HS1 HT0 HT1]
    · iexists b0, b1
      isplitr; swap
      · isplitl [HS0]; · iexact HS0
        isplitl [HS1]; · iexact HS1
        isplitl [HT0]; · iexact HT0
        iexact HT1
      · ipureintro
        intro s hs
        have hst : s = t := Fin.ext (by have : s.val + 1 = t.val + 1 := hs; omega)
        have hp' := hb ⟨t.val - 1, by omega⟩ (by show t.val - 1 + 1 = t.val; omega)
        rw [hst, last_past a t ⟨t.val - 1, by omega⟩ hle (by show t.val - 1 + 1 = t.val; omega)]
        exact hp'
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iapply (handsBack_past m a c t hp hle)
    iexact H4

/-- The library's body obligation, at every point. -/
theorem body_obligation (hp : Plan a.1) : BodyObligation (dats m a 0 c) (defs₀ (F := F)) Variants.none () Set.univ := fun t => by
  rw [bigSep_W0]
  exact sound_body m a c hp t

end Cert.Kernel2Ideal.Experts

end
-- ==== Proof.Experts.Launch.lean ====
/- The experts' kernel runs: one run, over any float values, from which both programs' frames are read. -/
module

public import proofs.«01_k».proof.Proof.Experts.Body

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The tables of memory `m` are the ones the pipeline runs at. -/
abbrev RunsAt : Prop := ∀ (c : Dev nD) (j : Fin 2), m ((c : Thread nD τ).loc (pre0.ref j)) = a.1 j

abbrev EP : Emb (UR sig nD τ) 𝕄 := emb₁

/-- The launch element. -/
def u₀ : UR sig nD τ :=
  initOf (Pipeline.cells (Pipeline.pin pcfgs fun _ => a) ((launch0 (F := F)).cellOf_inj fun _ => a))
    (Pipeline.launchToks (Pipeline.pin pcfgs fun _ => a) ((launch0 (F := F)).cellOf_inj fun _ => a))

theorem share_eq (c : Dev nD) (w : Fin (cfg0 a).W) : (dats m a 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats m a 0 c).Φ 0 := by
  rw [prefHeld_eq, scopedRest0_eq, show (dats m a 0 c).Φ 0 = Phi m a c 0 from rfl]
  unfold Phi
  iintro ⟨-, ⟨HT0, HT1⟩, ⟨%b0, HS0⟩, ⟨%b1, HS1⟩⟩
  iexists b0, b1
  isplitr; swap
  · isplitl [HS0]; · iexact HS0
    isplitl [HS1]; · iexact HS1
    isplitl [HT0]; · iexact HT0
    iexact HT1
  · ipureintro
    intro s hs
    exact absurd (show s.val + 1 = 0 from hs) (Nat.succ_ne_zero _)

theorem phi_exit (c : Dev nD) : (dats m a 0 c).Φ (Fin.last (cfg0 a).N) ⊢ iprop(BI.emp ∗ Pipeline.scopedRest spec0 c) := by
  rw [scopedRest0_eq, show (dats m a 0 c).Φ (Fin.last (cfg0 a).N) = Phi m a c (Fin.last _) from rfl]
  unfold Phi
  iintro ⟨%b0, %b1, -, HS0, HS1, -, -⟩
  isplitr; · iempintro
  isplitl [HS0]
  · iexists b0; iexact HS0
  iexists b1; iexact HS1

/-- Every array ends at what the pipeline's data say, every table at what it ran at. -/
def Ends : PUnit × MemSt nD τ sig (Elt F) → Prop := fun r =>
  ∀ c : Dev nD, (∀ w : Fin (cfg0 a).W, r.2.mem (((cfg0 a).win w).arr.view.loc (c : Thread nD τ)) = (dats m a 0 c).arrAt w (cfg0 a).N)
    ∧ ∀ j, r.2.mem ((c : Thread nD τ).loc (pre0.ref j)) = a.1 j

set_option backward.isDefEq.respectTransparency.types false in
set_option maxHeartbeats 4000000 in
/-- The run: it ends, with the arrays as stated and every semaphore at zero. -/
theorem run_main (hp : Plan a.1) (ht : RunsAt m a) :
    θ_run (defs (F := F)) (onTc (τ := τ) (main (F := F))) ⟨m, fun _ => 0, ρ⟩ (fun r => Ends m a r ∧ r.2.sem = fun _ => 0) :=
  Pipeline.θ_run_region_noSem_pf_quiescent pcfgs (fun _ => a) (dats m a) () ((launch0 (F := F)).cellOf_inj fun _ => a) (0 : Fin 1)
    (launch0 (F := F)).win.to₀ (launch0 (F := F)).pre EP defs₀ Variants.none m ρ main
    (hbody := fun c => (body_obligation m a c hp).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (Pipeline.pin pcfgs fun _ => a) (dats m a) 0 (launch0 (F := F)).win.arr_inj c (launch0 (F := F)).arr_whole
      (share_eq m a c) _ _ fun _ => rfl)
    (hpf := ht)
    (X := fun _ => iprop(emp)) (Y := fun _ => iprop(emp)) (Z := fun _ => iprop(emp))
    (hX := fun c => by rw [unscopedRestP0_eq]; iintro -; isplitr <;> iempintro)
    (hin := phi_intro m a)
    (hout := phi_exit m a)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run, with the argument arrays unchanged. -/
theorem run_args (hp : Plan a.1) (ht : RunsAt m a) :
    θ_run (defs (F := F)) (onTc (τ := τ) (main (F := F))) ⟨m, fun _ => 0, ρ⟩ (fun r => (∀ c : Dev nD,
      r.2.mem ((c.tc : Thread nD τ).loc main_v0) = (dats m a 0 c).arrAt (4 : Fin 5) (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 (4 : Fin 5),
    ((h.1 c).2 0).trans (ht c 0).symm, ((h.1 c).2 1).trans (ht c 1).symm,
    ((h.1 c).1 (0 : Fin 5)).trans ((dats m a 0 c).arrAt_in (0 : Fin 5) rfl _),
    ((h.1 c).1 (1 : Fin 5)).trans ((dats m a 0 c).arrAt_in (1 : Fin 5) rfl _),
    ((h.1 c).1 (2 : Fin 5)).trans ((dats m a 0 c).arrAt_in (2 : Fin 5) rfl _),
    ((h.1 c).1 (3 : Fin 5)).trans ((dats m a 0 c).arrAt_in (3 : Fin 5) rfl _)⟩, h.2⟩) (run_main m ρ a hp ht)

end Cert.Kernel2Ideal.Experts

end
-- ==== Proof.Experts.Frames.lean ====
/- The precondition is a plan in range, and from it both programs run. -/
module

public import proofs.«01_k».proof.Proof.Experts.Launch
public import proofs.«01_k».proof.Proof.Gen.Kernel2
public import proofs.«01_k».proof.Proof.Gen.Pre_plan_in_range
public import proofs.«01_k».proof.Defs

@[expose] public section

set_option maxRecDepth 16384

noncomputable section

namespace Cert.Kernel2Ideal.Experts

open Cert.Kernel2Ideal Cert.Kernel2Ideal.Gen
open Idealize.ShloMosaic Idealize.ShloMosaic.WordCmp
open Idealize.ShloMosaic.TcCoe
open Idealize.SL.Sem

theorem and_one (b c : Bool) (h : BitVec.ofBool b &&& BitVec.ofBool c = 1#1) : b = true ∧ c = true := by
  revert h; cases b <;> cases c <;> decide

theorem toNat_of_range (w lo hi : BitVec 32) (hlo : lo.toNat < 2 ^ 31) (hhi : hi.toNat < 2 ^ 31) (h1 : lo.toInt ≤ w.toInt) (h2 : w.toInt ≤ hi.toInt) :
    lo.toNat ≤ w.toNat ∧ w.toNat ≤ hi.toNat := by
  rw [toInt_small lo hlo] at h1
  rw [toInt_small hi hhi] at h2
  rw [BitVec.toInt_eq_toNat_cond] at h1 h2
  split at h1 <;> omega

/-- The precondition, read. -/
theorem plan_of_fn {F : FTy → Type} [FloatOps F] (pf : pre0.Contents (Elt F)) (x2 : FVec F Cert.Pre_plan_in_range.S40704x1024 .f32)
    (x3 x4 : FVec F Cert.Pre_plan_in_range.S32x1024x256 .f32) (x5 : FVec F Cert.Pre_plan_in_range.S32x256x1024 .f32)
    (h : (Cert.Pre_plan_in_range.fn (F := F) (pf 0) (pf 1) x2 x3 x4 x5).1 = (fun _ => 1#1)
      ∧ (Cert.Pre_plan_in_range.fn (F := F) (pf 0) (pf 1) x2 x3 x4 x5).2 = (fun _ => 1#1)) : Plan pf := by
  have ht : ∀ n, (te pf n).toNat ≤ 31 := fun n => by
    have e : IntOp.cmpi .sge (te pf n) 0#32 &&& IntOp.cmpi .slt (te pf n) 32#32 = 1#1 := congrFun h.1 (ix1 (n0 := 159) n)
    rw [cmpi_sge_eq, cmpi_slt_eq] at e
    obtain ⟨e1, e2⟩ := and_one _ _ e
    have e2 := of_decide_eq_true e2
    exact (toNat_of_range (te pf n) 0#32 31#32 (by decide) (by decide) (of_decide_eq_true e1)
      (by rw [show (31#32 : BitVec 32).toInt = 31 from by decide]; rw [show (32#32 : BitVec 32).toInt = 32 from by decide] at e2; omega)).2
  have hn : 1 ≤ (nt pf).toNat ∧ (nt pf).toNat ≤ 159 := by
    have e : IntOp.cmpi .sge (nt pf) 1#32 &&& IntOp.cmpi .sle (nt pf) 159#32 = 1#1 := congrFun h.2 (ix1 (n0 := 1) 0)
    rw [cmpi_sge_eq, cmpi_sle_eq] at e
    obtain ⟨e1, e2⟩ := and_one _ _ e
    exact toNat_of_range (nt pf) 1#32 159#32 (by decide) (by decide) (of_decide_eq_true e1) (of_decide_eq_true e2)
  exact ⟨fun n => by have := ht n; omega, hn.1, hn.2⟩

variable {F : FTy → Type} [FloatOps F] (m : (ℓ : Loc nD τ sig) → Buf (Elt F) ℓ)

/-- The tables of a memory. -/
def tables : pre0.Contents (Elt F) := fun j => m (((0 : Dev nD).tc : Thread nD τ).loc (pre0.ref j))

theorem runsAt (hp : Plan (tables m)) : RunsAt m ⟨tables m, ok_of_plan hp⟩ := fun c j => by
  have : c = 0 := Subsingleton.elim (α := Fin 1) c 0
  subst this; rfl

theorem plan_of_pre (m : (ℓ : Loc nD τ sig) → Buf (Elt Ideal) ℓ) (h : Cert.Pre_Kernel2Ideal m) : Plan (tables m) := plan_of_fn (tables m) _ _ _ _ (h 0)

/-- The frame of a memory whose tables are a plan. -/
theorem frame_at (g : Dev nD → PrngReg) (hp : Plan (tables m)) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hr => ⟨fun c => (hr.1 c).2, hr.2⟩) (run_args m g ⟨tables m, ok_of_plan hp⟩ hp (runsAt m hp))

/-- The idealized kernel's frame, -/
theorem frame_ideal : Cert.quiescent_Kernel2Ideal := fun m g h => frame_at m g (plan_of_pre m h)

theorem plan_of_pre_bits (m : (ℓ : Loc nD τ sig) → Buf (Elt Bits) ℓ) (h : Cert.Pre_Kernel2 m) : Plan (tables m) := plan_of_fn (tables m) _ _ _ _ (h 0)

/-- The two programs' body tables are one, case by case, -/
theorem bodies_same : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))

theorem defs_same : Cert.Kernel2.defs (F := F) = Cert.Kernel2Ideal.defs (F := F) := congrArg (Pipeline.defs (Cert.Kernel2Ideal.pcfgs (F := F))) bodies_same

/-- and the kernel's, from the same run: the two programs have one text. -/
theorem frame_kernel : Cert.quiescent_Kernel2 := fun m g h =>
  Eq.mpr (congrArg (fun D => θ_run D (onTc (τ := Cert.Kernel2.τ) (Cert.Kernel2.main (F := Bits))) ⟨m, fun _ => 0, g⟩ _) (defs_same (F := Bits)))
    (frame_at (F := Bits) m g (plan_of_pre_bits m h))

end Cert.Kernel2Ideal.Experts

end
-- ==== Proof.Experts.Final.lean ====
/- After the run, every row of a tile in use holds what that tile's point computed. -/
module

public import proofs.«01_k».proof.Proof.Experts.Data

@[expose] public section

set_option maxRecDepth 16384

noncomputable section

namespace Cert.Kernel2Ideal.Experts

open Cert.Kernel2Ideal Cert.Kernel2Ideal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (a : (pcfg0 (F := F)).Adm) (c : Dev nD)

/-- Row `r` of tile `n`, of the whole array. -/
abbrev rowOf (n : Fin 159) (r : Fin 256) : Fin 40704 := ⟨n.val * 256 + r.val, by omega⟩

theorem emb_at (hp : Plan a.1) (t : Fin (cfg0 a).N) (r : Fin 256) (d : Fin 1024) :
    (((cfg0 a).win (4 : Fin 5)).blk t).view.emb (ix2 r d) = ix2 (n0 := 40704) (n1 := 1024) (rowOf ⟨lastUsed a t.val, lastUsed_lt a (tile a t).isLt⟩ r) d := by
  refine funext fun x => Fin.ext ?_
  refine (Window.rect_emb_val ((cfg0 a).win 4) t _ x).trans ?_
  refine (congrFun (congrArg (fun (g : Fin 2 → Nat) (x : Fin 2) => g x * ((cfg0 a).win 4).size x + (ix2 (n0 := 256) (n1 := 1024) r d x).val) (index4 a hp t)) x).trans ?_
  match x with
  | ⟨0, _⟩ => rfl
  | ⟨1, _⟩ => show 0 * 1024 + d.val = d.val; omega

/-- The point that writes tile `n` back. -/
theorem flushing (hp : Plan a.1) (n : Fin 159) (hn : n.val < (nt a.1).toNat) :
    ∃ t : Fin (cfg0 a).N, ((cfg0 a).win (4 : Fin 5)).flush t = true ∧ lastUsed a t.val = n.val := by
  have hN : (cfg0 a).N = 159 := N_0
  by_cases h : n.val + 1 < (nt a.1).toNat
  · refine ⟨⟨n.val, by rw [hN]; exact n.isLt⟩, (flush_iff a hp _).2 (.inr h), ?_⟩
    show min n.val _ = n.val; omega
  · refine ⟨⟨158, by rw [hN]; omega⟩, (flush_iff a hp _).2 (.inl rfl), ?_⟩
    show min 158 _ = n.val
    have := n.isLt
    omega

theorem result_at (hp : Plan a.1) (n : Fin 159) (hn : n.val < (nt a.1).toNat) (r : Fin 256) (d : Fin 1024) :
    (dats m a 0 c).arrAt (4 : Fin 5) (cfg0 a).N (ix2 (n0 := 40704) (n1 := 1024) (rowOf n r) d)
      = yBlk m a c (⟨n.val, by show n.val < grid0.N; rw [N_0]; exact n.isLt⟩ : Fin (cfg0 a).N) (ix2 r d) := by
  obtain ⟨t, hf, ht⟩ := flushing a hp n hn
  have he : (((cfg0 a).win (4 : Fin 5)).blk t).view.emb (ix2 r d) = ix2 (n0 := 40704) (n1 := 1024) (rowOf n r) d := by
    rw [emb_at a hp]; congr 1; apply Fin.ext; show lastUsed a t.val * 256 + r.val = n.val * 256 + r.val; rw [ht]
  let P : S40704x1024.Idx → Elt F .f32 → Prop := fun i v =>
    ∀ (n : Fin 159) (r : Fin 256) (d : Fin 1024), i = ix2 (n0 := 40704) (n1 := 1024) (rowOf n r) d →
      v = yBlk m a c (⟨n.val, by show n.val < grid0.N; rw [N_0]; exact n.isLt⟩ : Fin (cfg0 a).N) (ix2 r d)
  have key := (dats m a 0 c).arrAt_forall_of_flushed (4 : Fin 5) P (fun t hf y => ?_) (cfg0 a).N t (ix2 (n0 := 40704) (n1 := 1024) (rowOf n r) d) t.isLt hf
    (he ▸ View.emb_mem_set _ _)
  · exact key n r d rfl
  · intro n' r' d' h
    obtain ⟨r₀, d₀, rfl⟩ : ∃ (r₀ : Fin 256) (d₀ : Fin 1024), y = ix2 r₀ d₀ := ⟨y 0, y 1, by funext a; match a with | ⟨0, _⟩ => rfl | ⟨1, _⟩ => rfl⟩
    rw [emb_at a hp] at h
    have h0 : lastUsed a t.val * 256 + r₀.val = n'.val * 256 + r'.val := congrArg Fin.val (congrFun h 0)
    have h1 : d₀ = d' := congrFun h 1
    have hl : lastUsed a t.val = n'.val := by omega
    have hr : r₀ = r' := Fin.ext (by omega)
    subst h1 hr
    show yBlk m a c (last a t) (ix2 r₀ d₀) = _
    congr 1
    congr 1
    exact Fin.ext hl

end Cert.Kernel2Ideal.Experts

end
-- ==== Proof.Experts.Tile.lean ====
/- What the kernel computes for one tile, over the reals: one row of the hidden layer, gated, then projected down. -/
module

public import proofs.«01_k».proof.Proof.Experts.Contents
public import Idealize.ShloMosaic.Lib.Pointwise

@[expose] public section

set_option maxRecDepth 16384

noncomputable section

namespace Cert.Kernel2Ideal.Experts

open Cert.Kernel2Ideal Cert.Kernel2Ideal.Gen
open Idealize.ShloMosaic

/-- A gate's and an up projection's value, combined: `silu(g) · u`. -/
def gated (g u : EReal) : EReal := g * Ideal.div 1 (1 + Ideal.exp (-g)) * u

theorem pay1_at (x : S1x1024x256.Idx → Elt Ideal .f32) (d : Fin 1024) (f : Fin 256) : k0_pay1 (F := Ideal) x (ix2 d f) = x (ix3 0 d f) := by
  unfold k0_pay1
  pointwise
theorem pay2_at (x : S1x1024x256.Idx → Elt Ideal .f32) (d : Fin 1024) (f : Fin 256) : k0_pay2 (F := Ideal) x (ix2 d f) = x (ix3 0 d f) := by
  unfold k0_pay2
  pointwise
theorem pay3_at (x : S1x256x1024.Idx → Elt Ideal .f32) (f : Fin 256) (d : Fin 1024) : k0_pay3 (F := Ideal) x (ix2 f d) = x (ix3 0 f d) := by
  unfold k0_pay3
  pointwise

/-- The left half of the first scratch buffer is the gate's weights, the right half the up projection's. -/
theorem wgu_left (x1 x2 : S1x1024x256.Idx → Elt Ideal .f32) (d : Fin 1024) (f : Fin 256) :
    wgu (F := Ideal) x1 x2 (ix2 (n0 := 1024) (n1 := 512) d ⟨f.val, by omega⟩) = x1 (ix3 0 d f) := by
  unfold wgu sides
  refine (View.canon_cons_of_not_mem _ _ (fun h => ?_)).trans ?_
  · rw [Rect.mem_set_unit] at h
    have := (h 1).1
    change 256 ≤ f.val at this
    omega
  · have := View.canon_cons_emb (Val := Elt Ideal) (s := S1024x512) (e := .bf16) (Rect.unit ![0, 0] ![1024, 256] inb_S1024x512_S1024x256_0_0) (k0_pay1 (F := Ideal) x1) [] (ix2 d f)
    rw [pay1_at] at this
    rw [← this]
    congr 1
    funext a
    match a with
    | ⟨0, _⟩ => apply Fin.ext; show d.val = 0 + 1 * d.val; omega
    | ⟨1, _⟩ => apply Fin.ext; show f.val = 0 + 1 * f.val; omega

theorem wgu_right (x1 x2 : S1x1024x256.Idx → Elt Ideal .f32) (d : Fin 1024) (f : Fin 256) :
    wgu (F := Ideal) x1 x2 (ix2 (n0 := 1024) (n1 := 512) d ⟨256 + f.val, by omega⟩) = x2 (ix3 0 d f) := by
  unfold wgu sides
  have := View.canon_cons_emb (Val := Elt Ideal) (s := S1024x512) (e := .bf16) (Rect.unit ![0, 256] ![1024, 256] inb_S1024x512_S1024x256_0_256) (k0_pay2 (F := Ideal) x2)
    [⟨Rect.unit ![0, 0] ![1024, 256] inb_S1024x512_S1024x256_0_0, k0_pay1 x1⟩] (ix2 d f)
  rw [pay2_at] at this
  rw [← this]
  congr 1
  funext a
  match a with
  | ⟨0, _⟩ => apply Fin.ext; show d.val = 0 + 1 * d.val; omega
  | ⟨1, _⟩ => apply Fin.ext; show 256 + f.val = 256 + 1 * f.val; omega

theorem pay4_at (x : S256x1024.Idx → Elt Ideal .f32) (w : S1024x512.Idx → Elt Ideal .bf16) (v : S256x1024.Idx → Elt Ideal .bf16) (r : Fin 256) (d : Fin 1024) :
    k0_pay4 (F := Ideal) x w v (ix2 r d) = ∑ f : Fin 256,
      gated (∑ k : Fin 1024, x (ix2 r k) * w (ix2 (n0 := 1024) (n1 := 512) k ⟨f.val, by omega⟩))
        (∑ k : Fin 1024, x (ix2 r k) * w (ix2 (n0 := 1024) (n1 := 512) k ⟨256 + f.val, by omega⟩)) * v (ix2 f d) := by
  unfold k0_pay4 gated
  pointwise
  simp only [sub_eq_add_neg, zero_add]

/-- One row of a tile's result. -/
theorem rows_at (x : S256x1024.Idx → Elt Ideal .f32) (x1 x2 : S1x1024x256.Idx → Elt Ideal .f32) (x3 : S1x256x1024.Idx → Elt Ideal .f32) (r : Fin 256) (d : Fin 1024) :
    rows (F := Ideal) x x1 x2 x3 (ix2 r d) = ∑ f : Fin 256,
      gated (∑ k : Fin 1024, x (ix2 r k) * x1 (ix3 0 k f)) (∑ k : Fin 1024, x (ix2 r k) * x2 (ix3 0 k f)) * x3 (ix3 0 f d) := by
  unfold rows wdn
  rw [pay4_at]
  simp only [wgu_left, wgu_right, pay3_at]

end Cert.Kernel2Ideal.Experts

end
-- ==== Proof.Experts.Ref.lean ====
/- The reference's result, one element at a time: the sum over all experts keeps the chosen one. -/
module

public import proofs.«01_k».proof.Proof.Gen.Reference2Ideal.Read
public import Idealize.ShloMosaic.Lib.Pointwise
public import Idealize.ShloMosaic.Lib.WordCmp

@[expose] public section

set_option maxRecDepth 16384

noncomputable section

namespace Cert.Reference2Ideal.Experts

open Cert.Reference2Ideal Cert.Reference2Ideal.Gen Cert.Reference2Ideal.Read
open Idealize.ShloMosaic Idealize.ShloMosaic.WordCmp

variable (te : S159.Idx → Elt Ideal .i32) (x : S40704x1024.Idx → Elt Ideal .f32) (wg wu : S32x1024x256.Idx → Elt Ideal .f32) (wd : S32x256x1024.Idx → Elt Ideal .f32)

theorem one_word : Ideal.ofBits .f32 0x3F800000#32 = 1 := by
  simp [Ideal.ofBits, Ideal.ieee, -EReal.coe_mul]
  norm_num

/-- The choice of expert: one at the tile's own, zero elsewhere. -/
theorem chosen_at (p : Fin 40704) (e : Fin 32) (f : Fin 256) :
    val_main_v8 (F := Ideal) te (ix3 p e f) = if (te (ix1 (n0 := 159) ⟨p.val / 256, by omega⟩)).toNat = e.val then 1 else 0 := by
  rw [val_main_v8_apply, val_main_v7_apply, val_main_v2_apply, val_main_call0_v4_apply, val_main_call0_v2_apply, val_main_call0_v3_apply,
    val_main_call0_v0_apply, val_main_call0_v1_apply, val_main_v1_apply, val_main_v0_apply]
  have hi : idx_main_v0 (idx_main_v1 (idx_main_call0_v0 (idx_main_call0_v2 (idx_main_v7 (idx_main_v8 (ix3 (n0 := 40704) (n1 := 32) (n2 := 256) p e f))))))
      = ix1 (n0 := 159) ⟨p.val / 256, by omega⟩ := funext fun a => by match a with | ⟨0, _⟩ => rfl
  rw [hi]
  generalize te (ix1 (n0 := 159) ⟨p.val / 256, _⟩) = w
  show (((IntOp.cmpi .eq (w : BitVec 32) (BitVec.ofNat 32 e.val)).toNat : ℝ) : EReal) = _
  have hw : (BitVec.ofNat 32 e.val).toNat = e.val := by rw [BitVec.toNat_ofNat]; omega
  rw [cmpi_eq_eq_toNat, hw]
  by_cases h : (w : BitVec 32).toNat = e.val
  · rw [if_pos h, decide_eq_true h]; simp
  · rw [if_neg h, decide_eq_false h]; simp

theorem hidden_at (p : Fin 40704) (e : Fin 32) (f : Fin 256) :
    val_main_v6 (F := Ideal) x wg wu (ix3 p e f) = (∑ k : Fin 1024, x (ix2 p k) * wg (ix3 e k f))
      * Ideal.div 1 (1 + Ideal.exp (-(∑ k : Fin 1024, x (ix2 p k) * wg (ix3 e k f)))) * ∑ k : Fin 1024, x (ix2 p k) * wu (ix3 e k f) := by
  have hl : ∀ k, lidx_main_v3 (ix3 (n0 := 40704) (n1 := 32) (n2 := 256) p e f) k = ix2 p k := fun k => funext fun a => by
    match a with | ⟨0, _⟩ => rfl | ⟨1, _⟩ => rfl
  have hr : ∀ k, ridx_main_v3 (ix3 (n0 := 40704) (n1 := 32) (n2 := 256) p e f) k = ix3 e k f := fun k => funext fun a => by
    match a with | ⟨0, _⟩ => rfl | ⟨1, _⟩ => rfl | ⟨2, _⟩ => rfl
  have hl' : ∀ k, lidx_main_v5 (ix3 (n0 := 40704) (n1 := 32) (n2 := 256) p e f) k = ix2 p k := fun k => funext fun a => by
    match a with | ⟨0, _⟩ => rfl | ⟨1, _⟩ => rfl
  have hr' : ∀ k, ridx_main_v5 (ix3 (n0 := 40704) (n1 := 32) (n2 := 256) p e f) k = ix3 e k f := fun k => funext fun a => by
    match a with | ⟨0, _⟩ => rfl | ⟨1, _⟩ => rfl | ⟨2, _⟩ => rfl
  rw [val_main_v6_apply, val_main_v4_apply, val_main_call1_v5_apply, val_main_call1_v4_apply, val_main_call1_v3_apply, val_main_call1_v2_apply,
    val_main_call1_v1_apply, val_main_call1_v0_apply, val_main_call1_cst_0_apply, val_main_call1_cst_apply, val_main_v3_apply, val_main_v5_apply]
  simp only [hl, hr, hl', hr', Ideal.mulf_def, Ideal.hostDivf_def, Ideal.addf_def, Ideal.hostUnary_exp_def, Ideal.hostNegf_def, Ideal.negf_def, Ideal.ofBits_def, one_word]

theorem sum_at (y : S40704x32x256.Idx → Elt Ideal .f32) (p : Fin 40704) (d : Fin 1024) :
    Host.dotGeneral (F := Ideal) (φ₁ := .f32) (φ₂ := .f32) dot_S40704x32x256_S32x256x1024_S40704x1024_12_01_0_2_n_n none y wd (ix2 p d)
      = ∑ e : Fin 32, ∑ f : Fin 256, y (ix3 p e f) * wd (ix3 e f d) := by
  pointwise

/-- A row of a tile whose expert is `e`: only that expert's terms remain. -/
theorem result_at (p : Fin 40704) (d : Fin 1024) (e : Fin 32) (he : (te (ix1 (n0 := 159) ⟨p.val / 256, by omega⟩)).toNat = e.val) :
    val_main_v10 (F := Ideal) te x wg wu wd (ix2 p d) = ∑ f : Fin 256, ((∑ k : Fin 1024, x (ix2 p k) * wg (ix3 e k f))
      * Ideal.div 1 (1 + Ideal.exp (-(∑ k : Fin 1024, x (ix2 p k) * wg (ix3 e k f)))) * ∑ k : Fin 1024, x (ix2 p k) * wu (ix3 e k f)) * wd (ix3 e f d) := by
  unfold val_main_v10
  rw [sum_at, Finset.sum_eq_single e]
  · refine Finset.sum_congr rfl fun f _ => ?_
    rw [val_main_v9_apply, hidden_at, chosen_at, if_pos he, Ideal.mulf_def, mul_one]
  · intro e' _ hne
    refine Finset.sum_eq_zero fun f _ => ?_
    rw [val_main_v9_apply, chosen_at, if_neg (fun h => hne (Fin.ext (h.symm.trans he))), Ideal.mulf_def, mul_zero, zero_mul]
  · intro h; exact absurd (Finset.mem_univ e) h

end Cert.Reference2Ideal.Experts

end
-- ==== Proof.Experts.Equal.lean ====
/- On the rows in use the kernel's result is the reference's. -/
module

public import proofs.«01_k».proof.Proof.Experts.Final
public import proofs.«01_k».proof.Proof.Experts.Tile
public import proofs.«01_k».proof.Proof.Experts.Ref
public import proofs.«01_k».proof.On_rows_in_use

@[expose] public section

set_option maxRecDepth 16384

noncomputable section

namespace Cert.Kernel2Ideal.Experts

open Cert.Kernel2Ideal Cert.Kernel2Ideal.Gen
open Idealize.ShloMosaic Idealize.ShloMosaic.WordCmp
open Idealize.ShloMosaic.TcCoe
open Idealize.SL.Sem

instance mask_facts : Cert.On_rows_in_use.Facts := ⟨by decide, by decide⟩

/-- The mask, read: the row lies in a tile in use. -/
theorem row_in_use (t : IVec Cert.On_rows_in_use.S159 32) (u : IVec Cert.On_rows_in_use.S1 32) (hu : (u (ix1 (n0 := 1) 0)).toNat ≤ 159) (x2 : FVec Ideal Cert.On_rows_in_use.S40704x1024 .f32)
    (x3 x4 : FVec Ideal Cert.On_rows_in_use.S32x1024x256 .f32) (x5 : FVec Ideal Cert.On_rows_in_use.S32x256x1024 .f32) (p : Fin 40704) (d : Fin 1024)
    (h : Cert.On_rows_in_use.fn (F := Ideal) t u x2 x3 x4 x5 (ix2 p d) = 1#1) : p.val < (u (ix1 (n0 := 1) 0)).toNat * 256 := by
  have hv : shapeCast Cert.On_rows_in_use.S_ u Cert.On_rows_in_use.Facts.shapeCasts_S1_S_ = fun _ => u (ix1 (n0 := 1) 0) := by
    funext i
    have e1 : (Cert.On_rows_in_use.S1.rowMajor (ix1 (n0 := 1) 0)).val < 1 := (Cert.On_rows_in_use.S1.rowMajor (ix1 (n0 := 1) 0)).isLt
    have e2 : (Cert.On_rows_in_use.S_.rowMajor i).val < 1 := (Cert.On_rows_in_use.S_.rowMajor i).isLt
    exact shapeCast_apply _ _ _ _ (by omega)
  unfold Cert.On_rows_in_use.fn at h
  dsimp only at h
  rw [hv] at h
  have h' : IntOp.cmpi .slt (BitVec.ofNat 32 p.val) (u (ix1 (n0 := 1) 0) * 256#32) = 1#1 := h
  have e1 : (BitVec.ofNat 32 p.val).toNat = p.val := by rw [BitVec.toNat_ofNat]; omega
  have e2 : (u (ix1 (n0 := 1) 0) * 256#32).toNat = (u (ix1 (n0 := 1) 0)).toNat * 256 := by
    rw [BitVec.toNat_mul]; show (u (ix1 (n0 := 1) 0)).toNat * 256 % 2 ^ 32 = _; omega
  rw [cmpi_slt_of_lt (by rw [e1]; omega) (by rw [e2]; omega), ofBool_eq_one, decide_eq_true_iff, e1, e2] at h'
  exact h'

variable (m : (ℓ : Loc nD τ sig) → Buf (Elt Ideal) ℓ) (a : (pcfg0 (F := Ideal)).Adm) (c : Dev nD)

theorem equal (hp : Plan a.1) (ht : m ((c : Thread nD τ).loc main_arg0) = a.1 0) (p : Fin 40704) (d : Fin 1024) (hu : p.val < (nt a.1).toNat * 256) :
    (dats m a 0 c).arrAt (4 : Fin 5) (cfg0 a).N (ix2 (n0 := 40704) (n1 := 1024) p d)
      = Cert.Reference2Ideal.Read.val_main_v10 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) (ix2 p d) := by
  obtain ⟨n, r, rfl⟩ : ∃ (n : Fin 159) (r : Fin 256), p = rowOf n r :=
    ⟨⟨p.val / 256, by omega⟩, ⟨p.val % 256, by omega⟩, Fin.ext (by show p.val = p.val / 256 * 256 + p.val % 256; omega)⟩
  have hn : n.val < (nt a.1).toNat := by change n.val * 256 + r.val < _ at hu; omega
  have hd : (n.val * 256 + r.val) / 256 = n.val := by omega
  refine (result_at m a c hp n hn r d).trans ?_
  refine Eq.trans ?_ (Cert.Reference2Ideal.Experts.result_at _ _ _ _ _ (rowOf n r) d ⟨(te a.1 n).toNat, hp.te_lt n⟩ (by
    rw [ht]
    show (a.1 0 (ix1 (n0 := 159) ⟨(n.val * 256 + r.val) / 256, _⟩) : BitVec 32).toNat = (a.1 0 (ix1 (n0 := 159) n) : BitVec 32).toNat
    simp only [hd])).symm
  unfold yBlk
  refine (rows_at _ _ _ _ r d).trans ?_
  have hx : ∀ k : Fin 1024, xBlk m a c (⟨n.val, by show n.val < grid0.N; rw [N_0]; exact n.isLt⟩ : Fin (cfg0 a).N) (ix2 r k)
      = m ((c : Thread nD τ).loc main_arg2) (ix2 (n0 := 40704) (n1 := 1024) (rowOf n r) k) := fun k => by
    rw [xBlk_at m a c hp]
    congr 1
    apply congrArg (fun v : Fin 40704 => ix2 (n0 := 40704) (n1 := 1024) v k)
    apply Fin.ext
    show min n.val ((nt a.1).toNat - 1) * 256 + r.val = n.val * 256 + r.val
    rw [Nat.min_eq_left (by omega)]
  refine Finset.sum_congr rfl fun f _ => ?_
  unfold gated
  rw [dBlk_at m a c hp]
  simp only [hx, gBlk_at m a c hp, uBlk_at m a c hp]
  rfl

end Cert.Kernel2Ideal.Experts

end
-- ==== Proof.Latent.Spec.lean ====
/- What the latent attention's kernel computes for a tile of 256 queries, over any float values. -/
module

public import proofs.«01_k».proof.Proof.Gen.Kernel3Ideal.Skeleton
public import Idealize.ShloMosaic.Lib.Pipeline.FrameBody
public import Idealize.ShloMosaic.Lib.Ring
public import Idealize.ShloMosaic.Lib.Pipeline.Value
public import Idealize.ShloMosaic.Lib.Writes
public import Idealize.ShloMosaic.Lib.Tactic
public import Idealize.ShloMosaic.Lib.Pointwise.Index

@[expose] public section

set_option maxRecDepth 16384

noncomputable section

namespace Cert.Kernel3Ideal.Latent

open Cert.Kernel3Ideal Cert.Kernel3Ideal.Gen
open Idealize.ShloMosaic Idealize.ShloMosaic.TcCoe

variable {F : FTy → Type} [FloatOps F]

/-- A head's index and a tile's or chunk's index. -/
abbrev Hd := Fin 2
abbrev Tl := Fin 16

theorem tile_inb (h : Hd) (t : Tl) : ∀ a, (![0, h.val, 256 * t.val, 0] : Fin 4 → Nat) a + S1x1x256x128.size a ≤ S1x2x4096x128.size a := by
  have := h.isLt; have := t.isLt
  intro a
  match a with
  | ⟨0, _⟩ => exact Nat.le_refl 1
  | ⟨1, _⟩ => show h.val + 1 ≤ 2; omega
  | ⟨2, _⟩ => show 256 * t.val + 256 ≤ 4096; omega
  | ⟨3, _⟩ => exact Nat.le_refl 128

theorem vals_inb (h : Hd) (c : Tl) : ∀ a, (![0, 64 * h.val, 256 * c.val] : Fin 3 → Nat) a + S1x64x256.size a ≤ S1x128x4096.size a := by
  have := h.isLt; have := c.isLt
  intro a
  match a with
  | ⟨0, _⟩ => exact Nat.le_refl 1
  | ⟨1, _⟩ => show 64 * h.val + 64 ≤ 128; omega
  | ⟨2, _⟩ => show 256 * c.val + 256 ≤ 4096; omega

/-- Rows `256 t` on of head `h`. -/
def tile (q : S1x2x4096x128.Idx → Elt F .bf16) (h : Hd) (t : Tl) : Vec F S1x1x256x128 .bf16 :=
  View.ld (Val := Elt F) (e' := .bf16) q (Rect.unit ![0, h.val, 256 * t.val, 0] S1x1x256x128.size (tile_inb h t))

/-- Columns `256 c` on of head `h`'s values. -/
def vals (v : S1x128x4096.Idx → Elt F .bf16) (h : Hd) (c : Tl) : Vec F S1x64x256 .bf16 :=
  View.ld (Val := Elt F) (e' := .bf16) v (Rect.unit ![0, 64 * h.val, 256 * c.val] S1x64x256.size (vals_inb h c))

/-- The chunks in the order the kernel takes them. -/
def order : List Tl := [0, 1, 2, 3, 4, 5, 6, 7, 8, 9, 10, 11, 12, 13, 14, 15]

/-- The greatest score of each query over all chunks: of the rows eight apart first, then of those eight. -/
def shiftOf (qt : Vec F S1x1x256x128 .bf16) (ks : Tl → Vec F S1x1x256x128 .bf16) : FVec F S1x256 .f32 :=
  k0_pay5 (order.foldl (fun m c => k0_pay13 m qt (ks c)) (broadcast S8x256 (Scalar.ofBits .f32 0xF149F2CA#32)))

/-- The weighted sums of a head's values, and below them sixteen times the sum of the weights. -/
def sumsOf (v0 : FVec F S16x256 .bf16) (m : FVec F S1x256 .f32) (ss : Tl → Vec F S1x256x256 .f32) (vs : Tl → Vec F S1x64x256 .bf16) : FVec F S80x256 .f32 :=
  order.foldl (fun a c => k0_pay125 v0 m a (ss c) (vs c)) (broadcast S80x256 (Scalar.ofBits .f32 0x00000000#32))

/-- The weighted sums times the reciprocal of the sum of the weights. -/
def headOf (a : FVec F S80x256 .f32) : FVec F S64x256 .f32 :=
  mulf (extractStridedSlice S64x256 ![0, 0] a slices_S80x256_o0_0_S64x256)
    (broadcastTo S64x256 (divf (broadcast S1x256 (Scalar.ofBits .f32 0x3F800000#32)) (extractStridedSlice S1x256 ![64, 0] a slices_S80x256_o64_0_S1x256))
      broadcasts_S1x256_S64x256)

/-- Both heads' results side by side, a row for a query. -/
def rowsOf (a0 a1 : FVec F S80x256 .f32) : FVec F S1x256x128 .f32 := k0_pay6 (headOf a0) a1

variable (q k : S1x2x4096x128.Idx → Elt F .bf16) (v : S1x128x4096.Idx → Elt F .bf16)

/-- The scores of chunk `c` of the keys with tile `t` of the queries. -/
def chunk (h : Hd) (t c : Tl) : Vec F S1x256x256 .f32 := k0_pay8 (tile q h t) (tile k h c)

def shift (h : Hd) (t : Tl) : FVec F S1x256 .f32 := shiftOf (tile q h t) (tile k h)

def sums (h : Hd) (t : Tl) : FVec F S80x256 .f32 := sumsOf k0_pay267 (shift q k h t) (chunk q k h t) (vals v h)

def rows (t : Tl) : FVec F S1x256x128 .f32 := rowsOf (sums q k v 0 t) (sums q k v 1 t)

/-- What a point leaves in its block of the result. -/
def block : S1x4096x128.Idx → Elt F .f32 := fun y =>
  rows q k v ⟨(y 1).val / 256, Nat.div_lt_of_lt_mul (y 1).isLt⟩
    (ix3 (n0 := 1) (n1 := 256) (n2 := 128) 0 ⟨(y 1).val % 256, Nat.mod_lt _ (by decide)⟩ (y 2))

theorem chunk_inb (h : Hd) (c : Tl) : ∀ a, (![h.val, 256 * c.val, 0] : Fin 3 → Nat) a + S1x256x256.size a ≤ S2x4096x256.size a := by
  have := h.isLt; have := c.isLt
  intro a
  match a with
  | ⟨0, _⟩ => show h.val + 1 ≤ 2; omega
  | ⟨1, _⟩ => show 256 * c.val + 256 ≤ 4096; omega
  | ⟨2, _⟩ => exact Nat.le_refl 256

/-- Where chunk `c` of head `h` lies in a scratch buffer. -/
abbrev place (h : Hd) (c : Tl) : Rect S2x4096x256 := Rect.unit ![h.val, 256 * c.val, 0] S1x256x256.size (chunk_inb h c)

/-- The stores of all chunks, the last one first. -/
def stores (ch : Hd → Tl → Vec F S1x256x256 .f32) : List (View.Piece (Elt F) S2x4096x256 .f32) :=
  (order.reverse.map fun c => ⟨place 1 c, ch 1 c⟩) ++ order.reverse.map fun c => ⟨place 0 c, ch 0 c⟩

/-- A scratch buffer that holds chunk `c` of head `h` at its place. -/
def held (ch : Hd → Tl → Vec F S1x256x256 .f32) : S2x4096x256.Idx → Elt F .f32 := fun y =>
  ch (y 0) ⟨(y 1).val / 256, Nat.div_lt_of_lt_mul (y 1).isLt⟩
    (ix3 (n0 := 1) (n1 := 256) (n2 := 256) 0 ⟨(y 1).val % 256, Nat.mod_lt _ (by decide)⟩ (y 2))

theorem held_place (ch : Hd → Tl → Vec F S1x256x256 .f32) (h : Hd) (c : Tl) (x : S1x256x256.Idx) : held ch ((place h c).emb x) = ch h c x := by
  have h1 : (x 1).val < 256 := (x 1).isLt
  have h0 : (x 0).val < 1 := (x 0).isLt
  have e0 : ((place h c).emb x) 0 = h := Fin.ext (by show h.val + 1 * (x 0).val = h.val; omega)
  have e1 : (((place h c).emb x) 1).val = 256 * c.val + (x 1).val := by show 256 * c.val + 1 * (x 1).val = _; omega
  have e2 : ((place h c).emb x) 2 = x 2 := Fin.ext (by show 0 + 1 * (x 2).val = (x 2).val; omega)
  unfold held
  have hc : (⟨(((place h c).emb x) 1).val / 256, Nat.div_lt_of_lt_mul (((place h c).emb x) 1).isLt⟩ : Tl) = c := Fin.ext (by show (((place h c).emb x) 1).val / 256 = c.val; omega)
  have hx : (ix3 (n0 := 1) (n1 := 256) (n2 := 256) 0 ⟨(((place h c).emb x) 1).val % 256, Nat.mod_lt _ (by decide)⟩ (((place h c).emb x) 2) : S1x256x256.Idx) = x := by
    funext a
    match a with
    | ⟨0, _⟩ => exact Fin.ext (by show 0 = (x 0).val; omega)
    | ⟨1, _⟩ => exact Fin.ext (by show (((place h c).emb x) 1).val % 256 = (x 1).val; omega)
    | ⟨2, _⟩ => exact e2
  rw [e0, hc]
  exact congrArg (ch h c) hx

theorem load_held (ch : Hd → Tl → Vec F S1x256x256 .f32) (h : Hd) (c : Tl) :
    View.ld (Val := Elt F) (e' := .f32) (held ch) (place h c) = ch h c := funext fun x => held_place ch h c x

theorem stores_agree (ch : Hd → Tl → Vec F S1x256x256 .f32) : ∀ p ∈ stores ch, ∀ x : p.1.shape.Idx, p.2 x = held ch (p.1.emb x) := by
  intro p hp x
  rcases List.mem_append.mp hp with hp | hp <;>
  · obtain ⟨c, -, rfl⟩ := List.mem_map.mp hp
    exact (held_place ch _ c x).symm

theorem stores_cover (ch : Hd → Tl → Vec F S1x256x256 .f32) : ∀ y, ∃ p ∈ stores ch, y ∈ p.1.set :=
  View.cover_of_tiledL (stores ch) S1x256x256.size (by sl_kernel_rfl)

/-- After the stores a buffer holds the chunks, whatever it held. -/
theorem read_stores {sig : RefSig} {κ : Kind} {sp : Space} (w : View sig κ sp S2x4096x256 .f32) (f : w.ty.Contents (Elt F)) (ch : Hd → Tl → Vec F S1x256x256 .f32) :
    w.read (Elt F) (w.writes (Elt F) f (stores ch)) = held ch :=
  funext fun y => View.read_writes_apply_of_pieces w f (held ch) (stores ch) (stores_agree ch) y (stores_cover ch y)

theorem load_stores {sig : RefSig} {κ : Kind} {sp : Space} (w : View sig κ sp S2x4096x256 .f32) (ch : Hd → Tl → Vec F S1x256x256 .f32) (h : Hd) (c : Tl) :
    w.readCov (stores ch) (place h c).toLoadRect = ch h c :=
  (congrArg (fun X => View.ld (Val := Elt F) (e' := .f32) X (place h c)) (read_stores w _ ch)).trans (load_held ch h c)

end Cert.Kernel3Ideal.Latent

end
-- ==== Proof.Latent.Math.lean ====
/- Softmax over the extended reals, by powers of e and of 2, and the latent attention as one formula. Both programs are read to it. -/
module

public import proofs.«01_k».proof.Proof.Swa.Spec

@[expose] public section

noncomputable section

namespace Base2

open Idealize.ShloMosaic Window

theorem lit_two : Ideal.ofBits .f32 0x40000000#32 = ((2 : ℝ) : EReal) := by
  simp [Ideal.ofBits, Ideal.ieee, -EReal.coe_mul]; norm_num

theorem lit_low : ∃ x : ℝ, Ideal.ofBits .f32 0xF149F2CA#32 = x := by
  refine ⟨-(13234890 * 2 ^ 76), ?_⟩
  simp [Ideal.ofBits, Ideal.ieee, -EReal.coe_mul]

theorem lit_one16 : Ideal.ofBits .bf16 0x3F80#16 = 1 := by simp [Ideal.ofBits, Ideal.ieee, -EReal.coe_mul]; norm_num

/-- The maximum of real numbers, at least one of them, is a real number; -/
theorem fold_real {n : Nat} (hn : 0 < n) (f : Fin n → EReal) (h : ∀ j, ∃ x : ℝ, f j = x) : ∃ x : ℝ, Finset.univ.fold max ⊥ f = x := by
  have ht : Finset.univ.fold max ⊥ f < ⊤ := by
    rw [Finset.fold_max_lt]
    exact ⟨bot_lt_top, fun j _ => by obtain ⟨x, hx⟩ := h j; rw [hx]; exact EReal.coe_lt_top x⟩
  have hb : (f ⟨0, hn⟩) ≤ Finset.univ.fold max ⊥ f := by rw [Finset.le_fold_max]; exact .inr ⟨_, Finset.mem_univ _, le_refl _⟩
  obtain ⟨x, hx⟩ := h ⟨0, hn⟩
  have hb' : ⊥ < Finset.univ.fold max ⊥ f := lt_of_lt_of_le (by rw [hx]; exact EReal.bot_lt_coe x) hb
  exact ⟨(Finset.univ.fold max ⊥ f).toReal, (EReal.coe_toReal ht.ne hb'.ne').symm⟩

/-- and so is the greater of two. -/
theorem max_real (a b : EReal) (ha : ∃ x : ℝ, a = x) (hb : ∃ x : ℝ, b = x) : ∃ x : ℝ, max a b = x := by
  rcases max_choice a b with h | h <;> rw [h] <;> assumption

/-- What the kernel's host code multiplies the queries by: log2(e) over the square root of the 96 lanes. -/
def rate : ℝ := 1 / (Real.sqrt 96 * Real.log 2)

theorem lit_96 : Ideal.ofBits .f32 0x42C00000#32 = ((96 : ℝ) : EReal) := by
  simp [Ideal.ofBits, Ideal.ieee, -EReal.coe_mul]; norm_num

theorem sqrt_96 : Ideal.sqrt ((96 : ℝ) : EReal) = ((Real.sqrt 96 : ℝ) : EReal) := by
  rw [Ideal.sqrt_coe, if_neg (by norm_num)]

theorem sqrt_96_pos : 0 < Real.sqrt 96 := Real.sqrt_pos.2 (by norm_num)
theorem log_two_pos : 0 < Real.log 2 := Real.log_pos (by norm_num)

theorem rate_eq : Ideal.div 1 (Ideal.sqrt ((96 : ℝ) : EReal) * Ideal.log ((2 : ℝ) : EReal)) = (rate : EReal) := by
  rw [sqrt_96, Ideal.log_coe, if_neg (by norm_num), ← EReal.coe_mul, Ideal.div_coe (mul_pos sqrt_96_pos log_two_pos).ne', one_mul]
  unfold rate
  rw [one_div]

/-- A power of 2 of a score times `rate` is a power of e of the score over the square root of 96, times a constant. -/
theorem base_change (s M m : ℝ) : Real.rpow 2 (rate * s - M) = Real.exp (s / Real.sqrt 96 - m) * Real.exp (m - Real.log 2 * M) := by
  have h1 := sqrt_96_pos.ne'
  have h2 := log_two_pos.ne'
  show (2 : ℝ) ^ (rate * s - M) = _
  rw [Real.rpow_def_of_pos (by norm_num), ← Real.exp_add]
  refine congrArg Real.exp ?_
  unfold rate
  field_simp
  ring

/-- Powers of 2 of the scores times `rate`, any real number subtracted from them, and one normalisation after the
    weighted sum: that is the softmax of the scores over the square root of 96. -/
theorem softmax_shift {n : Nat} (hn : 0 < n) (s : Fin n → ℝ) (M m : ℝ) (v : Fin n → EReal) :
    (∑ j, v j * Ideal.exp2 (((rate * s j : ℝ) : EReal) - (M : EReal))) * Ideal.div 1 (∑ j, Ideal.exp2 (((rate * s j : ℝ) : EReal) - (M : EReal)))
      = ∑ j, v j * Ideal.div (Ideal.exp (((s j / Real.sqrt 96 : ℝ) : EReal) - (m : EReal))) (∑ j, Ideal.exp (((s j / Real.sqrt 96 : ℝ) : EReal) - (m : EReal))) := by
  have pos : ∀ x : ℝ, 0 < Real.rpow 2 x := fun x => Real.rpow_pos_of_pos (by norm_num) x
  have sum2 : 0 < ∑ j, Real.rpow 2 (rate * s j - M) := Finset.sum_pos (fun j _ => pos _) ⟨⟨0, hn⟩, Finset.mem_univ _⟩
  have sume : 0 < ∑ j, Real.exp (s j / Real.sqrt 96 - m) := Finset.sum_pos (fun j _ => Real.exp_pos _) ⟨⟨0, hn⟩, Finset.mem_univ _⟩
  simp only [← EReal.coe_sub, Ideal.exp2_coe, Ideal.exp_coe]
  rw [← coe_sum, ← coe_sum, Ideal.div_coe sum2.ne', one_mul, sum_mul_coe _ _ _ (by positivity)]
  refine Finset.sum_congr rfl fun j _ => ?_
  rw [Ideal.div_coe sume.ne', mul_assoc, ← EReal.coe_mul, ← EReal.coe_mul]
  refine congrArg (fun x : ℝ => v j * (x : EReal)) ?_
  have hs : ∑ j, Real.rpow 2 (rate * s j - M) = (∑ j, Real.exp (s j / Real.sqrt 96 - m)) * Real.exp (m - Real.log 2 * M) := by
    rw [Finset.sum_mul]; exact Finset.sum_congr rfl fun j _ => base_change _ _ _
  have h2 := Real.exp_pos (m - Real.log 2 * M)
  rw [hs, base_change _ M m]
  field_simp

/-- Arrays of four batches of 4096 positions of eight heads of `d` lanes. -/
abbrev Arr (d : Nat) := (⟨4, ![4, 4096, 8, d]⟩ : Shape).Idx → EReal

section
variable (Q K : Arr 96) (V : Arr 64)

/-- The keys of a head: its own 64 lanes, then the 32 rotated lanes that all heads share. -/
def keys (kn : Arr 64) (kr : (⟨3, ![4, 4096, 32]⟩ : Shape).Idx → EReal) : Arr 96 := fun i =>
  if hl : (i 3).val < 64 then kn (ix4 (i 0) (i 1) (i 2) ⟨(i 3).val, hl⟩)
  else kr (ix3 (i 0) (i 1) ⟨(i 3).val - 64, by have : (i 3).val < 96 := (i 3).isLt; omega⟩)

/-- The score of query `s` against key `j` in head `h`. -/
def score (b : Fin 4) (h : Fin 8) (s j : Fin 4096) : EReal := ∑ l : Fin 96, Q (ix4 b s h l) * K (ix4 b j h l)

/-- The score over the square root of the 96 lanes. -/
def level (b : Fin 4) (h : Fin 8) (s j : Fin 4096) : EReal := Ideal.div (score Q K b h s j) ((Real.sqrt 96 : ℝ) : EReal)

/-- A query's greatest level. -/
def top (b : Fin 4) (h : Fin 8) (s : Fin 4096) : EReal := Finset.univ.fold max ⊥ (level Q K b h s)

/-- A key's weight before normalisation. -/
def wgt (b : Fin 4) (h : Fin 8) (s j : Fin 4096) : EReal := Ideal.exp (level Q K b h s j - top Q K b h s)

/-- The attention's lane `d` of head `h` at position `s`. -/
def att (b : Fin 4) (h : Fin 8) (s : Fin 4096) (d : Fin 64) : EReal :=
  ∑ j : Fin 4096, V (ix4 b j h d) * Ideal.div (wgt Q K b h s j) (∑ j, wgt Q K b h s j)

/-- The result: the eight heads side by side. -/
def out (i : (⟨3, ![4, 4096, 512]⟩ : Shape).Idx) : EReal :=
  att Q K V (i 0) ⟨(i 2).val / 64, Nat.div_lt_of_lt_mul (i 2).isLt⟩ (i 1) ⟨(i 2).val % 64, Nat.mod_lt _ (by decide)⟩

theorem score_real (hQ : ∀ i, ∃ x : ℝ, Q i = x) (hK : ∀ i, ∃ x : ℝ, K i = x) (b : Fin 4) (h : Fin 8) (s j : Fin 4096) :
    ∃ x : ℝ, score Q K b h s j = x := sum_real _ _ fun l _ => by
  obtain ⟨x, hx⟩ := hQ (ix4 b s h l)
  obtain ⟨y, hy⟩ := hK (ix4 b j h l)
  exact ⟨x * y, by rw [hx, hy]; rfl⟩

/-- The queries times `rate`. -/
def scaled : Arr 96 := fun i => Q i * (rate : EReal)

theorem scaled_real (hQ : ∀ i, ∃ x : ℝ, Q i = x) (i) : ∃ x : ℝ, scaled Q i = x := by
  obtain ⟨x, hx⟩ := hQ i
  exact ⟨x * rate, by unfold scaled; rw [hx]; rfl⟩

/-- The scaled queries' scores are `rate` times the scores. -/
theorem score_scaled (hQ : ∀ i, ∃ x : ℝ, Q i = x) (hK : ∀ i, ∃ x : ℝ, K i = x) (b : Fin 4) (h : Fin 8) (s : Fin 4096) :
    ∃ S : Fin 4096 → ℝ, (∀ j, score Q K b h s j = S j) ∧ ∀ j, score (scaled Q) K b h s j = ((rate * S j : ℝ) : EReal) := by
  choose x hx using hQ
  choose y hy using hK
  refine ⟨fun j => ∑ l : Fin 96, x (ix4 b s h l) * y (ix4 b j h l), fun j => ?_, fun j => ?_⟩
  · unfold score
    rw [coe_sum]
    refine Finset.sum_congr rfl fun l _ => ?_
    rw [hx, hy, EReal.coe_mul]
  · unfold score scaled
    rw [Finset.mul_sum, coe_sum]
    refine Finset.sum_congr rfl fun l _ => ?_
    rw [hx, hy, ← EReal.coe_mul, ← EReal.coe_mul]
    exact congrArg _ (by ring)

/-- The attention from powers of 2 of the scaled queries' scores, shifted by any real number. -/
theorem att_eq (hQ : ∀ i, ∃ x : ℝ, Q i = x) (hK : ∀ i, ∃ x : ℝ, K i = x) (b : Fin 4) (h : Fin 8) (s : Fin 4096) (d : Fin 64) (M : EReal) (hM : ∃ x : ℝ, M = x) :
    (∑ j, V (ix4 b j h d) * Ideal.exp2 (score (scaled Q) K b h s j - M)) * Ideal.div 1 (∑ j, Ideal.exp2 (score (scaled Q) K b h s j - M)) = att Q K V b h s d := by
  obtain ⟨M, rfl⟩ := hM
  obtain ⟨S, hS, hR⟩ := score_scaled Q K hQ hK b h s
  have hL : ∀ j, level Q K b h s j = ((S j / Real.sqrt 96 : ℝ) : EReal) := fun j => by
    unfold level
    rw [hS, Ideal.div_coe sqrt_96_pos.ne', ← EReal.coe_mul]
    exact congrArg _ (by ring)
  obtain ⟨m, hm⟩ := fold_real (by decide) (level Q K b h s) fun j => ⟨_, hL j⟩
  unfold att wgt top
  rw [hm]
  simp only [hL, hR]
  exact softmax_shift (by decide) S M m fun j => V (ix4 b j h d)

end

end Base2

end
-- ==== Proof.Latent.Read.lean ====
/- A tile's result, read at an index over the extended reals. -/
module

public import proofs.«01_k».proof.Proof.Latent.Spec
public import proofs.«01_k».proof.Proof.Latent.Math
public import Idealize.ShloMosaic.Lib.Pipeline.ValueKit.Acc

@[expose] public section

set_option maxRecDepth 16384

noncomputable section

namespace Cert.Kernel3Ideal.Latent

open Cert.Kernel3Ideal Cert.Kernel3Ideal.Gen Idealize.ShloMosaic Idealize.ShloMosaic.TcCoe

theorem scores_at (qt kt : Vec Ideal S1x1x256x128 .bf16) (x r : Fin 256) :
    k0_pay11 qt kt (ix2 x r) = ∑ l : Fin 128, (kt (ix4 0 0 x l) : EReal) * qt (ix4 0 0 r l) := by
  unfold k0_pay11
  pointwise

theorem chunk_at (qt kt : Vec Ideal S1x1x256x128 .bf16) (x r : Fin 256) :
    k0_pay8 qt kt (ix3 0 x r) = ∑ l : Fin 128, (kt (ix4 0 0 x l) : EReal) * qt (ix4 0 0 r l) := by
  unfold k0_pay8 k0_pay7
  pointwise

theorem greatest_at (m : FVec Ideal S8x256 .f32) (qt kt : Vec Ideal S1x1x256x128 .bf16) (a : Fin 8) (r : Fin 256) :
    k0_pay13 m qt kt (ix2 a r) = max (m (ix2 a r) : EReal) (Finset.univ.fold max ⊥ fun i : Fin 32 => (k0_pay11 qt kt (ix2 ⟨i.val * 8 + a.val, by omega⟩ r) : EReal)) := by
  unfold k0_pay13
  generalize k0_pay11 qt kt = z
  pointwise
  rw [Window.lit_bot]

theorem shift_at (v : FVec Ideal S8x256 .f32) (r : Fin 256) :
    k0_pay5 v (ix2 0 r) = Finset.univ.fold max ⊥ fun a : Fin 8 => (v (ix2 a r) : EReal) := by
  unfold k0_pay5
  pointwise
  rw [Window.lit_bot]

theorem step_at (v0 : FVec Ideal S16x256 .bf16) (m : FVec Ideal S1x256 .f32) (a : FVec Ideal S80x256 .f32) (s : Vec Ideal S1x256x256 .f32) (v : Vec Ideal S1x64x256 .bf16)
    (d : Fin 80) (r : Fin 256) :
    k0_pay125 v0 m a s v (ix2 d r) = (a (ix2 d r) : EReal) + ∑ x : Fin 256,
      (if h : d.val < 64 then (v (ix3 0 ⟨d.val, h⟩ x) : EReal) else v0 (ix2 ⟨d.val - 64, by omega⟩ x)) * Ideal.exp2 ((s (ix3 0 x r) : EReal) - m (ix2 0 r)) := by
  unfold k0_pay125
  pointwise
  rfl

theorem head_at (a : FVec Ideal S80x256 .f32) (d : Fin 64) (r : Fin 256) :
    headOf a (ix2 d r) = (a (ix2 ⟨d.val, by omega⟩ r) : EReal) * Ideal.div 1 (a (ix2 64 r)) := by
  unfold headOf
  pointwise

theorem rows_at (a0 a1 : FVec Ideal S80x256 .f32) (r : Fin 256) (l : Fin 128) :
    rowsOf a0 a1 (ix3 0 r l) = if h : l.val < 64 then (headOf a0 (ix2 ⟨l.val, h⟩ r) : EReal) else headOf a1 (ix2 ⟨l.val - 64, by omega⟩ r) := by
  have e : rowsOf a0 a1 = shapeCast S1x256x128 (transpose S256x128 [1, 0] (concatenate S128x256 0 [⟨S64x256, headOf a0⟩, ⟨S64x256, headOf a1⟩]
      concatenates_S64x256_S64x256_S128x256_d0) transposes_S128x256_p1_0_S256x128) shapeCasts_S256x128_S1x256x128 := rfl
  rw [e]
  generalize headOf a0 = z
  generalize headOf a1 = z'
  pointwise

end Cert.Kernel3Ideal.Latent

end
-- ==== Proof.Latent.Tile.lean ====
/- A tile's result is the attention, when the blocks are parts of the arguments. -/
module

public import proofs.«01_k».proof.Proof.Latent.Read

@[expose] public section

set_option maxRecDepth 16384

noncomputable section

namespace Cert.Kernel3Ideal.Latent

open Cert.Kernel3Ideal Cert.Kernel3Ideal.Gen Idealize.ShloMosaic Idealize.ShloMosaic.TcCoe Base2

theorem order_eq : order = List.finRange 16 := by decide

/-- Adding a term per chunk, in the kernel's order, is the sum over the chunks. -/
theorem foldl_sum {I : Type} (f : (I → EReal) → Tl → I → EReal) (g : Tl → EReal) (i : I) (h : ∀ a c, f a c i = a i + g c) (a : I → EReal) :
    order.foldl f a i = a i + ∑ c, g c := by
  have key : ∀ (L : List Tl) (a : I → EReal), L.foldl f a i = a i + (L.map g).sum := fun L => by
    induction L with
    | nil => intro a; simp
    | cons c L ih => intro a; rw [List.foldl_cons, ih, h, List.map_cons, List.sum_cons, add_assoc]
  rw [key, order_eq, ← Fin.sum_univ_def]

/-- What holds of the start and is kept by every chunk holds at the end. -/
theorem foldl_keeps {A : Type} (P : A → Prop) (f : A → Tl → A) (a : A) (ha : P a) (h : ∀ a c, P a → P (f a c)) : P (order.foldl f a) := by
  generalize order = L
  induction L generalizing a with
  | nil => exact ha
  | cons c L ih => exact ih _ (h a c ha)

theorem tile_at (q : S1x2x4096x128.Idx → Elt Ideal .bf16) (h : Hd) (t : Tl) (x : Fin 256) (l : Fin 128) :
    (tile q h t (ix4 0 0 x l) : EReal) = q (ix4 0 h ⟨t.val * 256 + x.val, by omega⟩ l) :=
  congrArg q (funext fun a => Fin.ext (by
    match a with
    | ⟨0, _⟩ => rfl
    | ⟨1, _⟩ => show h.val + 1 * 0 = h.val; omega
    | ⟨2, _⟩ => show 256 * t.val + 1 * x.val = t.val * 256 + x.val; omega
    | ⟨3, _⟩ => show 0 + 1 * l.val = l.val; omega))

theorem vals_at (v : S1x128x4096.Idx → Elt Ideal .bf16) (h : Hd) (c : Tl) (d : Fin 64) (x : Fin 256) :
    (vals v h c (ix3 0 d x) : EReal) = v (ix3 0 ⟨64 * h.val + d.val, by omega⟩ ⟨c.val * 256 + x.val, by omega⟩) :=
  congrArg v (funext fun a => Fin.ext (by
    match a with
    | ⟨0, _⟩ => rfl
    | ⟨1, _⟩ => show 64 * h.val + 1 * d.val = 64 * h.val + d.val; omega
    | ⟨2, _⟩ => show 256 * c.val + 1 * x.val = c.val * 256 + x.val; omega))

section
variable (Q K : Arr 96) (V : Arr 64) (b : Fin 4) (hd : Hd → Fin 8)
  (q k : S1x2x4096x128.Idx → Elt Ideal .bf16) (v : S1x128x4096.Idx → Elt Ideal .bf16)
  (hq : ∀ h s l, (q (ix4 0 h s l) : EReal) = if hl : l.val < 96 then Q (ix4 b s (hd h) ⟨l.val, hl⟩) else 0)
  (hk : ∀ h s l, (k (ix4 0 h s l) : EReal) = if hl : l.val < 96 then K (ix4 b s (hd h) ⟨l.val, hl⟩) else 0)
  (hv : ∀ (h : Hd) (d : Fin 64) (s : Fin 4096), (v (ix3 0 ⟨64 * h.val + d.val, by omega⟩ s) : EReal) = V (ix4 b s (hd h) d))
  (hQ : ∀ i, ∃ x : ℝ, Q i = x) (hK : ∀ i, ∃ x : ℝ, K i = x)

include hq hk

/-- The padded lanes add nothing to a score. -/
theorem dot_at (h : Hd) (s j : Fin 4096) : ∑ l : Fin 128, (k (ix4 0 h j l) : EReal) * q (ix4 0 h s l) = score Q K b (hd h) s j := by
  simp only [hq, hk]
  rw [Fin.sum_univ_add (a := 96) (b := 32) (f := fun l : Fin 128 => (if hl : l.val < 96 then K (ix4 b j (hd h) ⟨l.val, hl⟩) else 0) * (if hl : l.val < 96 then Q (ix4 b s (hd h) ⟨l.val, hl⟩) else 0))]
  unfold score
  rw [Finset.sum_eq_zero (s := (Finset.univ : Finset (Fin 32))) fun l _ => by
    rw [dif_neg (by show ¬ 96 + l.val < 96; omega)]; exact zero_mul _, add_zero]
  refine Finset.sum_congr rfl fun l _ => ?_
  rw [dif_pos (show (Fin.castAdd 32 l).val < 96 from l.isLt), dif_pos (show (Fin.castAdd 32 l).val < 96 from l.isLt), mul_comm]
  rfl

theorem chunk_score (h : Hd) (t c : Tl) (x r : Fin 256) :
    (chunk q k h t c (ix3 0 x r) : EReal) = score Q K b (hd h) ⟨t.val * 256 + r.val, by omega⟩ ⟨c.val * 256 + x.val, by omega⟩ := by
  unfold chunk
  rw [chunk_at]
  simp only [tile_at]
  exact dot_at Q K b hd q k hq hk h _ _

include hQ hK

/-- What is subtracted from a query's scores is a real number. -/
theorem shift_real (h : Hd) (t : Tl) (r : Fin 256) : ∃ x : ℝ, (shift q k h t (ix2 0 r) : EReal) = x := by
  unfold shift shiftOf
  rw [shift_at]
  refine fold_real (by decide) _ ?_
  refine foldl_keeps (fun m : FVec Ideal S8x256 .f32 => ∀ a : Fin 8, ∃ x : ℝ, (m (ix2 a r) : EReal) = x) _ _ (fun _ => lit_low) fun m c hm a => ?_
  rw [greatest_at]
  refine max_real _ _ (hm a) (fold_real (by decide) _ fun i => ?_)
  rw [scores_at]
  simp only [tile_at]
  rw [dot_at Q K b hd q k hq hk h]
  exact score_real Q K hQ hK _ _ _ _

include hv

/-- A head's weighted sums, and below them the sum of the weights. -/
theorem sums_at (h : Hd) (t : Tl) (d : Fin 80) (r : Fin 256) :
    (sums q k v h t (ix2 d r) : EReal) = ∑ j : Fin 4096, (if hd' : d.val < 64 then V (ix4 b j (hd h) ⟨d.val, hd'⟩) else 1)
      * Ideal.exp2 (score Q K b (hd h) ⟨t.val * 256 + r.val, by omega⟩ j - shift q k h t (ix2 0 r)) := by
  unfold sums sumsOf
  generalize shift q k h t = M
  refine (foldl_sum (I := S80x256.Idx) _ (fun c => ∑ x : Fin 256, (if hd' : d.val < 64 then V (ix4 b ⟨c.val * 256 + x.val, by omega⟩ (hd h) ⟨d.val, hd'⟩) else 1)
      * Ideal.exp2 (score Q K b (hd h) ⟨t.val * 256 + r.val, by omega⟩ ⟨c.val * 256 + x.val, by omega⟩ - M (ix2 0 r))) (ix2 d r) (fun a c => ?_) _).trans ?_
  · refine (step_at _ _ _ _ _ d r).trans (congrArg _ (Finset.sum_congr rfl fun x _ => ?_))
    rw [chunk_score Q K b hd q k hq hk]
    refine congrArg₂ (· * ·) ?_ rfl
    split_ifs with hd'
    · rw [vals_at]; exact hv h ⟨d.val, hd'⟩ _
    · exact lit_one16
  · refine (congrArg₂ (· + ·) Window.lit_zero rfl).trans ((zero_add _).trans ?_)
    exact Fin.sum_mul_add_fin 16 256 (fun j : Fin 4096 => (if hd' : d.val < 64 then V (ix4 b j (hd h) ⟨d.val, hd'⟩) else 1)
      * Ideal.exp2 (score Q K b (hd h) ⟨t.val * 256 + r.val, by omega⟩ j - M (ix2 0 r)))

end

section
variable (Q K : Arr 96) (V : Arr 64) (b : Fin 4) (hd : Hd → Fin 8)
  (q k : S1x2x4096x128.Idx → Elt Ideal .bf16) (v : S1x128x4096.Idx → Elt Ideal .bf16)
  (hq : ∀ h s l, (q (ix4 0 h s l) : EReal) = if hl : l.val < 96 then scaled Q (ix4 b s (hd h) ⟨l.val, hl⟩) else 0)
  (hk : ∀ h s l, (k (ix4 0 h s l) : EReal) = if hl : l.val < 96 then K (ix4 b s (hd h) ⟨l.val, hl⟩) else 0)
  (hv : ∀ (h : Hd) (d : Fin 64) (s : Fin 4096), (v (ix3 0 ⟨64 * h.val + d.val, by omega⟩ s) : EReal) = V (ix4 b s (hd h) d))
  (hQ : ∀ i, ∃ x : ℝ, Q i = x) (hK : ∀ i, ∃ x : ℝ, K i = x)

include hq hk hQ hK hv

/-- A head's result is the attention. -/
theorem head_att (h : Hd) (t : Tl) (d : Fin 64) (r : Fin 256) :
    (headOf (sums q k v h t) (ix2 d r) : EReal) = att Q K V b (hd h) ⟨t.val * 256 + r.val, by omega⟩ d := by
  have hS := scaled_real Q hQ
  rw [head_at, sums_at (scaled Q) K V b hd q k v hq hk hv hS hK, sums_at (scaled Q) K V b hd q k v hq hk hv hS hK, ← att_eq Q K V hQ hK b (hd h) _ d _ (shift_real (scaled Q) K b hd q k hq hk hS hK h t r)]
  refine congrArg₂ (fun x y => x * Ideal.div 1 y) (Finset.sum_congr rfl fun j _ => ?_) (Finset.sum_congr rfl fun j _ => ?_)
  · rw [dif_pos (show (⟨d.val, by omega⟩ : Fin 80).val < 64 from d.isLt)]
  · rw [dif_neg (show ¬ (64 : Fin 80).val < 64 by decide), one_mul]

/-- A point's block is the attention of its two heads. -/
theorem block_at (s : Fin 4096) (l : Fin 128) :
    (block q k v (ix3 0 s l) : EReal) = att Q K V b (hd ⟨l.val / 64, by omega⟩) s ⟨l.val % 64, by omega⟩ := by
  have hs : ∀ (p : Fin 4096), p.val = s.val / 256 * 256 + s.val % 256 → p = s := fun p hp => Fin.ext (by omega)
  have same : ∀ (x x' : Hd) (s s' : Fin 4096) (d d' : Fin 64), x = x' → s = s' → d = d' → att Q K V b (hd x) s d = att Q K V b (hd x') s' d' := by
    intro x x' s s' d d' rfl rfl rfl; rfl
  unfold block rows
  refine (rows_at _ _ _ _).trans ?_
  split_ifs with hl
  · refine (head_att Q K V b hd q k v hq hk hv hQ hK 0 _ _ _).trans ?_
    exact same _ _ _ _ _ _ (Fin.ext (by show 0 = l.val / 64; have : l.val < 64 := hl; omega)) (hs _ rfl) (Fin.ext (by show l.val = l.val % 64; have : l.val < 64 := hl; omega))
  · refine (head_att Q K V b hd q k v hq hk hv hQ hK 1 _ _ _).trans ?_
    have hl' : ¬ l.val < 64 := hl
    exact same _ _ _ _ _ _ (Fin.ext (by show 1 = l.val / 64; omega)) (hs _ rfl) (Fin.ext (by show l.val - 64 = l.val % 64; omega))

end

end Cert.Kernel3Ideal.Latent

end
-- ==== Proof.Latent.Trip.lean ====
/- One turn of the kernel's loop: what it carries on, what it writes. -/
module

public import proofs.«01_k».proof.Proof.Gen.Kernel3Ideal.Loops
public import proofs.«01_k».proof.Proof.Latent.Spec

@[expose] public section

set_option maxRecDepth 65536
set_option maxHeartbeats 4000000
set_option Elab.async false

noncomputable section

namespace Cert.Kernel3Ideal.Latent

open Cert.Kernel3Ideal Cert.Kernel3Ideal.Gen
open Idealize.ShloMosaic Idealize.ShloMosaic.TcCoe

variable {F : FTy → Type} [FloatOps F]

theorem off1_eq : ∀ k : Fin k0_t1_loop.trips, k0_off1 k = ![0, 0, 256 * (2 * k.val + 1), 0] := by decide +kernel
theorem off2_eq : ∀ k : Fin k0_t1_loop.trips, k0_off2 k = ![0, 1, 256 * (2 * k.val + 1), 0] := by decide +kernel
theorem off3_eq : ∀ k : Fin k0_t1_loop.trips, k0_off3 k = ![0, 256 * (2 * k.val), 0] := by decide +kernel
theorem off4_eq : ∀ k : Fin k0_t1_loop.trips, k0_off4 k = ![0, 0, 256 * min (2 * k.val + 2) 15, 0] := by decide +kernel
theorem off5_eq : ∀ k : Fin k0_t1_loop.trips, k0_off5 k = ![0, 1, 256 * min (2 * k.val + 2) 15, 0] := by decide +kernel
theorem off6_eq : ∀ k : Fin k0_t1_loop.trips, k0_off6 k = ![0, 256 * (2 * k.val + 1), 0] := by decide +kernel

theorem tile_of (q : S1x2x4096x128.Idx → Elt F .bf16) (h : Hd) (t : Tl) (off : Fin 4 → Nat) (inb : ∀ a, off a + S1x1x256x128.size a ≤ S1x2x4096x128.size a)
    (e : off = ![0, h.val, 256 * t.val, 0]) :
    View.ld (Val := Elt F) (e' := .bf16) q (Rect.unit off S1x1x256x128.size inb) = tile q h t := by
  subst e; rfl

variable (𝒱 : Variants) (c : Dev nD) (bd : Option 𝒱.V) (i : grid0.Coords)
  (arg2 : Memref sig .tc .vmem S1x2x4096x128 .bf16) (harg2 : arg2.IsWhole) (arg3 : Memref sig .tc .vmem S1x2x4096x128 .bf16) (harg3 : arg3.IsWhole)
  (arg4 : Memref sig .tc .vmem S1x128x4096 .bf16) (harg4 : arg4.IsWhole) (arg5 : Memref sig .tc .vmem S1x4096x128 .f32) (harg5 : arg5.IsWhole)
  (arg6 : Memref sig .tc .vmem S2x4096x256 .f32) (harg6 : arg6.IsWhole) (arg7 : Memref sig .tc .vmem S2x4096x256 .f32) (harg7 : arg7.IsWhole)
  (v0 : FVec F S16x256 .bf16) (X2 : BufTy.Contents (Elt F) arg2.view.ty) (X3 : BufTy.Contents (Elt F) arg3.view.ty) (X4 : BufTy.Contents (Elt F) arg4.view.ty)
  (k : Fin k0_t1_loop.trips) (acc : FVec F S1x256 .f32 × FVec F S1x256 .f32) (f5 : BufTy.Contents (Elt F) arg5.view.ty) (f6 : BufTy.Contents (Elt F) arg6.view.ty) (f7 : BufTy.Contents (Elt F) arg7.view.ty)

/-- The tile whose scores a turn leaves for the next. -/
def next (k : Fin k0_t1_loop.trips) : Tl := ⟨min (2 * k.val + 2) 15, by omega⟩

theorem trip_shift :
    tripR_k0_t1 (F := F) 𝒱 c bd i arg2 harg2 arg3 harg3 arg4 harg4 arg5 harg5 arg6 harg6 arg7 harg7 v0 X2 X3 X4 k acc f5 f6 f7
      = (shift (arg2.view.read (Elt F) X2) (arg3.view.read (Elt F) X3) 0 (next k), shift (arg2.view.read (Elt F) X2) (arg3.view.read (Elt F) X3) 1 (next k)) := by
  unfold shift
  rw [← tile_of (arg2.view.read (Elt F) X2) 0 (next k) (k0_off4 k) (k0_off4_inb k) (off4_eq k),
    ← tile_of (arg2.view.read (Elt F) X2) 1 (next k) (k0_off5 k) (k0_off5_inb k) (off5_eq k)]
  delta tripR_k0_t1 trip_k0_t1
  dsimp only
  rfl

/-- The score chunks of the query tiles `qt` with the keys. -/
def chunksOf (qt : Hd → Vec F S1x1x256x128 .bf16) (k : S1x2x4096x128.Idx → Elt F .bf16) : Hd → Tl → Vec F S1x256x256 .f32 :=
  fun h c => k0_pay8 (qt h) (tile k h c)

/-- A pair of tiles, one for each head. -/
def both (a b : Vec F S1x1x256x128 .bf16) : Hd → Vec F S1x1x256x128 .bf16 := fun h => match h with
  | ⟨0, _⟩ => a
  | ⟨1, _⟩ => b

theorem both_tile (q : S1x2x4096x128.Idx → Elt F .bf16) (t : Tl) : both (tile q 0 t) (tile q 1 t) = fun h => tile q h t :=
  funext fun h => match h with
  | ⟨0, _⟩ => rfl
  | ⟨1, _⟩ => rfl

theorem chunksOf_both (q k : S1x2x4096x128.Idx → Elt F .bf16) (t : Tl) : chunksOf (both (tile q 0 t) (tile q 1 t)) k = fun h c => chunk q k h t c := by
  rw [both_tile]; rfl

/-- A turn's stores into the buffer of the scores to come. -/
theorem trip_stores :
    (tripL_k0_t1 (F := F) 𝒱 c bd i arg2 harg2 arg3 harg3 arg4 harg4 arg5 harg5 arg6 harg6 arg7 harg7 v0 X2 X3 X4 k acc f5 f6 f7).2.1
      = stores fun h c => chunk (arg2.view.read (Elt F) X2) (arg3.view.read (Elt F) X3) h (next k) c := by
  rw [← chunksOf_both, ← tile_of (arg2.view.read (Elt F) X2) 0 (next k) (k0_off4 k) (k0_off4_inb k) (off4_eq k),
    ← tile_of (arg2.view.read (Elt F) X2) 1 (next k) (k0_off5 k) (k0_off5_inb k) (off5_eq k)]
  delta tripL_k0_t1 trip_k0_t1
  dsimp only
  rfl

/-- A turn's two tiles. -/
def even (k : Fin k0_t1_loop.trips) : Tl := ⟨2 * k.val, by have : k.val < 8 := k.isLt; omega⟩
def odd (k : Fin k0_t1_loop.trips) : Tl := ⟨2 * k.val + 1, by have : k.val < 8 := k.isLt; omega⟩

/-- A turn's stores into the result: the rows of its two tiles. -/
theorem trip_rows (hv : v0 = k0_pay267)
    (hacc : acc = (shift (arg2.view.read (Elt F) X2) (arg3.view.read (Elt F) X3) 0 (even k), shift (arg2.view.read (Elt F) X2) (arg3.view.read (Elt F) X3) 1 (even k)))
    (h6 : arg6.view.read (Elt F) f6 = held fun h c => chunk (arg2.view.read (Elt F) X2) (arg3.view.read (Elt F) X3) h (even k) c) :
    (tripL_k0_t1 (F := F) 𝒱 c bd i arg2 harg2 arg3 harg3 arg4 harg4 arg5 harg5 arg6 harg6 arg7 harg7 v0 X2 X3 X4 k acc f5 f6 f7).1
      = [⟨Rect.unit (k0_off6 k) S1x256x128.size (k0_off6_inb k), rows (arg2.view.read (Elt F) X2) (arg3.view.read (Elt F) X3) (arg4.view.read (Elt F) X4) (odd k)⟩,
        ⟨Rect.unit (k0_off3 k) S1x256x128.size (k0_off3_inb k), rows (arg2.view.read (Elt F) X2) (arg3.view.read (Elt F) X3) (arg4.view.read (Elt F) X4) (even k)⟩] := by
  have e0 : ∀ h t, sums (arg2.view.read (Elt F) X2) (arg3.view.read (Elt F) X3) (arg4.view.read (Elt F) X4) h t
      = sumsOf v0 (shift (arg2.view.read (Elt F) X2) (arg3.view.read (Elt F) X3) h t) (fun c => chunk (arg2.view.read (Elt F) X2) (arg3.view.read (Elt F) X3) h t c)
        (vals (arg4.view.read (Elt F) X4) h) := fun h t => by rw [hv]; rfl
  have e6 : ∀ h c, chunk (arg2.view.read (Elt F) X2) (arg3.view.read (Elt F) X3) h (even k) c = arg6.view.readAt (Elt F) (place h c).toLoadRect f6 := fun h c =>
    ((View.readAt_eq_ld _ _ _).trans ((congrArg (fun X => View.ld (Val := Elt F) (e' := .f32) X (place h c)) h6).trans (load_held _ h c))).symm
  obtain ⟨ch, hch⟩ : ∃ ch : Hd → Tl → Vec F S1x256x256 .f32, ch = fun h c => chunk (arg2.view.read (Elt F) X2) (arg3.view.read (Elt F) X3) h (odd k) c := ⟨_, rfl⟩
  have e7 : ∀ h c, chunk (arg2.view.read (Elt F) X2) (arg3.view.read (Elt F) X3) h (odd k) c = arg7.view.readCov (stores ch) (place h c).toLoadRect := fun h c =>
    (congrFun (congrFun hch h) c).symm.trans (load_stores arg7.view ch h c).symm
  have ea0 : shift (arg2.view.read (Elt F) X2) (arg3.view.read (Elt F) X3) 0 (even k) = acc.1 := by rw [hacc]
  have ea1 : shift (arg2.view.read (Elt F) X2) (arg3.view.read (Elt F) X3) 1 (even k) = acc.2 := by rw [hacc]
  unfold rows
  rw [e0, e0, e0, e0, ea0, ea1]
  simp only [e6, e7]
  rw [hch, ← chunksOf_both]
  unfold shift
  rw [← tile_of (arg2.view.read (Elt F) X2) 0 (odd k) (k0_off1 k) (k0_off1_inb k) (off1_eq k),
    ← tile_of (arg2.view.read (Elt F) X2) 1 (odd k) (k0_off2 k) (k0_off2_inb k) (off2_eq k)]
  delta tripL_k0_t1 trip_k0_t1
  dsimp only
  rfl

end Cert.Kernel3Ideal.Latent

end
-- ==== Proof.Latent.Loop.lean ====
/- The kernel's loop: after its turns the block of the result is written whole. -/
module

public import proofs.«01_k».proof.Proof.Latent.Trip

@[expose] public section

set_option maxRecDepth 65536

noncomputable section

namespace Cert.Kernel3Ideal.Latent

open Cert.Kernel3Ideal Cert.Kernel3Ideal.Gen
open Idealize.ShloMosaic Idealize.ShloMosaic.TcCoe

variable {F : FTy → Type} [FloatOps F]

theorem block_piece (q k : S1x2x4096x128.Idx → Elt F .bf16) (v : S1x128x4096.Idx → Elt F .bf16) (t : Tl) (off : Fin 3 → Nat)
    (inb : ∀ a, off a + S1x256x128.size a ≤ S1x4096x128.size a) (e : off = ![0, 256 * t.val, 0]) (x : S1x256x128.Idx) :
    rows q k v t x = block q k v ((Rect.unit (s := S1x4096x128) off S1x256x128.size inb).emb x) := by
  subst e
  have h1 : (x 1).val < 256 := (x 1).isLt
  have h0 : (x 0).val < 1 := (x 0).isLt
  generalize hy : (Rect.unit (s := S1x4096x128) ![0, 256 * t.val, 0] S1x256x128.size inb).emb x = y
  have e1 : (y 1).val = 256 * t.val + (x 1).val := by rw [← hy]; show 256 * t.val + 1 * (x 1).val = _; omega
  have e2 : (y 2).val = (x 2).val := by rw [← hy]; show 0 + 1 * (x 2).val = (x 2).val; omega
  unfold block
  have ht : (⟨(y 1).val / 256, Nat.div_lt_of_lt_mul (y 1).isLt⟩ : Tl) = t := Fin.ext (by show (y 1).val / 256 = t.val; omega)
  have hx : (ix3 (n0 := 1) (n1 := 256) (n2 := 128) 0 ⟨(y 1).val % 256, Nat.mod_lt _ (by decide)⟩ (y 2) : S1x256x128.Idx) = x := by
    funext a
    match a with
    | ⟨0, _⟩ => exact Fin.ext (by show 0 = (x 0).val; omega)
    | ⟨1, _⟩ => exact Fin.ext (by show (y 1).val % 256 = (x 1).val; omega)
    | ⟨2, _⟩ => exact Fin.ext e2
  rw [ht]
  exact (congrArg (rows q k v t) hx).symm

theorem mem_tile (t : Nat) (off : Fin 3 → Nat) (inb : ∀ a, off a + S1x256x128.size a ≤ S1x4096x128.size a) (e : off = ![0, 256 * t, 0])
    (y : S1x4096x128.Idx) (hlo : 256 * t ≤ (y 1).val) (hhi : (y 1).val < 256 * t + 256) : y ∈ (Rect.unit (s := S1x4096x128) off S1x256x128.size inb).set := by
  subst e
  refine Rect.mem_set_unit.mpr fun a => ?_
  have h0 : (y 0).val < 1 := (y 0).isLt
  have h2 : (y 2).val < 128 := (y 2).isLt
  match a with
  | ⟨0, _⟩ => exact ⟨Nat.zero_le _, by show (y 0).val < 0 + 1; omega⟩
  | ⟨1, _⟩ => exact ⟨hlo, hhi⟩
  | ⟨2, _⟩ => exact ⟨Nat.zero_le _, by show (y 2).val < 0 + 128; omega⟩

variable (𝒱 : Variants) (c : Dev nD) (bd : Option 𝒱.V) (i : grid0.Coords)
  (arg2 : Memref sig .tc .vmem S1x2x4096x128 .bf16) (harg2 : arg2.IsWhole) (arg3 : Memref sig .tc .vmem S1x2x4096x128 .bf16) (harg3 : arg3.IsWhole)
  (arg4 : Memref sig .tc .vmem S1x128x4096 .bf16) (harg4 : arg4.IsWhole) (arg5 : Memref sig .tc .vmem S1x4096x128 .f32) (harg5 : arg5.IsWhole)
  (arg6 : Memref sig .tc .vmem S2x4096x256 .f32) (harg6 : arg6.IsWhole) (arg7 : Memref sig .tc .vmem S2x4096x256 .f32) (harg7 : arg7.IsWhole)
  (v0 : FVec F S16x256 .bf16) (X2 : BufTy.Contents (Elt F) arg2.view.ty) (X3 : BufTy.Contents (Elt F) arg3.view.ty) (X4 : BufTy.Contents (Elt F) arg4.view.ty)
  (G5 : BufTy.Contents (Elt F) arg5.view.ty) (G6 : BufTy.Contents (Elt F) arg6.view.ty) (G7 : BufTy.Contents (Elt F) arg7.view.ty)
  (init : FVec F S1x256 .f32 × FVec F S1x256 .f32)

/-- The tile whose scores and greatest scores are at hand before turn `n`. -/
def current (n : Nat) : Tl := ⟨min (2 * n) 15, by omega⟩

/-- What holds before turn `n`: the greatest scores and the scores of the current tile are at hand,
    and what is written of the result is right and is all of the rows before that tile. -/
def Upto (n : Nat) : Prop :=
  (st_k0_t1 (F := F) 𝒱 c bd i arg2 harg2 arg3 harg3 arg4 harg4 arg5 harg5 arg6 harg6 arg7 harg7 v0 X2 X3 X4 G5 G6 G7 init n).1 = (shift (arg2.view.read (Elt F) X2) (arg3.view.read (Elt F) X3) 0 (current n), shift (arg2.view.read (Elt F) X2) (arg3.view.read (Elt F) X3) 1 (current n))
  ∧ arg6.view.read (Elt F) (arg6.view.writes (Elt F) G6 (st_k0_t1 (F := F) 𝒱 c bd i arg2 harg2 arg3 harg3 arg4 harg4 arg5 harg5 arg6 harg6 arg7 harg7 v0 X2 X3 X4 G5 G6 G7 init n).2.2.1) = held (fun h e => chunk (arg2.view.read (Elt F) X2) (arg3.view.read (Elt F) X3) h (current n) e)
  ∧ (∀ p ∈ (st_k0_t1 (F := F) 𝒱 c bd i arg2 harg2 arg3 harg3 arg4 harg4 arg5 harg5 arg6 harg6 arg7 harg7 v0 X2 X3 X4 G5 G6 G7 init n).2.1, ∀ x : p.1.shape.Idx, p.2 x = block (arg2.view.read (Elt F) X2) (arg3.view.read (Elt F) X3) (arg4.view.read (Elt F) X4) (p.1.emb x))
  ∧ ∀ y : S1x4096x128.Idx, (y 1).val < 512 * n → ∃ p ∈ (st_k0_t1 (F := F) 𝒱 c bd i arg2 harg2 arg3 harg3 arg4 harg4 arg5 harg5 arg6 harg6 arg7 harg7 v0 X2 X3 X4 G5 G6 G7 init n).2.1, y ∈ p.1.set

variable (hv : v0 = k0_pay267) (hinit : init = (shift (arg2.view.read (Elt F) X2) (arg3.view.read (Elt F) X3) 0 0, shift (arg2.view.read (Elt F) X2) (arg3.view.read (Elt F) X3) 1 0))
  (hG : arg6.view.read (Elt F) G6 = held (fun h e => chunk (arg2.view.read (Elt F) X2) (arg3.view.read (Elt F) X3) h 0 e))

include hinit hG in
theorem upto_zero : Upto 𝒱 c bd i arg2 harg2 arg3 harg3 arg4 harg4 arg5 harg5 arg6 harg6 arg7 harg7 v0 X2 X3 X4 G5 G6 G7 init 0 :=
  ⟨hinit, hG, fun p hp => absurd hp List.not_mem_nil, fun y hy => absurd hy (Nat.not_lt_zero _)⟩

include hv in
theorem upto_succ (k : Fin k0_t1_loop.trips) (h : Upto 𝒱 c bd i arg2 harg2 arg3 harg3 arg4 harg4 arg5 harg5 arg6 harg6 arg7 harg7 v0 X2 X3 X4 G5 G6 G7 init k.val) : Upto 𝒱 c bd i arg2 harg2 arg3 harg3 arg4 harg4 arg5 harg5 arg6 harg6 arg7 harg7 v0 X2 X3 X4 G5 G6 G7 init (k.val + 1) := by
  have hk : k.val < 8 := k.isLt
  have hcur : current k.val = even k := Fin.ext (by show min (2 * k.val) 15 = 2 * k.val; omega)
  have hnext : current (k.val + 1) = next k := Fin.ext (by show min (2 * (k.val + 1)) 15 = min (2 * k.val + 2) 15; omega)
  obtain ⟨h1, h2, h3, h4⟩ := h
  rw [hcur] at h1 h2
  have er := trip_rows 𝒱 c bd i arg2 harg2 arg3 harg3 arg4 harg4 arg5 harg5 arg6 harg6 arg7 harg7 v0 X2 X3 X4 k (st_k0_t1 (F := F) 𝒱 c bd i arg2 harg2 arg3 harg3 arg4 harg4 arg5 harg5 arg6 harg6 arg7 harg7 v0 X2 X3 X4 G5 G6 G7 init k.val).1
    (arg5.view.writes (Elt F) G5 (st_k0_t1 (F := F) 𝒱 c bd i arg2 harg2 arg3 harg3 arg4 harg4 arg5 harg5 arg6 harg6 arg7 harg7 v0 X2 X3 X4 G5 G6 G7 init k.val).2.1) (arg6.view.writes (Elt F) G6 (st_k0_t1 (F := F) 𝒱 c bd i arg2 harg2 arg3 harg3 arg4 harg4 arg5 harg5 arg6 harg6 arg7 harg7 v0 X2 X3 X4 G5 G6 G7 init k.val).2.2.1)
    (arg7.view.writes (Elt F) G7 (st_k0_t1 (F := F) 𝒱 c bd i arg2 harg2 arg3 harg3 arg4 harg4 arg5 harg5 arg6 harg6 arg7 harg7 v0 X2 X3 X4 G5 G6 G7 init k.val).2.2.2) hv h1 h2
  have hs := st_k0_t1_succ (F := F) 𝒱 c bd i arg2 harg2 arg3 harg3 arg4 harg4 arg5 harg5 arg6 harg6 arg7 harg7 v0 X2 X3 X4 G5 G6 G7 init k
  have e1 := (congrArg (fun s => s.1) hs).trans (trip_shift ..)
  have e2 := (congrArg (fun s => s.2.1) hs).trans (congrArg (fun l => l ++ (st_k0_t1 (F := F) 𝒱 c bd i arg2 harg2 arg3 harg3 arg4 harg4 arg5 harg5 arg6 harg6 arg7 harg7 v0 X2 X3 X4 G5 G6 G7 init k.val).2.1) er)
  have e3 := (congrArg (fun s => s.2.2.1) hs).trans (congrArg (fun l => l ++ (st_k0_t1 (F := F) 𝒱 c bd i arg2 harg2 arg3 harg3 arg4 harg4 arg5 harg5 arg6 harg6 arg7 harg7 v0 X2 X3 X4 G5 G6 G7 init k.val).2.2.1) (trip_stores ..))
  unfold Upto
  rw [hnext, e2, e3]
  refine ⟨e1, ?_, ?_, ?_⟩
  · rw [View.writes_append]
    exact read_stores _ _ _
  · intro p hp
    rcases List.mem_append.mp hp with hp | hp
    · rcases List.mem_cons.mp hp with rfl | hp
      · exact fun x => block_piece _ _ _ (odd k) _ (k0_off6_inb k) (off6_eq k) x
      · obtain rfl := List.mem_singleton.mp hp
        exact fun x => block_piece _ _ _ (even k) _ (k0_off3_inb k) (off3_eq k) x
    · exact h3 p hp
  · intro y hy
    by_cases ha : (y 1).val < 512 * k.val
    · obtain ⟨p, hp, hm⟩ := h4 y ha
      exact ⟨p, List.mem_append_right _ hp, hm⟩
    · by_cases hb : (y 1).val < 512 * k.val + 256
      · exact ⟨_, List.mem_append_left _ (List.mem_cons_of_mem _ (List.mem_singleton.mpr rfl)), mem_tile (2 * k.val) _ (k0_off3_inb k) (off3_eq k) y (by omega) (by omega)⟩
      · exact ⟨_, List.mem_append_left _ List.mem_cons_self, mem_tile (2 * k.val + 1) _ (k0_off6_inb k) (off6_eq k) y (by omega) (by omega)⟩

include hv hinit hG in
theorem upto (n : Nat) (hn : n ≤ 8) : Upto 𝒱 c bd i arg2 harg2 arg3 harg3 arg4 harg4 arg5 harg5 arg6 harg6 arg7 harg7 v0 X2 X3 X4 G5 G6 G7 init n := by
  induction n with
  | zero => exact upto_zero (hinit := hinit) (hG := hG) ..
  | succ n ih => exact upto_succ (hv := hv) (k := ⟨n, hn⟩) (h := ih (Nat.le_of_lt hn))

include hv hinit hG in
/-- After the loop the block of the result holds the rows of every tile, whatever it held. -/
theorem loop_block : arg5.view.read (Elt F) (arg5.view.writes (Elt F) G5 (st_k0_t1 (F := F) 𝒱 c bd i arg2 harg2 arg3 harg3 arg4 harg4 arg5 harg5 arg6 harg6 arg7 harg7 v0 X2 X3 X4 G5 G6 G7 init k0_t1_loop.trips).2.1) = block (arg2.view.read (Elt F) X2) (arg3.view.read (Elt F) X3) (arg4.view.read (Elt F) X4) := by
  have h : Upto 𝒱 c bd i arg2 harg2 arg3 harg3 arg4 harg4 arg5 harg5 arg6 harg6 arg7 harg7 v0 X2 X3 X4 G5 G6 G7 init k0_t1_loop.trips :=
    upto (hv := hv) (hinit := hinit) (hG := hG) (n := 8) (hn := Nat.le_refl 8) ..
  exact funext fun y => View.read_writes_apply_of_pieces _ _ _ _ h.2.2.1 y (h.2.2.2 y (show (y 1).val < 512 * 8 from (y 1).isLt))

end Cert.Kernel3Ideal.Latent

end
-- ==== Proof.Latent.Body.lean ====
/- One grid point's run: it leaves the block of the result, and the inputs as they were. -/
module

public import proofs.«01_k».proof.Proof.Gen.Kernel3Ideal.Frame.Runs
public import proofs.«01_k».proof.Proof.Latent.Loop

@[expose] public section

set_option maxRecDepth 65536
set_option maxHeartbeats 4000000

noncomputable section

namespace Cert.Kernel3Ideal.Latent

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem body_run (c : Dev nD) (i : grid0.Coords) (arg2 : Memref sig .tc .vmem S1x2x4096x128 .bf16) (harg2 : arg2.IsWhole) (arg3 : Memref sig .tc .vmem S1x2x4096x128 .bf16) (harg3 : arg3.IsWhole)
    (arg4 : Memref sig .tc .vmem S1x128x4096 .bf16) (harg4 : arg4.IsWhole) (arg5 : Memref sig .tc .vmem S1x4096x128 .f32) (harg5 : arg5.IsWhole)
    (arg6 : Memref sig .tc .vmem S2x4096x256 .f32) (harg6 : arg6.IsWhole) (arg7 : Memref sig .tc .vmem S2x4096x256 .f32) (harg7 : arg7.IsWhole)
    (x0 x1 : Vec F S1x2x4096x128 .bf16) (x2 : Vec F S1x128x4096 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (block x0 x1 x2) ∗ (∃ d, owns (c : Thread nD τ) arg6 fullShare d) ∗ (∃ d, owns (c : Thread nD τ) arg7 fullShare d)) -∗ K ⟨⟩))
      ⊢ wp frame (wpE (defs₀ (F := F)) Variants.none c none) E (cc0_mla_attn i arg2 harg2 arg3 harg3 arg4 harg4 arg5 harg5 arg6 harg6 arg7 harg7) K := by
  simp only [cc0_mla_attn_eq_skeleton]; unfold cc0_mla_attn_skel
  simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  subst hf0; subst hf1; subst hf2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    refine loop_block (hv := ?_) (hinit := ?_) (hG := ?_) ..
    · rfl
    · rfl
    · refine (congrArg (fun L => arg6.view.read (Elt F) (arg6.view.writes (Elt F) arg6.view.junk L))
        (?_ : _ = stores fun h e => chunk (arg2.view.read (Elt F) f0) (arg3.view.read (Elt F) f1) h 0 e)).trans (read_stores arg6.view arg6.view.junk _)
      rfl
  isplitl [HS0]
  · iexists _, _; isplitr; swap; · iexact HS0
    ipureintro; rfl
  iexists _, _; isplitr; swap; · iexact HS1
  ipureintro; rfl

end Cert.Kernel3Ideal.Latent

end
-- ==== Proof.Latent.Launch.lean ====
/- The latent attention's launch: the frame, and the result block by block. -/
module

public import proofs.«01_k».proof.Proof.Latent.Body
public import Idealize.ShloMosaic.Lib.Claim
public import Idealize.ShloMosaic.Lib.Pipeline.Value

@[expose] public section

set_option maxRecDepth 16384

noncomputable section

namespace Cert.Kernel3Ideal.Latent

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data: after the body at a point each input's buffer is at its block, and the result's at `block` of those. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = block (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with every array at what the points wrote, and no counter raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame over any float values. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the result is what point `t` wrote. -/
theorem blocks3 (c : Dev nD) (t : Fin cfg0.N) (hf : (cfg0.win 3).flush t = true) :
    ((cfg0.win 3).blk t).view.read (Elt F) ((dats m 0 c).arrAt 3 cfg0.N) = (cfg0.win 3).cut (grid0.coords t) (block (iblk m c 0 t) (iblk m c 1 t) (iblk m c 2 t)) := by
  refine ((dats m 0 c).read_blk_arrAt_eq_flushed 3 disjoint3 cfg0.N t t.isLt hf).trans ?_
  show (cfg0.win 3).cut (grid0.coords t) ((dats m 0 c).after 3 t) = _
  rw [after0_3]

/-- Every run ends with the result's array at what the points wrote. -/
theorem run_result : θ_run defs (onTc (τ := τ) (main (F := F))) ⟨m, fun _ => 0, ρ⟩ fun r => ∀ c : Dev nD,
      r.2.mem ((c : Thread nD τ).loc main_v19) = (dats m 0 c).arrAt 3 cfg0.N :=
  (θ_run defs _ _).mono (fun r h c => (h c).1 3) (run_main m ρ)

end Cert.Kernel3Ideal.Latent

end
-- ==== Proof.Latent.Blocks.lean ====
/- The blocks a grid point reads, as parts of the arguments: two heads' queries, keys and values. -/
module

public import proofs.«01_k».proof.Proof.Latent.Launch
public import proofs.«01_k».proof.Proof.Latent.Math
public import Idealize.ShloMosaic.Lib.Pipeline.ValueKit.Point

@[expose] public section

set_option maxRecDepth 16384

noncomputable section

namespace Cert.Kernel3Ideal.Latent

open Cert.Kernel3Ideal Cert.Kernel3Ideal.Gen Idealize.ShloMosaic Idealize.ShloMosaic.TcCoe Base2

variable (m : (ℓ : Loc nD τ sig) → Buf (Elt Ideal) ℓ) (c : Dev nD) (t : Fin cfg0.N)

abbrev Q : Arr 96 := m ((c : Thread nD τ).loc main_arg0)
abbrev Kn : Arr 64 := m ((c : Thread nD τ).loc main_arg1)
abbrev Kr : (⟨3, ![4, 4096, 32]⟩ : Shape).Idx → EReal := m ((c : Thread nD τ).loc main_arg2)
abbrev K : Arr 96 := keys (Kn m c) (Kr m c)
abbrev V' : Arr 64 := m ((c : Thread nD τ).loc main_arg3)

/-- The index maps at point `t`: batch `t / 4`, pair of heads `t % 4`. -/
theorem idx : ∀ t : Fin cfg0.N,
    (win0_0.index t 0 = t.val / 4 ∧ win0_0.index t 1 = t.val % 4 ∧ win0_0.index t 2 = 0 ∧ win0_0.index t 3 = 0) ∧
    (win0_1.index t 0 = t.val / 4 ∧ win0_1.index t 1 = t.val % 4 ∧ win0_1.index t 2 = 0 ∧ win0_1.index t 3 = 0) ∧
    (win0_2.index t 0 = t.val / 4 ∧ win0_2.index t 1 = t.val % 4 ∧ win0_2.index t 2 = 0) ∧
    (win0_3.index t 0 = t.val / 4 ∧ win0_3.index t 1 = 0 ∧ win0_3.index t 2 = t.val % 4) :=
  (by decide +kernel : ∀ t : Fin grid0.N,
    (win0_0.index t 0 = t.val / 4 ∧ win0_0.index t 1 = t.val % 4 ∧ win0_0.index t 2 = 0 ∧ win0_0.index t 3 = 0) ∧
    (win0_1.index t 0 = t.val / 4 ∧ win0_1.index t 1 = t.val % 4 ∧ win0_1.index t 2 = 0 ∧ win0_1.index t 3 = 0) ∧
    (win0_2.index t 0 = t.val / 4 ∧ win0_2.index t 1 = t.val % 4 ∧ win0_2.index t 2 = 0) ∧
    (win0_3.index t 0 = t.val / 4 ∧ win0_3.index t 1 = 0 ∧ win0_3.index t 2 = t.val % 4))

abbrev bOf : Fin 4 := ⟨t.val / 4, by have : t.val < 16 := t.isLt; omega⟩
abbrev hOf (h : Hd) : Fin 8 := ⟨t.val % 4 * 2 + h.val, by omega⟩

/-- Heads before positions, the 96 lanes padded to 128 with zeros. -/
def padded (x : Arr 96) : FVec Ideal S4x8x4096x128 .f32 :=
  pad S4x8x4096x128 ![0, 0, 0, 0] ![0, 0, 0, 32] ![0, 0, 0, 0] (transpose S4x8x4096x96 [0, 2, 1, 3] (x : FVec Ideal S4x4096x8x96 .f32) transposes_S4x4096x8x96_S4x8x4096x96_0_2_1_3)
    (sitofp .f32 (constantI S_ 32 0#32)) pads_S4x8x4096x96_S4x8x4096x128_000_000_000_0320 h_S_

theorem padded_at (x : Arr 96) (b : Fin 4) (h : Fin 8) (s : Fin 4096) (l : Fin 128) :
    padded x (ix4 b h s l) = if hl : l.val < 96 then x (ix4 b s h ⟨l.val, hl⟩) else 0 := by
  unfold padded
  pointwise
  exact congrArg (fun z : EReal => if hl : l.val < 96 then x (ix4 b s h ⟨l.val, hl⟩) else z) (by show (((0#32).toInt : ℝ) : EReal) = 0; simp)

/-- The keys side by side with the shared lanes, repeated for every head. -/
def joined (kn : Arr 64) (kr : (⟨3, ![4, 4096, 32]⟩ : Shape).Idx → EReal) : FVec Ideal S4x4096x8x96 .f32 :=
  concatenate S4x4096x8x96 3 [⟨S4x4096x8x64, (kn : FVec Ideal S4x4096x8x64 .f32)⟩,
    ⟨S4x4096x8x32, broadcastInDim S4x4096x8x32 ![0, 1, 2, 3] bcast_S4x4096x1x32_S4x4096x8x32_0_1_2_3
      (broadcastInDim S4x4096x1x32 ![0, 1, 3] bcast_S4x4096x32_S4x4096x1x32_0_1_3 (kr : FVec Ideal S4x4096x32 .f32))⟩]
    concatenates_S4x4096x8x64_S4x4096x8x32_S4x4096x8x96_d3

theorem joined_eq (kn : Arr 64) (kr : (⟨3, ![4, 4096, 32]⟩ : Shape).Idx → EReal) : (joined kn kr : Arr 96) = keys kn kr := by
  funext i
  obtain ⟨b, s, h, l, rfl⟩ : ∃ (b : Fin 4) (s : Fin 4096) (h : Fin 8) (l : Fin 96), i = ix4 b s h l :=
    ⟨i 0, i 1, i 2, i 3, by funext a; match a with | ⟨0, _⟩ => rfl | ⟨1, _⟩ => rfl | ⟨2, _⟩ => rfl | ⟨3, _⟩ => rfl⟩
  unfold joined keys
  pointwise

theorem host_queries : (V m c main_v12 : S4x8x4096x128.Idx → EReal) = padded (scaled (Q m c)) := by
  simp only [V, hostOps0, hostOps0_1, hostOps0_2, hostOps0_3, hostOps0_4, List.flatten_cons, List.flatten_nil, List.append_nil, List.cons_append, List.nil_append]
  entry_read
  refine (show _ = padded (fun i => Q m c i * Ideal.div (Ideal.ofBits .f32 0x3F800000#32) (Ideal.sqrt (Ideal.ofBits .f32 0x42C00000#32) * Ideal.log (Ideal.ofBits .f32 0x40000000#32))) from rfl).trans ?_
  rw [Window.lit_one, lit_96, lit_two, rate_eq]
  rfl

theorem host_keys : (V m c main_v15 : S4x8x4096x128.Idx → EReal) = padded (K m c) := by
  unfold K
  rw [← joined_eq]
  simp only [V, hostOps0, hostOps0_1, hostOps0_2, hostOps0_3, hostOps0_4, List.flatten_cons, List.flatten_nil, List.append_nil, List.cons_append, List.nil_append]
  entry_read
  rfl

theorem host_values (b : Fin 4) (x : Fin 512) (s : Fin 4096) :
    (V m c main_v18 (ix3 b x s) : EReal) = V' m c (ix4 b s ⟨x.val / 64, by omega⟩ ⟨x.val % 64, by omega⟩) := by
  simp only [V, hostOps0, hostOps0_1, hostOps0_2, hostOps0_3, hostOps0_4, List.flatten_cons, List.flatten_nil, List.append_nil, List.cons_append, List.nil_append]
  entry_read
  pointwise

theorem queries_at (h : Hd) (s : Fin 4096) (l : Fin 128) :
    (iblk m c 0 t (ix4 0 h s l) : EReal) = if hl : l.val < 96 then scaled (Q m c) (ix4 (bOf t) s (hOf t h) ⟨l.val, hl⟩) else 0 := by
  have e : (win0_0.blk t).view.emb (ix4 0 h s l) = (ix4 (bOf t) (hOf t h) s l : S4x8x4096x128.Idx) := by
    funext a
    match a with
    | ⟨0, _⟩ => exact Fin.ext (by blk_simp [idx t]; rfl)
    | ⟨1, _⟩ => exact Fin.ext (by blk_simp [idx t])
    | ⟨2, _⟩ => exact Fin.ext (by blk_simp [idx t])
    | ⟨3, _⟩ => exact Fin.ext (by blk_simp [idx t])
  refine (congrFun (host_queries m c) _).trans (Eq.trans ?_ (padded_at (scaled (Q m c)) (bOf t) (hOf t h) s l))
  exact congrArg (padded (scaled (Q m c))) e

theorem keys_at (h : Hd) (s : Fin 4096) (l : Fin 128) :
    (iblk m c 1 t (ix4 0 h s l) : EReal) = if hl : l.val < 96 then K m c (ix4 (bOf t) s (hOf t h) ⟨l.val, hl⟩) else 0 := by
  have e : (win0_1.blk t).view.emb (ix4 0 h s l) = (ix4 (bOf t) (hOf t h) s l : S4x8x4096x128.Idx) := by
    funext a
    match a with
    | ⟨0, _⟩ => exact Fin.ext (by blk_simp [idx t]; rfl)
    | ⟨1, _⟩ => exact Fin.ext (by blk_simp [idx t])
    | ⟨2, _⟩ => exact Fin.ext (by blk_simp [idx t])
    | ⟨3, _⟩ => exact Fin.ext (by blk_simp [idx t])
  refine (congrFun (host_keys m c) _).trans (Eq.trans ?_ (padded_at (K m c) (bOf t) (hOf t h) s l))
  exact congrArg (padded (K m c)) e

theorem values_at (h : Hd) (d : Fin 64) (s : Fin 4096) :
    (iblk m c 2 t (ix3 0 ⟨64 * h.val + d.val, by omega⟩ s) : EReal) = V' m c (ix4 (bOf t) s (hOf t h) d) := by
  have e : (win0_2.blk t).view.emb (ix3 0 ⟨64 * h.val + d.val, by omega⟩ s) = (ix3 (bOf t) ⟨t.val % 4 * 128 + (64 * h.val + d.val), by omega⟩ s : S4x512x4096.Idx) := by
    funext a
    match a with
    | ⟨0, _⟩ => exact Fin.ext (by blk_simp [idx t]; rfl)
    | ⟨1, _⟩ => exact Fin.ext (by blk_simp [idx t])
    | ⟨2, _⟩ => exact Fin.ext (by blk_simp [idx t])
  refine (congrArg (V m c main_v18) e).trans ((host_values m c _ _ _).trans ?_)
  refine congrArg₂ (fun x y => V' m c (ix4 (bOf t) s x y)) (Fin.ext ?_) (Fin.ext ?_)
  · show (t.val % 4 * 128 + (64 * h.val + d.val)) / 64 = t.val % 4 * 2 + h.val; omega
  · show (t.val % 4 * 128 + (64 * h.val + d.val)) % 64 = d.val; omega

end Cert.Kernel3Ideal.Latent

end
-- ==== Proof.Latent.Ref.lean ====
/- The latent attention's reference is the formula. -/
module

public import proofs.«01_k».proof.Proof.Gen.Reference3Ideal.Read
public import proofs.«01_k».proof.Proof.Latent.Math

@[expose] public section

set_option maxRecDepth 16384

noncomputable section

namespace Cert.Reference3Ideal.Latent

open Cert.Reference3Ideal Cert.Reference3Ideal.Gen Cert.Reference3Ideal.Read Idealize.ShloMosaic Base2

variable (x0 : Arr 96) (x1 : Arr 64) (x2 : (⟨3, ![4, 4096, 32]⟩ : Shape).Idx → EReal) (x3 : Arr 64)

theorem score_at (b : Fin 4) (h : Fin 8) (s j : Fin 4096) : val_main_v5 (F := Ideal) x0 x1 x2 (ix4 b h s j) = score x0 (keys x1 x2) b h s j := by
  rw [val_main_v5_apply, val_main_v2_apply, val_main_v4_apply, val_main_v3_apply]
  unfold score
  refine Eq.trans ?_ (Fin.sum_univ_add (a := 64) (b := 32) (f := fun l : Fin 96 => x0 (ix4 b s h l) * keys x1 x2 (ix4 b j h l))).symm
  refine congrArg₂ (fun x y : EReal => x + y) (Finset.sum_congr rfl fun l _ => ?_) (Finset.sum_congr rfl fun l _ => ?_)
  · rw [val_main_v0_apply]
    unfold keys
    rw [dif_pos (show ((ix4 b j h (Fin.castAdd 32 l) : S4x4096x8x96.Idx) 3).val < 64 from l.isLt)]
    exact congrArg₂ (fun a c => x0 a * x1 c) (funext fun a => Fin.ext (by match a with | ⟨0, _⟩ => rfl | ⟨1, _⟩ => rfl | ⟨2, _⟩ => rfl | ⟨3, _⟩ => rfl))
      (funext fun a => Fin.ext (by match a with | ⟨0, _⟩ => rfl | ⟨1, _⟩ => rfl | ⟨2, _⟩ => rfl | ⟨3, _⟩ => rfl))
  · rw [val_main_v1_apply, mul_comm]
    unfold keys
    rw [dif_neg (show ¬ ((ix4 b j h (Fin.natAdd 64 l) : S4x4096x8x96.Idx) 3).val < 64 by show ¬ 64 + l.val < 64; omega)]
    exact congrArg₂ (fun a c => x0 a * x2 c) (funext fun a => Fin.ext (by match a with | ⟨0, _⟩ => rfl | ⟨1, _⟩ => rfl | ⟨2, _⟩ => rfl | ⟨3, _⟩ => rfl))
      (funext fun a => Fin.ext (by match a with | ⟨0, _⟩ => rfl | ⟨1, _⟩ => rfl | ⟨2, _⟩ => show l.val = 64 + l.val - 64; omega))

theorem level_at (b : Fin 4) (h : Fin 8) (s j : Fin 4096) : val_main_v9 (F := Ideal) x0 x1 x2 (ix4 b h s j) = level x0 (keys x1 x2) b h s j := by
  rw [val_main_v9_apply, val_main_v8_apply, val_main_v7_apply, val_main_v6_apply, val_main_cst_apply, score_at]
  unfold level
  rw [← sqrt_96, ← lit_96]
  rfl

theorem top_at (b : Fin 4) (h : Fin 8) (s : Fin 4096) : val_main_v12 (F := Ideal) x0 x1 x2 (ix3 b h s) = top x0 (keys x1 x2) b h s := by
  rw [val_main_v12_apply, val_main_v11_apply, val_main_cst_1_apply]
  refine Eq.trans (b := max (Ideal.ofBits .f32 0xFF800000#32) (val_main_v10 (F := Ideal) x0 x1 x2 (ix3 b h s))) rfl ?_
  rw [Window.lit_bot, max_eq_right bot_le]
  unfold val_main_v10 val_main_cst_0 top
  rw [show level x0 (keys x1 x2) b h s = fun j => val_main_v9 (F := Ideal) x0 x1 x2 (ix4 b h s j) from funext fun j => (level_at x0 x1 x2 b h s j).symm, ← Window.lit_bot]
  generalize val_main_v9 (F := Ideal) x0 x1 x2 = y
  rw [Host.reduce_eq_fold_single _ _ _ _ (by decide)]
  refine congrArg (fun f => Finset.fold max _ f _) (funext fun j => ?_)
  exact congrArg y (funext fun a => Fin.ext (by match a with | ⟨0, _⟩ => rfl | ⟨1, _⟩ => rfl | ⟨2, _⟩ => rfl | ⟨3, _⟩ => rfl))

theorem wgt_at (b : Fin 4) (h : Fin 8) (s j : Fin 4096) : val_main_v16 (F := Ideal) x0 x1 x2 (ix4 b h s j) = wgt x0 (keys x1 x2) b h s j := by
  rw [val_main_v16_apply, val_main_v15_apply, val_main_v14_apply, val_main_v13_apply, level_at]
  unfold wgt
  rw [← top_at]
  exact congrArg (fun i => Ideal.exp (_ - val_main_v12 (F := Ideal) x0 x1 x2 i)) (funext fun a => Fin.ext (by match a with | ⟨0, _⟩ => rfl | ⟨1, _⟩ => rfl | ⟨2, _⟩ => rfl))

theorem sum_at (b : Fin 4) (h : Fin 8) (s : Fin 4096) : val_main_v17 (F := Ideal) x0 x1 x2 (ix3 b h s) = ∑ j, wgt x0 (keys x1 x2) b h s j := by
  rw [val_main_v17_apply]
  show Ideal.ofBits .f32 0 + _ = _
  rw [show Ideal.ofBits .f32 0 = 0 from by simp, zero_add]
  refine Finset.sum_congr rfl fun j _ => ?_
  rw [← wgt_at]
  exact congrArg _ (funext fun a => Fin.ext (by match a with | ⟨0, _⟩ => rfl | ⟨1, _⟩ => rfl | ⟨2, _⟩ => rfl | ⟨3, _⟩ => rfl))

theorem normalised_at (b : Fin 4) (h : Fin 8) (s j : Fin 4096) :
    val_main_v20 (F := Ideal) x0 x1 x2 (ix4 b h s j) = Ideal.div (wgt x0 (keys x1 x2) b h s j) (∑ j, wgt x0 (keys x1 x2) b h s j) := by
  rw [val_main_v20_apply, val_main_v19_apply, val_main_v18_apply, wgt_at, ← sum_at]
  exact congrArg (fun i => Ideal.div _ (val_main_v17 (F := Ideal) x0 x1 x2 i)) (funext fun a => Fin.ext (by match a with | ⟨0, _⟩ => rfl | ⟨1, _⟩ => rfl | ⟨2, _⟩ => rfl))

theorem att_at (b : Fin 4) (h : Fin 8) (d : Fin 64) (s : Fin 4096) : val_main_v21 (F := Ideal) x0 x1 x2 x3 (ix4 b h d s) = att x0 (keys x1 x2) x3 b h s d := by
  rw [val_main_v21_apply]
  unfold att
  refine Finset.sum_congr rfl fun j _ => ?_
  rw [← normalised_at]
  exact congrArg₂ (fun a c => x3 a * val_main_v20 (F := Ideal) x0 x1 x2 c) (funext fun a => Fin.ext (by match a with | ⟨0, _⟩ => rfl | ⟨1, _⟩ => rfl | ⟨2, _⟩ => rfl | ⟨3, _⟩ => rfl))
    (funext fun a => Fin.ext (by match a with | ⟨0, _⟩ => rfl | ⟨1, _⟩ => rfl | ⟨2, _⟩ => rfl | ⟨3, _⟩ => rfl))

theorem result : val_main_v23 (F := Ideal) x0 x1 x2 x3 = out x0 (keys x1 x2) x3 := by
  funext i
  rw [val_main_v23_apply, val_main_v22_apply]
  refine Eq.trans (congrArg (val_main_v21 (F := Ideal) x0 x1 x2 x3) (funext fun a => Fin.ext ?_)) (att_at x0 x1 x2 x3 (i 0) ⟨(i 2).val / 64, Nat.div_lt_of_lt_mul (i 2).isLt⟩ ⟨(i 2).val % 64, Nat.mod_lt _ (by decide)⟩ (i 1))
  have h0 : (i 0).val < 4 := (i 0).isLt
  have h1 : (i 1).val < 4096 := (i 1).isLt
  have h2 : (i 2).val < 512 := (i 2).isLt
  match a with
  | ⟨0, _⟩ => show (((i 0).val * 4096 + (i 1).val) * 512 + (i 2).val) / 2097152 = (i 0).val; omega
  | ⟨1, _⟩ => show (((i 0).val * 4096 + (i 1).val) * 512 + (i 2).val) / 64 % 8 = (i 2).val / 64; omega
  | ⟨2, _⟩ => show (((i 0).val * 4096 + (i 1).val) * 512 + (i 2).val) % 64 = (i 2).val % 64; omega
  | ⟨3, _⟩ => show (((i 0).val * 4096 + (i 1).val) * 512 + (i 2).val) / 512 % 4096 = (i 1).val; omega

end Cert.Reference3Ideal.Latent

end
-- ==== Proof.Latent.Equal.lean ====
/- The latent attention's kernel is its reference, and the frames of the two. -/
module

public import proofs.«01_k».proof.Proof.Latent.Tile
public import proofs.«01_k».proof.Proof.Latent.Blocks
public import proofs.«01_k».proof.Proof.Latent.Ref
public import proofs.«01_k».proof.Proof.Swa.Finite
public import proofs.«01_k».proof.Proof.Gen.Kernel3
public import proofs.«01_k».proof.Defs

@[expose] public section

set_option maxRecDepth 16384

noncomputable section

namespace Cert.Kernel3Ideal.Latent

open Cert.Kernel3Ideal Cert.Kernel3Ideal.Gen Idealize.ShloMosaic Idealize.ShloMosaic.TcCoe Idealize.SL.Sem Base2
open Idealize.ShloMosaic.Pipeline (Dat)

variable (m : (ℓ : Loc nD τ sig) → Buf (Elt Ideal) ℓ) (c : Dev nD)

/-- The result's array after the launch. -/
theorem final (hQ : ∀ i, ∃ x : ℝ, Q m c i = x) (hK : ∀ i, ∃ x : ℝ, K m c i = x) : (dats m 0 c).arrAt 3 cfg0.N = out (Q m c) (K m c) (V' m c) := by
  refine (dats m 0 c).arrAt_eq_of_covers 3 _ (by decide +kernel) fun t hf y => ?_
  blk_simp
  rw [after0_3]
  obtain ⟨a, s, l, rfl⟩ : ∃ (a : Fin 1) (s : Fin 4096) (l : Fin 128), y = ix3 a s l := ⟨y 0, y 1, y 2, by funext a; match a with | ⟨0, _⟩ => rfl | ⟨1, _⟩ => rfl | ⟨2, _⟩ => rfl⟩
  obtain rfl : a = 0 := Subsingleton.elim _ _
  refine (block_at (Q m c) (K m c) (V' m c) (bOf t) (hOf t) (iblk m c 0 t) (iblk m c 1 t) (iblk m c 2 t) (queries_at m c t) (keys_at m c t) (values_at m c t) hQ hK s l).trans ?_
  have e : (win0_3.blk t).view.emb (ix3 0 s l) = (ix3 (bOf t) s ⟨t.val % 4 * 128 + l.val, by omega⟩ : S4x4096x512.Idx) := by
    funext a
    match a with
    | ⟨0, _⟩ => exact Fin.ext (by blk_simp [idx t]; rfl)
    | ⟨1, _⟩ => exact Fin.ext (by blk_simp [idx t])
    | ⟨2, _⟩ => exact Fin.ext (by blk_simp [idx t])
  refine Eq.trans ?_ (congrArg (out (Q m c) (K m c) (V' m c)) e).symm
  refine congrArg₂ (fun x y => att (Q m c) (K m c) (V' m c) (bOf t) x s y) (Fin.ext ?_) (Fin.ext ?_)
  · show t.val % 4 * 2 + l.val / 64 = (t.val % 4 * 128 + l.val) / 64; omega
  · show l.val % 64 = (t.val % 4 * 128 + l.val) % 64; omega

instance pre_facts : Cert.Pre_real_queries_and_keys.Facts := ⟨by decide, by decide, by decide⟩

/-- What the precondition says. -/
theorem real_of_pre (h : Cert.Pre_Kernel3Ideal_real_queries_and_keys m) : (∀ i, ∃ x : ℝ, Q m c i = x) ∧ ∀ i, ∃ x : ℝ, K m c i = x := by
  obtain ⟨h1, h2, h3⟩ := h c
  have hq : ∀ i, ∃ x : ℝ, Q m c i = x := fun i => Window.real_of_abs _ (by
    have e : BitVec.ofBool (decide (max (Q m c i) (-Q m c i) < Ideal.ofBits .f32 0x7F800000#32)) = 1#1 := congrFun h1 i
    rw [Window.ofBool_one, Window.inf_word] at e
    exact of_decide_eq_true e)
  have hn : ∀ i, ∃ x : ℝ, Kn m c i = x := fun i => Window.real_of_abs _ (by
    have e : BitVec.ofBool (decide (max (Kn m c i) (-Kn m c i) < Ideal.ofBits .f32 0x7F800000#32)) = 1#1 := congrFun h2 i
    rw [Window.ofBool_one, Window.inf_word] at e
    exact of_decide_eq_true e)
  have hr : ∀ i, ∃ x : ℝ, Kr m c i = x := fun i => Window.real_of_abs _ (by
    have e : BitVec.ofBool (decide (max (Kr m c i) (-Kr m c i) < Ideal.ofBits .f32 0x7F800000#32)) = 1#1 := congrFun h3 i
    rw [Window.ofBool_one, Window.inf_word] at e
    exact of_decide_eq_true e)
  refine ⟨hq, fun i => ?_⟩
  unfold K keys
  split_ifs
  · exact hn _
  · exact hr _

/-- The idealized kernel's frame, -/
theorem frame_ideal : Cert.quiescent_Kernel3Ideal := fun m g _ => frame_at m g

/-- the two programs' body tables being one, case by case, -/
theorem bodies_same {F : FTy → Type} [FloatOps F] : Cert.Kernel3.defs₀ (F := F) = Cert.Kernel3Ideal.defs₀ (F := F) := by
  unfold Cert.Kernel3.defs₀ Cert.Kernel3Ideal.defs₀
  refine congrArg Defs.onTc ?_
  funext l x
  match l, x with
  | 0, (t, s) => rfl
  | ⟨_ + 1, h⟩, _ => exact absurd h (Nat.not_lt.2 (Nat.le_add_left _ _))

theorem defs_same {F : FTy → Type} [FloatOps F] : Cert.Kernel3.defs (F := F) = Cert.Kernel3Ideal.defs (F := F) := congrArg (Pipeline.defs (Cert.Kernel3Ideal.pcfgs (F := F))) bodies_same

/-- and the kernel's, from the same run: the two programs have one text. -/
theorem frame_kernel : Cert.quiescent_Kernel3 := fun m g _ =>
  Eq.mpr (congrArg (fun D => θ_run D (onTc (τ := Cert.Kernel3.τ) (Cert.Kernel3.main (F := Bits))) ⟨m, fun _ => 0, g⟩ _) (defs_same (F := Bits)))
    (frame_at (F := Bits) m g)

/-- The reference's frame: its run leaves the arguments, and it declares no semaphore. -/
theorem frame_reference : Cert.quiescent_Reference3Ideal := fun m g _ =>
  (θ_run (Cert.Reference3Ideal.defs (F := Ideal)) _ _).mono (fun r h => ⟨fun c => (h c).2, sem_eq_zero_of_no_sems (by decide) r.2⟩)
    (Cert.Reference3Ideal.Value.run m g)

/-- The two results agree, when the precondition holds. -/
theorem algebraic : Cert.algebraic_Kernel3Ideal_Reference3Ideal_pre_real_queries_and_keys := by
  intro m g m' g' h hargs
  refine ⟨fun c => (dats m 0 c).arrAt 3 cfg0.N, ?_, ?_⟩
  · exact (θ_run (Cert.Kernel3Ideal.defs (F := Ideal)) _ _).mono (fun r k c => ⟨k.1 c, k.2 c⟩) (θ_run_and (run_result m g) (unchanged m g))
  · refine (θ_run (Cert.Reference3Ideal.defs (F := Ideal)) _ _).mono (fun r k c => ⟨(k c).1.trans ?_, (k c).2⟩) (Cert.Reference3Ideal.Value.run m' g')
    obtain ⟨hQ, hK⟩ := real_of_pre m c h
    refine Eq.trans ?_ (final m c hQ hK).symm
    rw [Cert.Reference3Ideal.Read.val_main_v23_eq]
    obtain ⟨e0, e1, e2, e3⟩ := hargs c
    rw [e0, e1, e2, e3]
    exact Cert.Reference3Ideal.Latent.result _ _ _ _

end Cert.Kernel3Ideal.Latent

end
-- ==== Proof.Ada.Equal.lean ====
/- The modulation's kernel is its reference, and the frames of the two. The kernel splits both factors in a cast part and
   the rest, and adds three of the four products: over the reals the cast parts are the factors and the rests are zero. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Swa.Finite
public import proofs.«01_k».proof.Defs
public import Idealize.ShloMosaic.Lib.Pipeline.ValueKit.Point

@[expose] public section

set_option maxRecDepth 16384

noncomputable section

namespace Cert.Kernel5Ideal.Ada

open Cert.Kernel5Ideal Cert.Kernel5Ideal.Gen Idealize.ShloMosaic Idealize.ShloMosaic.TcCoe Idealize.SL.Sem
open Idealize.ShloMosaic.Pipeline (Dat)

/-- `x · sigmoid(x)`. -/
def silu (x : EReal) : EReal := x * Ideal.div 1 (1 + Ideal.exp (-x))

theorem silu_real (x : ℝ) : ∃ y : ℝ, silu x = y := by
  refine ⟨x * (1 / (1 + Real.exp (-x))), ?_⟩
  have h : (1 + Real.exp (-x)) ≠ 0 := (add_pos one_pos (Real.exp_pos _)).ne'
  have e : Ideal.exp (-(x : EReal)) = ((Real.exp (-x) : ℝ) : EReal) := by rw [← EReal.coe_neg]; rfl
  unfold silu
  rw [e, show (1 : EReal) + ((Real.exp (-x) : ℝ) : EReal) = ((1 + Real.exp (-x) : ℝ) : EReal) from rfl, Ideal.div_coe h, one_mul, ← EReal.coe_mul]

theorem sub_self_real (x : EReal) (h : ∃ r : ℝ, x = r) : x - x = 0 := by
  obtain ⟨r, rfl⟩ := h
  rw [← EReal.coe_sub, sub_self]; rfl

/-- What a grid point stores. -/
theorem pay_at (x0 : S8x1024.Idx → EReal) (x1 : S1024x1024.Idx → EReal) (x2 : S1x1024.Idx → EReal)
    (h0 : ∀ i, ∃ r : ℝ, x0 i = r) (h1 : ∀ i, ∃ r : ℝ, x1 i = r) (r : Fin 8) (l : Fin 1024) :
    k0_pay1 (F := Ideal) x0 x1 x2 (ix2 r l) = ∑ k : Fin 1024, silu (x0 (ix2 r k)) * x1 (ix2 k l) + x2 (ix2 0 l) := by
  have z0 : ∀ i, silu (x0 i) - silu (x0 i) = 0 := fun i => sub_self_real _ (by obtain ⟨y, e⟩ := h0 i; rw [e]; exact silu_real y)
  have z1 : ∀ i, x1 i - x1 i = 0 := fun i => sub_self_real _ (h1 i)
  unfold k0_pay1
  pointwise
  simp only [zero_sub, ← silu.eq_1]
  simp only [z0, z1, zero_mul, mul_zero, Finset.sum_const_zero, add_zero]

variable (m : (ℓ : Loc nD τ sig) → Buf (Elt Ideal) ℓ) (c : Dev nD) (t : Fin cfg0.N)

abbrev C : S4x1024.Idx → EReal := m ((c : Thread nD τ).loc main_arg0)
abbrev W : S1x1024x6144.Idx → EReal := m ((c : Thread nD τ).loc main_arg1)
abbrev B : S1x6144.Idx → EReal := m ((c : Thread nD τ).loc main_arg2)

/-- The conditioning with rows of zeros below. -/
def rows (x : S4x1024.Idx → EReal) (r : Fin 8) (k : Fin 1024) : EReal := if h : r.val < 4 then x (ix2 ⟨r.val, h⟩ k) else 0

/-- The modulation. -/
def out (x : S4x1024.Idx → EReal) (w : S1x1024x6144.Idx → EReal) (b : S1x6144.Idx → EReal) (i : S8x6144.Idx) : EReal :=
  ∑ k : Fin 1024, silu (rows x (i 0) k) * w (ix3 0 k (i 1)) + b (ix2 0 (i 1))

/-- The host's padding. -/
def padded (x : S4x1024.Idx → EReal) : FVec Ideal S8x1024 .f32 :=
  pad S8x1024 ![0, 0] ![4, 0] ![0, 0] (x : FVec Ideal S4x1024 .f32) (sitofp .f32 (constantI S_ 32 0#32)) pads_S4x1024_S8x1024_040_000 h_S_

theorem padded_at (x : S4x1024.Idx → EReal) (r : Fin 8) (k : Fin 1024) : padded x (ix2 r k) = rows x r k := by
  unfold padded rows
  pointwise
  exact congrArg (fun z : EReal => if hl : r.val < 4 then x (ix2 ⟨r.val, hl⟩ k) else z) (by show (((0#32).toInt : ℝ) : EReal) = 0; simp)

theorem host_rows : (V m c main_v0 : S8x1024.Idx → EReal) = padded (C m c) := by
  simp only [V, hostOps0, hostOps0_1, hostOps0_2, List.flatten_cons, List.flatten_nil, List.append_nil, List.cons_append, List.nil_append]
  entry_read
  rfl

theorem host_weights (k : Fin 1024) (l : Fin 6144) : (V m c main_v1 (ix2 k l) : EReal) = W m c (ix3 0 k l) := by
  simp only [V, hostOps0, hostOps0_1, hostOps0_2, List.flatten_cons, List.flatten_nil, List.append_nil, List.cons_append, List.nil_append]
  entry_read
  pointwise

theorem host_bias (l : Fin 6144) : (V m c main_v3 (ix2 0 l) : EReal) = B m c (ix2 0 l) := by
  simp only [V, hostOps0, hostOps0_1, hostOps0_2, List.flatten_cons, List.flatten_nil, List.append_nil, List.cons_append, List.nil_append]
  entry_read
  pointwise

theorem idx : ∀ t : Fin cfg0.N, (win0_0.index t 0 = 0 ∧ win0_0.index t 1 = 0) ∧ (win0_1.index t 0 = 0 ∧ win0_1.index t 1 = t.val) ∧
    (win0_2.index t 0 = 0 ∧ win0_2.index t 1 = t.val) ∧ (win0_3.index t 0 = 0 ∧ win0_3.index t 1 = t.val) :=
  (by decide +kernel : ∀ t : Fin grid0.N, (win0_0.index t 0 = 0 ∧ win0_0.index t 1 = 0) ∧ (win0_1.index t 0 = 0 ∧ win0_1.index t 1 = t.val) ∧
    (win0_2.index t 0 = 0 ∧ win0_2.index t 1 = t.val) ∧ (win0_3.index t 0 = 0 ∧ win0_3.index t 1 = t.val))

abbrev col (l : Fin 1024) : Fin 6144 := ⟨t.val * 1024 + l.val, by have : t.val < 6 := t.isLt; omega⟩

theorem rows_at (r : Fin 8) (k : Fin 1024) : (iblk m c 0 t (ix2 r k) : EReal) = rows (C m c) r k := by
  have e : (win0_0.blk t).view.emb (ix2 r k) = (ix2 r k : S8x1024.Idx) := by
    funext a
    match a with
    | ⟨0, _⟩ => exact Fin.ext (by blk_simp [idx t])
    | ⟨1, _⟩ => exact Fin.ext (by blk_simp [idx t])
  exact (congrFun (host_rows m c) _).trans ((congrArg (padded (C m c)) e).trans (padded_at _ r k))

theorem weights_at (k l : Fin 1024) : (iblk m c 1 t (ix2 k l) : EReal) = W m c (ix3 0 k (col t l)) := by
  have e : (win0_1.blk t).view.emb (ix2 k l) = (ix2 k (col t l) : S1024x6144.Idx) := by
    funext a
    match a with
    | ⟨0, _⟩ => exact Fin.ext (by blk_simp [idx t])
    | ⟨1, _⟩ => exact Fin.ext (by blk_simp [idx t])
  exact (congrArg (V m c main_v1) e).trans (host_weights m c k _)

theorem bias_at (l : Fin 1024) : (iblk m c 2 t (ix2 0 l) : EReal) = B m c (ix2 0 (col t l)) := by
  have e : (win0_2.blk t).view.emb (ix2 0 l) = (ix2 0 (col t l) : S1x6144.Idx) := by
    funext a
    match a with
    | ⟨0, _⟩ => exact Fin.ext (by blk_simp [idx t])
    | ⟨1, _⟩ => exact Fin.ext (by blk_simp [idx t])
  exact (congrArg (V m c main_v3) e).trans (host_bias m c _)

/-- A whole block read through a rectangle that is all of it. -/
theorem ld0 (x : S8x1024.Idx → EReal) : (View.ld (Val := Elt Ideal) (e' := .f32) (x : Vec Ideal S8x1024 .f32) r0_0 : S8x1024.Idx → EReal) = x := by
  funext i
  exact congrArg x (funext fun a => Fin.ext (by match a with | ⟨0, _⟩ => show 0 + 1 * (i 0).val = (i 0).val; omega | ⟨1, _⟩ => show 0 + 1 * (i 1).val = (i 1).val; omega))
theorem ld1 (x : S1024x1024.Idx → EReal) : (View.ld (Val := Elt Ideal) (e' := .f32) (x : Vec Ideal S1024x1024 .f32) r0_1 : S1024x1024.Idx → EReal) = x := by
  funext i
  exact congrArg x (funext fun a => Fin.ext (by match a with | ⟨0, _⟩ => show 0 + 1 * (i 0).val = (i 0).val; omega | ⟨1, _⟩ => show 0 + 1 * (i 1).val = (i 1).val; omega))
theorem ld2 (x : S1x1024.Idx → EReal) : (View.ld (Val := Elt Ideal) (e' := .f32) (x : Vec Ideal S1x1024 .f32) r0_2 : S1x1024.Idx → EReal) = x := by
  funext i
  exact congrArg x (funext fun a => Fin.ext (by match a with | ⟨0, _⟩ => show 0 + 1 * (i 0).val = (i 0).val; omega | ⟨1, _⟩ => show 0 + 1 * (i 1).val = (i 1).val; omega))

/-- The block a point leaves. -/
theorem stored (x0 : S8x1024.Idx → EReal) (x1 : S1024x1024.Idx → EReal) (x2 : S1x1024.Idx → EReal) (y : S8x1024.Idx) :
    out0_3 (F := Ideal) x0 x1 x2 y = k0_pay1 (F := Ideal) x0 x1 x2 y := by
  unfold out0_3
  rw [ld0, ld1, ld2]
  have := View.canon_cons_emb (Val := Elt Ideal) (s := S8x1024) (e := .f32) r0_0 (k0_pay1 (F := Ideal) x0 x1 x2) [] y
  rw [← this]
  exact congrArg _ (funext fun a => Fin.ext (by match a with | ⟨0, _⟩ => show (y 0).val = 0 + 1 * (y 0).val; omega | ⟨1, _⟩ => show (y 1).val = 0 + 1 * (y 1).val; omega))

/-- The result's array after the launch. -/
theorem final (hC : ∀ i, ∃ x : ℝ, C m c i = x) (hW : ∀ i, ∃ x : ℝ, W m c i = x) :
    (dats m 0 c).arrAt 3 cfg0.N = out (C m c) (W m c) (B m c) := by
  refine (dats m 0 c).arrAt_eq_of_covers 3 _ (by decide +kernel) fun t hf y => ?_
  blk_simp
  rw [after0_3]
  refine (stored _ _ _ y).trans ?_
  obtain ⟨r, l, rfl⟩ : ∃ (r : Fin 8) (l : Fin 1024), y = ix2 r l := ⟨y 0, y 1, by funext a; match a with | ⟨0, _⟩ => rfl | ⟨1, _⟩ => rfl⟩
  have h0 : ∀ i, ∃ x : ℝ, (iblk m c 0 t : S8x1024.Idx → EReal) i = (x : EReal) := fun i => by
    obtain ⟨r, k, rfl⟩ : ∃ (r : Fin 8) (k : Fin 1024), i = ix2 r k := ⟨i 0, i 1, by funext a; match a with | ⟨0, _⟩ => rfl | ⟨1, _⟩ => rfl⟩
    rw [rows_at]
    unfold rows
    split_ifs
    · exact hC _
    · exact ⟨0, rfl⟩
  have h1 : ∀ i, ∃ x : ℝ, (iblk m c 1 t : S1024x1024.Idx → EReal) i = (x : EReal) := fun i => by
    obtain ⟨k, l, rfl⟩ : ∃ (k l : Fin 1024), i = ix2 k l := ⟨i 0, i 1, by funext a; match a with | ⟨0, _⟩ => rfl | ⟨1, _⟩ => rfl⟩
    rw [weights_at]
    exact hW _
  refine (pay_at _ _ _ h0 h1 r l).trans ?_
  have e : (win0_3.blk t).view.emb (ix2 r l) = (ix2 r (col t l) : S8x6144.Idx) := by
    funext a
    match a with
    | ⟨0, _⟩ => exact Fin.ext (by blk_simp [idx t])
    | ⟨1, _⟩ => exact Fin.ext (by blk_simp [idx t])
  refine Eq.trans ?_ (congrArg (out (C m c) (W m c) (B m c)) e).symm
  simp only [rows_at, weights_at, bias_at]
  rfl

/-- The reference's result is the same formula. -/
theorem reference_at (x : S4x1024.Idx → EReal) (w : S1x1024x6144.Idx → EReal) (b : S1x6144.Idx → EReal) :
    Cert.Reference5Ideal.Read.val_main_v7 (F := Ideal) x w b = out x w b := by
  funext i
  obtain ⟨r, l, rfl⟩ : ∃ (r : Fin 8) (l : Fin 6144), i = ix2 r l := ⟨i 0, i 1, by funext a; match a with | ⟨0, _⟩ => rfl | ⟨1, _⟩ => rfl⟩
  rw [← Cert.Reference5Ideal.Read.val_main_v7_eq]
  pointwise
  have z : (FloatOps.sitofp (F := Ideal) FTy.f32 0#32 : EReal) = 0 := by show (((0#32).toInt : ℝ) : EReal) = 0; simp
  rw [z]
  rfl

instance pre_facts : Cert.Pre_real_modulation.Facts := ⟨by decide, by decide⟩

/-- What the precondition says. -/
theorem real_of_pre (h : Cert.Pre_Kernel5Ideal_real_modulation m) : (∀ i, ∃ x : ℝ, C m c i = x) ∧ ∀ i, ∃ x : ℝ, W m c i = x := by
  obtain ⟨h1, h2⟩ := h c
  refine ⟨fun i => Window.real_of_abs _ ?_, fun i => Window.real_of_abs _ ?_⟩
  · have e : BitVec.ofBool (decide (max (C m c i) (-C m c i) < Ideal.ofBits .f32 0x7F800000#32)) = 1#1 := congrFun h1 i
    rw [Window.ofBool_one, Window.inf_word] at e
    exact of_decide_eq_true e
  · have e : BitVec.ofBool (decide (max (W m c i) (-W m c i) < Ideal.ofBits .f32 0x7F800000#32)) = 1#1 := congrFun h2 i
    rw [Window.ofBool_one, Window.inf_word] at e
    exact of_decide_eq_true e

/-- The reference's frame: its run leaves the arguments, and it declares no semaphore. -/
theorem frame_reference : Cert.quiescent_Reference5Ideal := fun m g _ =>
  (θ_run (Cert.Reference5Ideal.defs (F := Ideal)) _ _).mono (fun r h => ⟨fun c => (h c).2, sem_eq_zero_of_no_sems (by decide) r.2⟩)
    (Cert.Reference5Ideal.Value.run m g)

/-- The two results agree, when the precondition holds. -/
theorem algebraic : Cert.algebraic_Kernel5Ideal_Reference5Ideal_pre_real_modulation := by
  intro m g m' g' h hargs
  refine ⟨fun c => (dats m 0 c).arrAt 3 cfg0.N, ?_, ?_⟩
  · run_from Cert.Kernel5Ideal.Value.run_blocks m g
  · refine (θ_run (Cert.Reference5Ideal.defs (F := Ideal)) _ _).mono (fun r k c => ⟨(k c).1.trans ?_, (k c).2⟩) (Cert.Reference5Ideal.Value.run m' g')
    obtain ⟨hC, hW⟩ := real_of_pre m c h
    refine Eq.trans ?_ (final m c hC hW).symm
    rw [Cert.Reference5Ideal.Read.val_main_v7_eq]
    obtain ⟨e0, e1, e2⟩ := hargs c
    rw [e0, e1, e2]
    exact reference_at _ _ _

end Cert.Kernel5Ideal.Ada

end
-- ==== Proof.lean ====
module

public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_plan_in_range
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Swa.RefValue
public import proofs.«01_k».proof.Proof.Swa.Final
public import proofs.«01_k».proof.Proof.Swa.Finite
public import proofs.«01_k».proof.Proof.Experts.Frames
public import proofs.«01_k».proof.Proof.Experts.Equal
public import proofs.«01_k».proof.Proof.Latent.Equal
public import proofs.«01_k».proof.Proof.Ada.Equal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two results agree, when the precondition holds. -/
theorem swa_equal (m : (ℓ : Loc Cert.KernelIdeal.nD Cert.KernelIdeal.τ Cert.KernelIdeal.sig) → Buf (Elt Ideal) ℓ) (h : Cert.Pre_KernelIdeal_finite_scores m)
    (c : Dev Cert.KernelIdeal.nD) :
    (Cert.KernelIdeal.Gen.dats m 0 c).arrAt 9 Cert.KernelIdeal.cfg0.N
      = Cert.ReferenceIdeal.Read.val_main_v89 (F := Ideal) (Cert.KernelIdeal.Swa.Q m c) (Cert.KernelIdeal.Swa.K m c) (Cert.KernelIdeal.Swa.V' m c) (Cert.KernelIdeal.Swa.S' m c) (Cert.KernelIdeal.Swa.G' m c) := by
  obtain ⟨hQ, hK, ht⟩ := Window.finite_of _ _ _ _ _ (h c)
  rw [Cert.KernelIdeal.Swa.final m c hQ hK ht]
  funext i
  obtain ⟨b, p, l, rfl⟩ : ∃ (b : Fin 4) (p : Fin 4096) (l : Fin 512), i = ix3 b p l := ⟨i 0, i 1, i 2, by funext a; match a with | ⟨0, _⟩ => rfl | ⟨1, _⟩ => rfl | ⟨2, _⟩ => rfl⟩
  exact (Cert.ReferenceIdeal.Swa.result_eq _ _ _ _ _ hQ hK ht b p l).symm

/-- The reference's frame: its run leaves the arguments, and it declares no semaphore. -/
theorem reference_frame : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run m g)

/-- The expert reference's frame, likewise. -/
theorem experts_reference_frame : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Value.run m g)

/-- On the rows in use the expert kernel's result is the reference's. -/
theorem experts_algebraic : Cert.algebraic_Kernel2Ideal_Reference2Ideal_on_rows_in_use := by
  intro m g m' g' h hargs
  have hp := Cert.Kernel2Ideal.Experts.plan_of_pre m h
  let a : (Cert.Kernel2Ideal.pcfg0 (F := Ideal)).Adm := ⟨Cert.Kernel2Ideal.Experts.tables m, Cert.Kernel2Ideal.Experts.ok_of_plan hp⟩
  have hr : Cert.Kernel2Ideal.Experts.RunsAt m a := Cert.Kernel2Ideal.Experts.runsAt m hp
  refine ⟨fun c => (Cert.Kernel2Ideal.Experts.dats m a 0 c).arrAt (4 : Fin 5) (Cert.Kernel2Ideal.cfg0 a).N, ?_, ?_⟩
  · exact (θ_run (Cert.Kernel2Ideal.defs (F := Ideal)) _ _).mono (fun r k c => ⟨fun i _ => congrFun (k.1 c).1 i, (k.1 c).2⟩)
      (Cert.Kernel2Ideal.Experts.run_args m g a hp hr)
  · refine (θ_run (Cert.Reference2Ideal.defs (F := Ideal)) _ _).mono (fun r k c => ⟨fun i hi => ?_, (k c).2⟩) (Cert.Reference2Ideal.Value.run m' g')
    refine (congrFun (k c).1 i).trans ?_
    obtain ⟨p, d, rfl⟩ : ∃ (p : Fin 40704) (d : Fin 1024), i = ix2 p d := ⟨i 0, i 1, by funext a; match a with | ⟨0, _⟩ => rfl | ⟨1, _⟩ => rfl⟩
    have hn : (m ((c.tc : Thread Cert.Kernel2Ideal.nD Cert.Kernel2Ideal.τ).loc Cert.Kernel2Ideal.main_arg1) : IVec Cert.On_rows_in_use.S1 32)
        = Cert.Kernel2Ideal.Experts.tables m 1 := hr c 1
    have hu := Cert.Kernel2Ideal.Experts.row_in_use _ _ (by rw [hn]; exact hp.nt_le) _ _ _ _ p d hi
    rw [hn] at hu
    refine Eq.trans ?_ (Cert.Kernel2Ideal.Experts.equal m a c hp (hr c 0) p d hu).symm
    rw [Cert.Reference2Ideal.Read.val_main_v10_eq]
    obtain ⟨e0, e1, e2, e3, e4, e5⟩ := hargs c
    rw [e0, e2, e3, e4, e5]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Window.facts, Cert.Pre_plan_in_range.Gen.facts, Cert.Kernel3Ideal.Latent.pre_facts, Cert.Kernel5Ideal.Ada.pre_facts, Cert.Kernel2Ideal.Experts.mask_facts,
  fun m ρ _ => Cert.Kernel.Gen.frame m ρ,
  fun m ρ _ => Cert.KernelIdeal.Gen.frame m ρ,
  fun m ρ _ => Cert.KernelIdeal.Gen.frame m ρ,
  reference_frame,
  fun m g _ => reference_frame m g trivial,
  Cert.Kernel2Ideal.Experts.frame_kernel,
  Cert.Kernel2Ideal.Experts.frame_ideal,
  experts_reference_frame,
  fun m g _ => experts_reference_frame m g trivial,
  Cert.Kernel3Ideal.Latent.frame_kernel,
  Cert.Kernel3Ideal.Latent.frame_ideal,
  fun m g _ => Cert.Kernel3Ideal.Latent.frame_ideal m g trivial,
  Cert.Kernel3Ideal.Latent.frame_reference,
  fun m g _ => Cert.Kernel3Ideal.Latent.frame_reference m g trivial,
  fun m g _ => Cert.Kernel5.Gen.frame m g,
  fun m g _ => Cert.Kernel5Ideal.Gen.frame m g,
  fun m g _ => Cert.Kernel5Ideal.Gen.frame m g,
  Cert.Kernel5Ideal.Ada.frame_reference,
  fun m g _ => Cert.Kernel5Ideal.Ada.frame_reference m g trivial,
  IdealRules.named_const.statement Cert.KernelIdeal.κ "mask" .f32 0xF149F2CA#32 ⊥ rfl,
  by
    intro m g m' g' h hargs
    refine ⟨fun c => (Cert.KernelIdeal.Gen.dats m 0 c).arrAt 9 Cert.KernelIdeal.cfg0.N, ?_, ?_⟩
    · run_from Cert.KernelIdeal.Value.run_blocks m g
    · refine (θ_run _ _ _).mono (fun r hr c => ?_) (Cert.ReferenceIdeal.Value.run m' g')
      refine ⟨(hr c).1.trans ?_, (hr c).2⟩
      refine Eq.trans ?_ (swa_equal m h c).symm
      rw [Cert.ReferenceIdeal.Read.val_main_v89_eq]
      obtain ⟨e0, e1, e2, e3, e4⟩ := hargs c
      rw [e0, e1, e2, e3, e4],
  trivial,
  experts_algebraic,
  trivial,
  Cert.Kernel3Ideal.Latent.algebraic,
  trivial,
  Cert.Kernel5Ideal.Ada.algebraic⟩

end Cert.Proof

end
